-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_slabs [hPre_slabs : Cert.Pre_slabs.Facts] (m : (ℓ : Loc Cert.AttnIdeal.nD Cert.AttnIdeal.τ Cert.AttnIdeal.sig) → Buf (Elt Ideal) ℓ) : Prop :=
  ∀ c : Dev Cert.AttnIdeal.nD,
    (Cert.Pre_slabs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_slabs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_slabs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2.1 = (fun _ => 1#1)
    ∧ (Cert.Pre_slabs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2.2.1 = (fun _ => 1#1)
    ∧ (Cert.Pre_slabs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2.2.2 = (fun _ => 1#1)

def Pre_FoxIdeal (m : (ℓ : Loc Cert.FoxIdeal.nD Cert.FoxIdeal.τ Cert.FoxIdeal.sig) → Buf (Elt Ideal) ℓ) : Prop :=
  True

def Pre_FoxIdeal_slabs [hPre_slabs : Cert.Pre_slabs.Facts] (m : (ℓ : Loc Cert.FoxIdeal.nD Cert.FoxIdeal.τ Cert.FoxIdeal.sig) → Buf (Elt Ideal) ℓ) : Prop :=
  ∀ c : Dev Cert.FoxIdeal.nD,
    (Cert.Pre_slabs.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).1 = (fun _ => 1#1)
    ∧ (Cert.Pre_slabs.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.1 = (fun _ => 1#1)
    ∧ (Cert.Pre_slabs.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.2.1 = (fun _ => 1#1)
    ∧ (Cert.Pre_slabs.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.2.2.1 = (fun _ => 1#1)
    ∧ (Cert.Pre_slabs.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_LayerZero (m : (ℓ : Loc Cert.LayerZero.nD Cert.LayerZero.τ Cert.LayerZero.sig) → Buf (Elt Bits) ℓ) : Prop :=
  True

def Pre_LayerZeroIdeal (m : (ℓ : Loc Cert.LayerZeroIdeal.nD Cert.LayerZeroIdeal.τ Cert.LayerZeroIdeal.sig) → Buf (Elt Ideal) ℓ) : Prop :=
  True

def Pre_LayerZeroRefIdeal (m : (ℓ : Loc Cert.LayerZeroRefIdeal.nD Cert.LayerZeroRefIdeal.τ Cert.LayerZeroRefIdeal.sig) → Buf (Elt Ideal) ℓ) : Prop :=
  True

def Pre_Kvq (m : (ℓ : Loc Cert.Kvq.nD Cert.Kvq.τ Cert.Kvq.sig) → Buf (Elt Bits) ℓ) : Prop :=
  True

def Pre_KvqIdeal (m : (ℓ : Loc Cert.KvqIdeal.nD Cert.KvqIdeal.τ Cert.KvqIdeal.sig) → Buf (Elt Ideal) ℓ) : Prop :=
  True

def Pre_KvqRefIdeal (m : (ℓ : Loc Cert.KvqRefIdeal.nD Cert.KvqRefIdeal.τ Cert.KvqRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_slabs [hAttnIdeal : Cert.AttnIdeal.Facts] [hPre_slabs : Cert.Pre_slabs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_slabs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_slabs [hFoxIdeal : Cert.FoxIdeal.Facts] [hPre_slabs : Cert.Pre_slabs.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_slabs m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_LayerZero [hLayerZero : Cert.LayerZero.Facts] : Prop :=
  ∀ (m : (ℓ : Loc Cert.LayerZero.nD Cert.LayerZero.τ Cert.LayerZero.sig) → Buf (Elt Bits) ℓ) (g : Dev Cert.LayerZero.nD → PrngReg), Pre_LayerZero m →
    θ_run (Cert.LayerZero.defs (F := Bits)) (onTc (τ := Cert.LayerZero.τ) (Cert.LayerZero.main (F := Bits))) ⟨m, fun _ => 0, g⟩ (fun r => (∀ c : Dev Cert.LayerZero.nD,
      r.2.mem ((c.tc : Thread Cert.LayerZero.nD Cert.LayerZero.τ).loc Cert.LayerZero.main_arg0) = m ((c.tc : Thread Cert.LayerZero.nD Cert.LayerZero.τ).loc Cert.LayerZero.main_arg0)
      ∧ r.2.mem ((c.tc : Thread Cert.LayerZero.nD Cert.LayerZero.τ).loc Cert.LayerZero.main_arg1) = m ((c.tc : Thread Cert.LayerZero.nD Cert.LayerZero.τ).loc Cert.LayerZero.main_arg1)
      ∧ r.2.mem ((c.tc : Thread Cert.LayerZero.nD Cert.LayerZero.τ).loc Cert.LayerZero.main_arg2) = m ((c.tc : Thread Cert.LayerZero.nD Cert.LayerZero.τ).loc Cert.LayerZero.main_arg2)
      ∧ r.2.mem ((c.tc : Thread Cert.LayerZero.nD Cert.LayerZero.τ).loc Cert.LayerZero.main_arg3) = m ((c.tc : Thread Cert.LayerZero.nD Cert.LayerZero.τ).loc Cert.LayerZero.main_arg3)
      ∧ r.2.mem ((c.tc : Thread Cert.LayerZero.nD Cert.LayerZero.τ).loc Cert.LayerZero.main_arg4) = m ((c.tc : Thread Cert.LayerZero.nD Cert.LayerZero.τ).loc Cert.LayerZero.main_arg4)
      ∧ r.2.mem ((c.tc : Thread Cert.LayerZero.nD Cert.LayerZero.τ).loc Cert.LayerZero.main_arg5) = m ((c.tc : Thread Cert.LayerZero.nD Cert.LayerZero.τ).loc Cert.LayerZero.main_arg5)
      ∧ r.2.mem ((c.tc : Thread Cert.LayerZero.nD Cert.LayerZero.τ).loc Cert.LayerZero.main_arg6) = m ((c.tc : Thread Cert.LayerZero.nD Cert.LayerZero.τ).loc Cert.LayerZero.main_arg6)
      ∧ r.2.mem ((c.tc : Thread Cert.LayerZero.nD Cert.LayerZero.τ).loc Cert.LayerZero.main_arg7) = m ((c.tc : Thread Cert.LayerZero.nD Cert.LayerZero.τ).loc Cert.LayerZero.main_arg7))
      ∧ r.2.sem = fun _ => 0)

def quiescent_LayerZeroIdeal [hLayerZeroIdeal : Cert.LayerZeroIdeal.Facts] : Prop :=
  ∀ (m : (ℓ : Loc Cert.LayerZeroIdeal.nD Cert.LayerZeroIdeal.τ Cert.LayerZeroIdeal.sig) → Buf (Elt Ideal) ℓ) (g : Dev Cert.LayerZeroIdeal.nD → PrngReg), Pre_LayerZeroIdeal m →
    θ_run (Cert.LayerZeroIdeal.defs (F := Ideal)) (onTc (τ := Cert.LayerZeroIdeal.τ) (Cert.LayerZeroIdeal.main (F := Ideal))) ⟨m, fun _ => 0, g⟩ (fun r => (∀ c : Dev Cert.LayerZeroIdeal.nD,
      r.2.mem ((c.tc : Thread Cert.LayerZeroIdeal.nD Cert.LayerZeroIdeal.τ).loc Cert.LayerZeroIdeal.main_arg0) = m ((c.tc : Thread Cert.LayerZeroIdeal.nD Cert.LayerZeroIdeal.τ).loc Cert.LayerZeroIdeal.main_arg0)
      ∧ r.2.mem ((c.tc : Thread Cert.LayerZeroIdeal.nD Cert.LayerZeroIdeal.τ).loc Cert.LayerZeroIdeal.main_arg1) = m ((c.tc : Thread Cert.LayerZeroIdeal.nD Cert.LayerZeroIdeal.τ).loc Cert.LayerZeroIdeal.main_arg1)
      ∧ r.2.mem ((c.tc : Thread Cert.LayerZeroIdeal.nD Cert.LayerZeroIdeal.τ).loc Cert.LayerZeroIdeal.main_arg2) = m ((c.tc : Thread Cert.LayerZeroIdeal.nD Cert.LayerZeroIdeal.τ).loc Cert.LayerZeroIdeal.main_arg2)
      ∧ r.2.mem ((c.tc : Thread Cert.LayerZeroIdeal.nD Cert.LayerZeroIdeal.τ).loc Cert.LayerZeroIdeal.main_arg3) = m ((c.tc : Thread Cert.LayerZeroIdeal.nD Cert.LayerZeroIdeal.τ).loc Cert.LayerZeroIdeal.main_arg3)
      ∧ r.2.mem ((c.tc : Thread Cert.LayerZeroIdeal.nD Cert.LayerZeroIdeal.τ).loc Cert.LayerZeroIdeal.main_arg4) = m ((c.tc : Thread Cert.LayerZeroIdeal.nD Cert.LayerZeroIdeal.τ).loc Cert.LayerZeroIdeal.main_arg4)
      ∧ r.2.mem ((c.tc : Thread Cert.LayerZeroIdeal.nD Cert.LayerZeroIdeal.τ).loc Cert.LayerZeroIdeal.main_arg5) = m ((c.tc : Thread Cert.LayerZeroIdeal.nD Cert.LayerZeroIdeal.τ).loc Cert.LayerZeroIdeal.main_arg5)
      ∧ r.2.mem ((c.tc : Thread Cert.LayerZeroIdeal.nD Cert.LayerZeroIdeal.τ).loc Cert.LayerZeroIdeal.main_arg6) = m ((c.tc : Thread Cert.LayerZeroIdeal.nD Cert.LayerZeroIdeal.τ).loc Cert.LayerZeroIdeal.main_arg6)
      ∧ r.2.mem ((c.tc : Thread Cert.LayerZeroIdeal.nD Cert.LayerZeroIdeal.τ).loc Cert.LayerZeroIdeal.main_arg7) = m ((c.tc : Thread Cert.LayerZeroIdeal.nD Cert.LayerZeroIdeal.τ).loc Cert.LayerZeroIdeal.main_arg7))
      ∧ r.2.sem = fun _ => 0)

def quiescent_LayerZeroRefIdeal [hLayerZeroRefIdeal : Cert.LayerZeroRefIdeal.Facts] : Prop :=
  ∀ (m : (ℓ : Loc Cert.LayerZeroRefIdeal.nD Cert.LayerZeroRefIdeal.τ Cert.LayerZeroRefIdeal.sig) → Buf (Elt Ideal) ℓ) (g : Dev Cert.LayerZeroRefIdeal.nD → PrngReg), Pre_LayerZeroRefIdeal m →
    θ_run (Cert.LayerZeroRefIdeal.defs (F := Ideal)) (onTc (τ := Cert.LayerZeroRefIdeal.τ) (Cert.LayerZeroRefIdeal.main (F := Ideal))) ⟨m, fun _ => 0, g⟩ (fun r => (∀ c : Dev Cert.LayerZeroRefIdeal.nD,
      r.2.mem ((c.tc : Thread Cert.LayerZeroRefIdeal.nD Cert.LayerZeroRefIdeal.τ).loc Cert.LayerZeroRefIdeal.main_arg0) = m ((c.tc : Thread Cert.LayerZeroRefIdeal.nD Cert.LayerZeroRefIdeal.τ).loc Cert.LayerZeroRefIdeal.main_arg0)
      ∧ r.2.mem ((c.tc : Thread Cert.LayerZeroRefIdeal.nD Cert.LayerZeroRefIdeal.τ).loc Cert.LayerZeroRefIdeal.main_arg1) = m ((c.tc : Thread Cert.LayerZeroRefIdeal.nD Cert.LayerZeroRefIdeal.τ).loc Cert.LayerZeroRefIdeal.main_arg1)
      ∧ r.2.mem ((c.tc : Thread Cert.LayerZeroRefIdeal.nD Cert.LayerZeroRefIdeal.τ).loc Cert.LayerZeroRefIdeal.main_arg2) = m ((c.tc : Thread Cert.LayerZeroRefIdeal.nD Cert.LayerZeroRefIdeal.τ).loc Cert.LayerZeroRefIdeal.main_arg2)
      ∧ r.2.mem ((c.tc : Thread Cert.LayerZeroRefIdeal.nD Cert.LayerZeroRefIdeal.τ).loc Cert.LayerZeroRefIdeal.main_arg3) = m ((c.tc : Thread Cert.LayerZeroRefIdeal.nD Cert.LayerZeroRefIdeal.τ).loc Cert.LayerZeroRefIdeal.main_arg3)
      ∧ r.2.mem ((c.tc : Thread Cert.LayerZeroRefIdeal.nD Cert.LayerZeroRefIdeal.τ).loc Cert.LayerZeroRefIdeal.main_arg4) = m ((c.tc : Thread Cert.LayerZeroRefIdeal.nD Cert.LayerZeroRefIdeal.τ).loc Cert.LayerZeroRefIdeal.main_arg4)
      ∧ r.2.mem ((c.tc : Thread Cert.LayerZeroRefIdeal.nD Cert.LayerZeroRefIdeal.τ).loc Cert.LayerZeroRefIdeal.main_arg5) = m ((c.tc : Thread Cert.LayerZeroRefIdeal.nD Cert.LayerZeroRefIdeal.τ).loc Cert.LayerZeroRefIdeal.main_arg5)
      ∧ r.2.mem ((c.tc : Thread Cert.LayerZeroRefIdeal.nD Cert.LayerZeroRefIdeal.τ).loc Cert.LayerZeroRefIdeal.main_arg6) = m ((c.tc : Thread Cert.LayerZeroRefIdeal.nD Cert.LayerZeroRefIdeal.τ).loc Cert.LayerZeroRefIdeal.main_arg6)
      ∧ r.2.mem ((c.tc : Thread Cert.LayerZeroRefIdeal.nD Cert.LayerZeroRefIdeal.τ).loc Cert.LayerZeroRefIdeal.main_arg7) = m ((c.tc : Thread Cert.LayerZeroRefIdeal.nD Cert.LayerZeroRefIdeal.τ).loc Cert.LayerZeroRefIdeal.main_arg7))
      ∧ r.2.sem = fun _ => 0)

def quiescent_Kvq [hKvq : Cert.Kvq.Facts] : Prop :=
  ∀ (m : (ℓ : Loc Cert.Kvq.nD Cert.Kvq.τ Cert.Kvq.sig) → Buf (Elt Bits) ℓ) (g : Dev Cert.Kvq.nD → PrngReg), Pre_Kvq m →
    θ_run (Cert.Kvq.defs (F := Bits)) (onTc (τ := Cert.Kvq.τ) (Cert.Kvq.main (F := Bits))) ⟨m, fun _ => 0, g⟩ (fun r => (∀ c : Dev Cert.Kvq.nD,
      r.2.mem ((c.tc : Thread Cert.Kvq.nD Cert.Kvq.τ).loc Cert.Kvq.main_arg0) = m ((c.tc : Thread Cert.Kvq.nD Cert.Kvq.τ).loc Cert.Kvq.main_arg0)
      ∧ r.2.mem ((c.tc : Thread Cert.Kvq.nD Cert.Kvq.τ).loc Cert.Kvq.main_arg1) = m ((c.tc : Thread Cert.Kvq.nD Cert.Kvq.τ).loc Cert.Kvq.main_arg1)
      ∧ r.2.mem ((c.tc : Thread Cert.Kvq.nD Cert.Kvq.τ).loc Cert.Kvq.main_arg2) = m ((c.tc : Thread Cert.Kvq.nD Cert.Kvq.τ).loc Cert.Kvq.main_arg2)
      ∧ r.2.mem ((c.tc : Thread Cert.Kvq.nD Cert.Kvq.τ).loc Cert.Kvq.main_arg3) = m ((c.tc : Thread Cert.Kvq.nD Cert.Kvq.τ).loc Cert.Kvq.main_arg3)
      ∧ r.2.mem ((c.tc : Thread Cert.Kvq.nD Cert.Kvq.τ).loc Cert.Kvq.main_arg4) = m ((c.tc : Thread Cert.Kvq.nD Cert.Kvq.τ).loc Cert.Kvq.main_arg4)
      ∧ r.2.mem ((c.tc : Thread Cert.Kvq.nD Cert.Kvq.τ).loc Cert.Kvq.main_arg5) = m ((c.tc : Thread Cert.Kvq.nD Cert.Kvq.τ).loc Cert.Kvq.main_arg5)
      ∧ r.2.mem ((c.tc : Thread Cert.Kvq.nD Cert.Kvq.τ).loc Cert.Kvq.main_arg6) = m ((c.tc : Thread Cert.Kvq.nD Cert.Kvq.τ).loc Cert.Kvq.main_arg6)
      ∧ r.2.mem ((c.tc : Thread Cert.Kvq.nD Cert.Kvq.τ).loc Cert.Kvq.main_arg7) = m ((c.tc : Thread Cert.Kvq.nD Cert.Kvq.τ).loc Cert.Kvq.main_arg7))
      ∧ r.2.sem = fun _ => 0)

def quiescent_KvqIdeal [hKvqIdeal : Cert.KvqIdeal.Facts] : Prop :=
  ∀ (m : (ℓ : Loc Cert.KvqIdeal.nD Cert.KvqIdeal.τ Cert.KvqIdeal.sig) → Buf (Elt Ideal) ℓ) (g : Dev Cert.KvqIdeal.nD → PrngReg), Pre_KvqIdeal m →
    θ_run (Cert.KvqIdeal.defs (F := Ideal)) (onTc (τ := Cert.KvqIdeal.τ) (Cert.KvqIdeal.main (F := Ideal))) ⟨m, fun _ => 0, g⟩ (fun r => (∀ c : Dev Cert.KvqIdeal.nD,
      r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
      ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
      ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
      ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
      ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
      ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
      ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6)
      ∧ r.2.mem ((c.tc : Thread Cert.KvqIdeal.nD Cert.KvqIdeal.τ).loc Cert.KvqIdeal.main_arg7) = m ((c.tc : Thread Cert.KvqIdeal.nD Cert.KvqIdeal.τ).loc Cert.KvqIdeal.main_arg7))
      ∧ r.2.sem = fun _ => 0)

def quiescent_KvqRefIdeal [hKvqRefIdeal : Cert.KvqRefIdeal.Facts] : Prop :=
  ∀ (m : (ℓ : Loc Cert.KvqRefIdeal.nD Cert.KvqRefIdeal.τ Cert.KvqRefIdeal.sig) → Buf (Elt Ideal) ℓ) (g : Dev Cert.KvqRefIdeal.nD → PrngReg), Pre_KvqRefIdeal m →
    θ_run (Cert.KvqRefIdeal.defs (F := Ideal)) (onTc (τ := Cert.KvqRefIdeal.τ) (Cert.KvqRefIdeal.main (F := Ideal))) ⟨m, fun _ => 0, g⟩ (fun r => (∀ c : Dev Cert.KvqRefIdeal.nD,
      r.2.mem ((c.tc : Thread Cert.KvqRefIdeal.nD Cert.KvqRefIdeal.τ).loc Cert.KvqRefIdeal.main_arg0) = m ((c.tc : Thread Cert.KvqRefIdeal.nD Cert.KvqRefIdeal.τ).loc Cert.KvqRefIdeal.main_arg0)
      ∧ r.2.mem ((c.tc : Thread Cert.KvqRefIdeal.nD Cert.KvqRefIdeal.τ).loc Cert.KvqRefIdeal.main_arg1) = m ((c.tc : Thread Cert.KvqRefIdeal.nD Cert.KvqRefIdeal.τ).loc Cert.KvqRefIdeal.main_arg1)
      ∧ r.2.mem ((c.tc : Thread Cert.KvqRefIdeal.nD Cert.KvqRefIdeal.τ).loc Cert.KvqRefIdeal.main_arg2) = m ((c.tc : Thread Cert.KvqRefIdeal.nD Cert.KvqRefIdeal.τ).loc Cert.KvqRefIdeal.main_arg2)
      ∧ r.2.mem ((c.tc : Thread Cert.KvqRefIdeal.nD Cert.KvqRefIdeal.τ).loc Cert.KvqRefIdeal.main_arg3) = m ((c.tc : Thread Cert.KvqRefIdeal.nD Cert.KvqRefIdeal.τ).loc Cert.KvqRefIdeal.main_arg3)
      ∧ r.2.mem ((c.tc : Thread Cert.KvqRefIdeal.nD Cert.KvqRefIdeal.τ).loc Cert.KvqRefIdeal.main_arg4) = m ((c.tc : Thread Cert.KvqRefIdeal.nD Cert.KvqRefIdeal.τ).loc Cert.KvqRefIdeal.main_arg4)
      ∧ r.2.mem ((c.tc : Thread Cert.KvqRefIdeal.nD Cert.KvqRefIdeal.τ).loc Cert.KvqRefIdeal.main_arg5) = m ((c.tc : Thread Cert.KvqRefIdeal.nD Cert.KvqRefIdeal.τ).loc Cert.KvqRefIdeal.main_arg5)
      ∧ r.2.mem ((c.tc : Thread Cert.KvqRefIdeal.nD Cert.KvqRefIdeal.τ).loc Cert.KvqRefIdeal.main_arg6) = m ((c.tc : Thread Cert.KvqRefIdeal.nD Cert.KvqRefIdeal.τ).loc Cert.KvqRefIdeal.main_arg6)
      ∧ r.2.mem ((c.tc : Thread Cert.KvqRefIdeal.nD Cert.KvqRefIdeal.τ).loc Cert.KvqRefIdeal.main_arg7) = m ((c.tc : Thread Cert.KvqRefIdeal.nD Cert.KvqRefIdeal.τ).loc Cert.KvqRefIdeal.main_arg7))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11)
      ∧ r.2.mem ((c.tc : Thread Cert.SampleRefIdeal.nD Cert.SampleRefIdeal.τ).loc Cert.SampleRefIdeal.main_arg12) = m ((c.tc : Thread Cert.SampleRefIdeal.nD Cert.SampleRefIdeal.τ).loc Cert.SampleRefIdeal.main_arg12)
      ∧ r.2.mem ((c.tc : Thread Cert.SampleRefIdeal.nD Cert.SampleRefIdeal.τ).loc Cert.SampleRefIdeal.main_arg13) = m ((c.tc : Thread Cert.SampleRefIdeal.nD Cert.SampleRefIdeal.τ).loc Cert.SampleRefIdeal.main_arg13)
      ∧ r.2.mem ((c.tc : Thread Cert.SampleRefIdeal.nD Cert.SampleRefIdeal.τ).loc Cert.SampleRefIdeal.main_arg14) = m ((c.tc : Thread Cert.SampleRefIdeal.nD Cert.SampleRefIdeal.τ).loc Cert.SampleRefIdeal.main_arg14)
      ∧ r.2.mem ((c.tc : Thread Cert.SampleRefIdeal.nD Cert.SampleRefIdeal.τ).loc Cert.SampleRefIdeal.main_arg15) = m ((c.tc : Thread Cert.SampleRefIdeal.nD Cert.SampleRefIdeal.τ).loc Cert.SampleRefIdeal.main_arg15))
      ∧ r.2.sem = fun _ => 0)

def preserves_Attn_AttnIdeal : Prop :=
  IdealRules.named_const.Statement Cert.AttnIdeal.κ "mask" .f32 0xF149F2CA#32 ⊥

def algebraic_AttnIdeal_FoxIdeal_pre_slabs [hAttnIdeal : Cert.AttnIdeal.Facts] [hFoxIdeal : Cert.FoxIdeal.Facts] [hPre_slabs : Cert.Pre_slabs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.FoxIdeal.nD Cert.FoxIdeal.τ Cert.FoxIdeal.sig) → Buf (Elt Ideal) ℓ) (g' : Dev Cert.FoxIdeal.nD → PrngReg), Pre_AttnIdeal_slabs m →
    (∀ c : Dev Cert.AttnIdeal.nD,
      m' ((c.tc : Thread Cert.FoxIdeal.nD Cert.FoxIdeal.τ).loc Cert.FoxIdeal.main_arg0) = m ((c.tc : Thread Cert.AttnIdeal.nD Cert.AttnIdeal.τ).loc Cert.AttnIdeal.main_arg0)
      ∧ m' ((c.tc : Thread Cert.FoxIdeal.nD Cert.FoxIdeal.τ).loc Cert.FoxIdeal.main_arg1) = m ((c.tc : Thread Cert.AttnIdeal.nD Cert.AttnIdeal.τ).loc Cert.AttnIdeal.main_arg1)
      ∧ m' ((c.tc : Thread Cert.FoxIdeal.nD Cert.FoxIdeal.τ).loc Cert.FoxIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.FoxIdeal.defs (F := Ideal)) (onTc (τ := Cert.FoxIdeal.τ) (Cert.FoxIdeal.main (F := Ideal))) ⟨m', fun _ => 0, g'⟩ (fun r => ∀ c : Dev Cert.FoxIdeal.nD,
          r.2.mem ((c.tc : Thread Cert.FoxIdeal.nD Cert.FoxIdeal.τ).loc Cert.FoxIdeal.main_v43) = v0 c
          ∧ r.2.mem ((c.tc : Thread Cert.FoxIdeal.nD Cert.FoxIdeal.τ).loc Cert.FoxIdeal.main_arg0) = m' ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m' ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m' ((c.tc : Thread Cert.FoxIdeal.nD Cert.FoxIdeal.τ).loc Cert.FoxIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v40) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_LayerZero_LayerZeroIdeal : Prop :=
  True

def algebraic_LayerZeroIdeal_LayerZeroRefIdeal [hLayerZeroIdeal : Cert.LayerZeroIdeal.Facts] [hLayerZeroRefIdeal : Cert.LayerZeroRefIdeal.Facts] : Prop :=
  ∀ (m : (ℓ : Loc Cert.LayerZeroIdeal.nD Cert.LayerZeroIdeal.τ Cert.LayerZeroIdeal.sig) → Buf (Elt Ideal) ℓ) (g : Dev Cert.LayerZeroIdeal.nD → PrngReg)
    (m' : (ℓ : Loc Cert.LayerZeroRefIdeal.nD Cert.LayerZeroRefIdeal.τ Cert.LayerZeroRefIdeal.sig) → Buf (Elt Ideal) ℓ) (g' : Dev Cert.LayerZeroRefIdeal.nD → PrngReg), Pre_LayerZeroIdeal m →
    (∀ c : Dev Cert.LayerZeroIdeal.nD,
      m' ((c.tc : Thread Cert.LayerZeroRefIdeal.nD Cert.LayerZeroRefIdeal.τ).loc Cert.LayerZeroRefIdeal.main_arg0) = m ((c.tc : Thread Cert.LayerZeroIdeal.nD Cert.LayerZeroIdeal.τ).loc Cert.LayerZeroIdeal.main_arg0)
      ∧ m' ((c.tc : Thread Cert.LayerZeroRefIdeal.nD Cert.LayerZeroRefIdeal.τ).loc Cert.LayerZeroRefIdeal.main_arg1) = m ((c.tc : Thread Cert.LayerZeroIdeal.nD Cert.LayerZeroIdeal.τ).loc Cert.LayerZeroIdeal.main_arg1)
      ∧ m' ((c.tc : Thread Cert.LayerZeroRefIdeal.nD Cert.LayerZeroRefIdeal.τ).loc Cert.LayerZeroRefIdeal.main_arg2) = m ((c.tc : Thread Cert.LayerZeroIdeal.nD Cert.LayerZeroIdeal.τ).loc Cert.LayerZeroIdeal.main_arg2)
      ∧ m' ((c.tc : Thread Cert.LayerZeroRefIdeal.nD Cert.LayerZeroRefIdeal.τ).loc Cert.LayerZeroRefIdeal.main_arg3) = m ((c.tc : Thread Cert.LayerZeroIdeal.nD Cert.LayerZeroIdeal.τ).loc Cert.LayerZeroIdeal.main_arg3)
      ∧ m' ((c.tc : Thread Cert.LayerZeroRefIdeal.nD Cert.LayerZeroRefIdeal.τ).loc Cert.LayerZeroRefIdeal.main_arg4) = m ((c.tc : Thread Cert.LayerZeroIdeal.nD Cert.LayerZeroIdeal.τ).loc Cert.LayerZeroIdeal.main_arg4)
      ∧ m' ((c.tc : Thread Cert.LayerZeroRefIdeal.nD Cert.LayerZeroRefIdeal.τ).loc Cert.LayerZeroRefIdeal.main_arg5) = m ((c.tc : Thread Cert.LayerZeroIdeal.nD Cert.LayerZeroIdeal.τ).loc Cert.LayerZeroIdeal.main_arg5)
      ∧ m' ((c.tc : Thread Cert.LayerZeroRefIdeal.nD Cert.LayerZeroRefIdeal.τ).loc Cert.LayerZeroRefIdeal.main_arg6) = m ((c.tc : Thread Cert.LayerZeroIdeal.nD Cert.LayerZeroIdeal.τ).loc Cert.LayerZeroIdeal.main_arg6)
      ∧ m' ((c.tc : Thread Cert.LayerZeroRefIdeal.nD Cert.LayerZeroRefIdeal.τ).loc Cert.LayerZeroRefIdeal.main_arg7) = m ((c.tc : Thread Cert.LayerZeroIdeal.nD Cert.LayerZeroIdeal.τ).loc Cert.LayerZeroIdeal.main_arg7)) →
    ∃ (v0 : (c : Dev Cert.LayerZeroIdeal.nD) → Buf (Elt Ideal) ((c.tc : Thread Cert.LayerZeroIdeal.nD Cert.LayerZeroIdeal.τ).loc Cert.LayerZeroIdeal.main_v0_0)) (v1 : (c : Dev Cert.LayerZeroIdeal.nD) → Buf (Elt Ideal) ((c.tc : Thread Cert.LayerZeroIdeal.nD Cert.LayerZeroIdeal.τ).loc Cert.LayerZeroIdeal.main_v0_1)),
      θ_run (Cert.LayerZeroIdeal.defs (F := Ideal)) (onTc (τ := Cert.LayerZeroIdeal.τ) (Cert.LayerZeroIdeal.main (F := Ideal))) ⟨m, fun _ => 0, g⟩ (fun r => ∀ c : Dev Cert.LayerZeroIdeal.nD,
          r.2.mem ((c.tc : Thread Cert.LayerZeroIdeal.nD Cert.LayerZeroIdeal.τ).loc Cert.LayerZeroIdeal.main_v0_0) = v0 c
          ∧ r.2.mem ((c.tc : Thread Cert.LayerZeroIdeal.nD Cert.LayerZeroIdeal.τ).loc Cert.LayerZeroIdeal.main_v0_1) = v1 c
          ∧ r.2.mem ((c.tc : Thread Cert.LayerZeroIdeal.nD Cert.LayerZeroIdeal.τ).loc Cert.LayerZeroIdeal.main_arg0) = m ((c.tc : Thread Cert.LayerZeroIdeal.nD Cert.LayerZeroIdeal.τ).loc Cert.LayerZeroIdeal.main_arg0)
          ∧ r.2.mem ((c.tc : Thread Cert.LayerZeroIdeal.nD Cert.LayerZeroIdeal.τ).loc Cert.LayerZeroIdeal.main_arg1) = m ((c.tc : Thread Cert.LayerZeroIdeal.nD Cert.LayerZeroIdeal.τ).loc Cert.LayerZeroIdeal.main_arg1)
          ∧ r.2.mem ((c.tc : Thread Cert.LayerZeroIdeal.nD Cert.LayerZeroIdeal.τ).loc Cert.LayerZeroIdeal.main_arg2) = m ((c.tc : Thread Cert.LayerZeroIdeal.nD Cert.LayerZeroIdeal.τ).loc Cert.LayerZeroIdeal.main_arg2)
          ∧ r.2.mem ((c.tc : Thread Cert.LayerZeroIdeal.nD Cert.LayerZeroIdeal.τ).loc Cert.LayerZeroIdeal.main_arg3) = m ((c.tc : Thread Cert.LayerZeroIdeal.nD Cert.LayerZeroIdeal.τ).loc Cert.LayerZeroIdeal.main_arg3)
          ∧ r.2.mem ((c.tc : Thread Cert.LayerZeroIdeal.nD Cert.LayerZeroIdeal.τ).loc Cert.LayerZeroIdeal.main_arg4) = m ((c.tc : Thread Cert.LayerZeroIdeal.nD Cert.LayerZeroIdeal.τ).loc Cert.LayerZeroIdeal.main_arg4)
          ∧ r.2.mem ((c.tc : Thread Cert.LayerZeroIdeal.nD Cert.LayerZeroIdeal.τ).loc Cert.LayerZeroIdeal.main_arg5) = m ((c.tc : Thread Cert.LayerZeroIdeal.nD Cert.LayerZeroIdeal.τ).loc Cert.LayerZeroIdeal.main_arg5)
          ∧ r.2.mem ((c.tc : Thread Cert.LayerZeroIdeal.nD Cert.LayerZeroIdeal.τ).loc Cert.LayerZeroIdeal.main_arg6) = m ((c.tc : Thread Cert.LayerZeroIdeal.nD Cert.LayerZeroIdeal.τ).loc Cert.LayerZeroIdeal.main_arg6)
          ∧ r.2.mem ((c.tc : Thread Cert.LayerZeroIdeal.nD Cert.LayerZeroIdeal.τ).loc Cert.LayerZeroIdeal.main_arg7) = m ((c.tc : Thread Cert.LayerZeroIdeal.nD Cert.LayerZeroIdeal.τ).loc Cert.LayerZeroIdeal.main_arg7))
      ∧ θ_run (Cert.LayerZeroRefIdeal.defs (F := Ideal)) (onTc (τ := Cert.LayerZeroRefIdeal.τ) (Cert.LayerZeroRefIdeal.main (F := Ideal))) ⟨m', fun _ => 0, g'⟩ (fun r => ∀ c : Dev Cert.LayerZeroRefIdeal.nD,
          r.2.mem ((c.tc : Thread Cert.LayerZeroRefIdeal.nD Cert.LayerZeroRefIdeal.τ).loc Cert.LayerZeroRefIdeal.main_v176) = v0 c
          ∧ r.2.mem ((c.tc : Thread Cert.LayerZeroRefIdeal.nD Cert.LayerZeroRefIdeal.τ).loc Cert.LayerZeroRefIdeal.main_v178) = v1 c
          ∧ r.2.mem ((c.tc : Thread Cert.LayerZeroRefIdeal.nD Cert.LayerZeroRefIdeal.τ).loc Cert.LayerZeroRefIdeal.main_arg0) = m' ((c.tc : Thread Cert.LayerZeroRefIdeal.nD Cert.LayerZeroRefIdeal.τ).loc Cert.LayerZeroRefIdeal.main_arg0)
          ∧ r.2.mem ((c.tc : Thread Cert.LayerZeroRefIdeal.nD Cert.LayerZeroRefIdeal.τ).loc Cert.LayerZeroRefIdeal.main_arg1) = m' ((c.tc : Thread Cert.LayerZeroRefIdeal.nD Cert.LayerZeroRefIdeal.τ).loc Cert.LayerZeroRefIdeal.main_arg1)
          ∧ r.2.mem ((c.tc : Thread Cert.LayerZeroRefIdeal.nD Cert.LayerZeroRefIdeal.τ).loc Cert.LayerZeroRefIdeal.main_arg2) = m' ((c.tc : Thread Cert.LayerZeroRefIdeal.nD Cert.LayerZeroRefIdeal.τ).loc Cert.LayerZeroRefIdeal.main_arg2)
          ∧ r.2.mem ((c.tc : Thread Cert.LayerZeroRefIdeal.nD Cert.LayerZeroRefIdeal.τ).loc Cert.LayerZeroRefIdeal.main_arg3) = m' ((c.tc : Thread Cert.LayerZeroRefIdeal.nD Cert.LayerZeroRefIdeal.τ).loc Cert.LayerZeroRefIdeal.main_arg3)
          ∧ r.2.mem ((c.tc : Thread Cert.LayerZeroRefIdeal.nD Cert.LayerZeroRefIdeal.τ).loc Cert.LayerZeroRefIdeal.main_arg4) = m' ((c.tc : Thread Cert.LayerZeroRefIdeal.nD Cert.LayerZeroRefIdeal.τ).loc Cert.LayerZeroRefIdeal.main_arg4)
          ∧ r.2.mem ((c.tc : Thread Cert.LayerZeroRefIdeal.nD Cert.LayerZeroRefIdeal.τ).loc Cert.LayerZeroRefIdeal.main_arg5) = m' ((c.tc : Thread Cert.LayerZeroRefIdeal.nD Cert.LayerZeroRefIdeal.τ).loc Cert.LayerZeroRefIdeal.main_arg5)
          ∧ r.2.mem ((c.tc : Thread Cert.LayerZeroRefIdeal.nD Cert.LayerZeroRefIdeal.τ).loc Cert.LayerZeroRefIdeal.main_arg6) = m' ((c.tc : Thread Cert.LayerZeroRefIdeal.nD Cert.LayerZeroRefIdeal.τ).loc Cert.LayerZeroRefIdeal.main_arg6)
          ∧ r.2.mem ((c.tc : Thread Cert.LayerZeroRefIdeal.nD Cert.LayerZeroRefIdeal.τ).loc Cert.LayerZeroRefIdeal.main_arg7) = m' ((c.tc : Thread Cert.LayerZeroRefIdeal.nD Cert.LayerZeroRefIdeal.τ).loc Cert.LayerZeroRefIdeal.main_arg7))

def preserves_Kvq_KvqIdeal : Prop :=
  True

def algebraic_KvqIdeal_KvqRefIdeal [hKvqIdeal : Cert.KvqIdeal.Facts] [hKvqRefIdeal : Cert.KvqRefIdeal.Facts] : Prop :=
  ∀ (m : (ℓ : Loc Cert.KvqIdeal.nD Cert.KvqIdeal.τ Cert.KvqIdeal.sig) → Buf (Elt Ideal) ℓ) (g : Dev Cert.KvqIdeal.nD → PrngReg)
    (m' : (ℓ : Loc Cert.KvqRefIdeal.nD Cert.KvqRefIdeal.τ Cert.KvqRefIdeal.sig) → Buf (Elt Ideal) ℓ) (g' : Dev Cert.KvqRefIdeal.nD → PrngReg), Pre_KvqIdeal m →
    (∀ c : Dev Cert.KvqIdeal.nD,
      m' ((c.tc : Thread Cert.KvqRefIdeal.nD Cert.KvqRefIdeal.τ).loc Cert.KvqRefIdeal.main_arg0) = m ((c.tc : Thread Cert.KvqIdeal.nD Cert.KvqIdeal.τ).loc Cert.KvqIdeal.main_arg0)
      ∧ m' ((c.tc : Thread Cert.KvqRefIdeal.nD Cert.KvqRefIdeal.τ).loc Cert.KvqRefIdeal.main_arg1) = m ((c.tc : Thread Cert.KvqIdeal.nD Cert.KvqIdeal.τ).loc Cert.KvqIdeal.main_arg1)
      ∧ m' ((c.tc : Thread Cert.KvqRefIdeal.nD Cert.KvqRefIdeal.τ).loc Cert.KvqRefIdeal.main_arg2) = m ((c.tc : Thread Cert.KvqIdeal.nD Cert.KvqIdeal.τ).loc Cert.KvqIdeal.main_arg2)
      ∧ m' ((c.tc : Thread Cert.KvqRefIdeal.nD Cert.KvqRefIdeal.τ).loc Cert.KvqRefIdeal.main_arg3) = m ((c.tc : Thread Cert.KvqIdeal.nD Cert.KvqIdeal.τ).loc Cert.KvqIdeal.main_arg3)
      ∧ m' ((c.tc : Thread Cert.KvqRefIdeal.nD Cert.KvqRefIdeal.τ).loc Cert.KvqRefIdeal.main_arg4) = m ((c.tc : Thread Cert.KvqIdeal.nD Cert.KvqIdeal.τ).loc Cert.KvqIdeal.main_arg4)
      ∧ m' ((c.tc : Thread Cert.KvqRefIdeal.nD Cert.KvqRefIdeal.τ).loc Cert.KvqRefIdeal.main_arg5) = m ((c.tc : Thread Cert.KvqIdeal.nD Cert.KvqIdeal.τ).loc Cert.KvqIdeal.main_arg5)
      ∧ m' ((c.tc : Thread Cert.KvqRefIdeal.nD Cert.KvqRefIdeal.τ).loc Cert.KvqRefIdeal.main_arg6) = m ((c.tc : Thread Cert.KvqIdeal.nD Cert.KvqIdeal.τ).loc Cert.KvqIdeal.main_arg6)
      ∧ m' ((c.tc : Thread Cert.KvqRefIdeal.nD Cert.KvqRefIdeal.τ).loc Cert.KvqRefIdeal.main_arg7) = m ((c.tc : Thread Cert.KvqIdeal.nD Cert.KvqIdeal.τ).loc Cert.KvqIdeal.main_arg7)) →
    ∃ (v0 : (c : Dev Cert.KvqIdeal.nD) → Buf (Elt Ideal) ((c.tc : Thread Cert.KvqIdeal.nD Cert.KvqIdeal.τ).loc Cert.KvqIdeal.main_v22_0)) (v1 : (c : Dev Cert.KvqIdeal.nD) → Buf (Elt Ideal) ((c.tc : Thread Cert.KvqIdeal.nD Cert.KvqIdeal.τ).loc Cert.KvqIdeal.main_v22_1)) (v2 : (c : Dev Cert.KvqIdeal.nD) → Buf (Elt Ideal) ((c.tc : Thread Cert.KvqIdeal.nD Cert.KvqIdeal.τ).loc Cert.KvqIdeal.main_v22_2)),
      θ_run (Cert.KvqIdeal.defs (F := Ideal)) (onTc (τ := Cert.KvqIdeal.τ) (Cert.KvqIdeal.main (F := Ideal))) ⟨m, fun _ => 0, g⟩ (fun r => ∀ c : Dev Cert.KvqIdeal.nD,
          r.2.mem ((c.tc : Thread Cert.KvqIdeal.nD Cert.KvqIdeal.τ).loc Cert.KvqIdeal.main_v22_0) = v0 c
          ∧ r.2.mem ((c.tc : Thread Cert.KvqIdeal.nD Cert.KvqIdeal.τ).loc Cert.KvqIdeal.main_v22_1) = v1 c
          ∧ r.2.mem ((c.tc : Thread Cert.KvqIdeal.nD Cert.KvqIdeal.τ).loc Cert.KvqIdeal.main_v22_2) = v2 c
          ∧ r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
          ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
          ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
          ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
          ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
          ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
          ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6)
          ∧ r.2.mem ((c.tc : Thread Cert.KvqIdeal.nD Cert.KvqIdeal.τ).loc Cert.KvqIdeal.main_arg7) = m ((c.tc : Thread Cert.KvqIdeal.nD Cert.KvqIdeal.τ).loc Cert.KvqIdeal.main_arg7))
      ∧ θ_run (Cert.KvqRefIdeal.defs (F := Ideal)) (onTc (τ := Cert.KvqRefIdeal.τ) (Cert.KvqRefIdeal.main (F := Ideal))) ⟨m', fun _ => 0, g'⟩ (fun r => ∀ c : Dev Cert.KvqRefIdeal.nD,
          r.2.mem ((c.tc : Thread Cert.KvqRefIdeal.nD Cert.KvqRefIdeal.τ).loc Cert.KvqRefIdeal.main_v17) = v0 c
          ∧ r.2.mem ((c.tc : Thread Cert.KvqRefIdeal.nD Cert.KvqRefIdeal.τ).loc Cert.KvqRefIdeal.main_v18) = v1 c
          ∧ r.2.mem ((c.tc : Thread Cert.KvqRefIdeal.nD Cert.KvqRefIdeal.τ).loc Cert.KvqRefIdeal.main_v26) = v2 c
          ∧ r.2.mem ((c.tc : Thread Cert.KvqRefIdeal.nD Cert.KvqRefIdeal.τ).loc Cert.KvqRefIdeal.main_arg0) = m' ((c.tc : Thread Cert.KvqRefIdeal.nD Cert.KvqRefIdeal.τ).loc Cert.KvqRefIdeal.main_arg0)
          ∧ r.2.mem ((c.tc : Thread Cert.KvqRefIdeal.nD Cert.KvqRefIdeal.τ).loc Cert.KvqRefIdeal.main_arg1) = m' ((c.tc : Thread Cert.KvqRefIdeal.nD Cert.KvqRefIdeal.τ).loc Cert.KvqRefIdeal.main_arg1)
          ∧ r.2.mem ((c.tc : Thread Cert.KvqRefIdeal.nD Cert.KvqRefIdeal.τ).loc Cert.KvqRefIdeal.main_arg2) = m' ((c.tc : Thread Cert.KvqRefIdeal.nD Cert.KvqRefIdeal.τ).loc Cert.KvqRefIdeal.main_arg2)
          ∧ r.2.mem ((c.tc : Thread Cert.KvqRefIdeal.nD Cert.KvqRefIdeal.τ).loc Cert.KvqRefIdeal.main_arg3) = m' ((c.tc : Thread Cert.KvqRefIdeal.nD Cert.KvqRefIdeal.τ).loc Cert.KvqRefIdeal.main_arg3)
          ∧ r.2.mem ((c.tc : Thread Cert.KvqRefIdeal.nD Cert.KvqRefIdeal.τ).loc Cert.KvqRefIdeal.main_arg4) = m' ((c.tc : Thread Cert.KvqRefIdeal.nD Cert.KvqRefIdeal.τ).loc Cert.KvqRefIdeal.main_arg4)
          ∧ r.2.mem ((c.tc : Thread Cert.KvqRefIdeal.nD Cert.KvqRefIdeal.τ).loc Cert.KvqRefIdeal.main_arg5) = m' ((c.tc : Thread Cert.KvqRefIdeal.nD Cert.KvqRefIdeal.τ).loc Cert.KvqRefIdeal.main_arg5)
          ∧ r.2.mem ((c.tc : Thread Cert.KvqRefIdeal.nD Cert.KvqRefIdeal.τ).loc Cert.KvqRefIdeal.main_arg6) = m' ((c.tc : Thread Cert.KvqRefIdeal.nD Cert.KvqRefIdeal.τ).loc Cert.KvqRefIdeal.main_arg6)
          ∧ r.2.mem ((c.tc : Thread Cert.KvqRefIdeal.nD Cert.KvqRefIdeal.τ).loc Cert.KvqRefIdeal.main_arg7) = m' ((c.tc : Thread Cert.KvqRefIdeal.nD Cert.KvqRefIdeal.τ).loc Cert.KvqRefIdeal.main_arg7))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)
      ∧ m' ((c.tc : Thread Cert.SampleRefIdeal.nD Cert.SampleRefIdeal.τ).loc Cert.SampleRefIdeal.main_arg12) = m ((c.tc : Thread Cert.SampleIdeal.nD Cert.SampleIdeal.τ).loc Cert.SampleIdeal.main_arg12)
      ∧ m' ((c.tc : Thread Cert.SampleRefIdeal.nD Cert.SampleRefIdeal.τ).loc Cert.SampleRefIdeal.main_arg13) = m ((c.tc : Thread Cert.SampleIdeal.nD Cert.SampleIdeal.τ).loc Cert.SampleIdeal.main_arg13)
      ∧ m' ((c.tc : Thread Cert.SampleRefIdeal.nD Cert.SampleRefIdeal.τ).loc Cert.SampleRefIdeal.main_arg14) = m ((c.tc : Thread Cert.SampleIdeal.nD Cert.SampleIdeal.τ).loc Cert.SampleIdeal.main_arg14)
      ∧ m' ((c.tc : Thread Cert.SampleRefIdeal.nD Cert.SampleRefIdeal.τ).loc Cert.SampleRefIdeal.main_arg15) = m ((c.tc : Thread Cert.SampleIdeal.nD Cert.SampleIdeal.τ).loc Cert.SampleIdeal.main_arg15)) →
    ∃ (v0 : (c : Dev Cert.SampleIdeal.nD) → Buf (Elt Ideal) ((c.tc : Thread Cert.SampleIdeal.nD Cert.SampleIdeal.τ).loc Cert.SampleIdeal.main_v0_0)) (v1 : (c : Dev Cert.SampleIdeal.nD) → Buf (Elt Ideal) ((c.tc : Thread Cert.SampleIdeal.nD Cert.SampleIdeal.τ).loc Cert.SampleIdeal.main_v0_1)) (v2 : (c : Dev Cert.SampleIdeal.nD) → Buf (Elt Ideal) ((c.tc : Thread Cert.SampleIdeal.nD Cert.SampleIdeal.τ).loc Cert.SampleIdeal.main_v0_2)) (v3 : (c : Dev Cert.SampleIdeal.nD) → Buf (Elt Ideal) ((c.tc : Thread Cert.SampleIdeal.nD Cert.SampleIdeal.τ).loc Cert.SampleIdeal.main_v0_3)) (v4 : (c : Dev Cert.SampleIdeal.nD) → Buf (Elt Ideal) ((c.tc : Thread Cert.SampleIdeal.nD Cert.SampleIdeal.τ).loc Cert.SampleIdeal.main_v0_4)) (v5 : (c : Dev Cert.SampleIdeal.nD) → Buf (Elt Ideal) ((c.tc : Thread Cert.SampleIdeal.nD Cert.SampleIdeal.τ).loc Cert.SampleIdeal.main_v0_5)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v0_0) = v0 c
          ∧ r.2.mem ((c.tc : Thread Cert.SampleIdeal.nD Cert.SampleIdeal.τ).loc Cert.SampleIdeal.main_v0_1) = v1 c
          ∧ r.2.mem ((c.tc : Thread Cert.SampleIdeal.nD Cert.SampleIdeal.τ).loc Cert.SampleIdeal.main_v0_2) = v2 c
          ∧ r.2.mem ((c.tc : Thread Cert.SampleIdeal.nD Cert.SampleIdeal.τ).loc Cert.SampleIdeal.main_v0_3) = v3 c
          ∧ r.2.mem ((c.tc : Thread Cert.SampleIdeal.nD Cert.SampleIdeal.τ).loc Cert.SampleIdeal.main_v0_4) = v4 c
          ∧ r.2.mem ((c.tc : Thread Cert.SampleIdeal.nD Cert.SampleIdeal.τ).loc Cert.SampleIdeal.main_v0_5) = v5 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v95) = v0 c
          ∧ r.2.mem ((c.tc : Thread Cert.SampleRefIdeal.nD Cert.SampleRefIdeal.τ).loc Cert.SampleRefIdeal.main_v112) = v1 c
          ∧ r.2.mem ((c.tc : Thread Cert.SampleRefIdeal.nD Cert.SampleRefIdeal.τ).loc Cert.SampleRefIdeal.main_v113) = v2 c
          ∧ r.2.mem ((c.tc : Thread Cert.SampleRefIdeal.nD Cert.SampleRefIdeal.τ).loc Cert.SampleRefIdeal.main_v114) = v3 c
          ∧ r.2.mem ((c.tc : Thread Cert.SampleRefIdeal.nD Cert.SampleRefIdeal.τ).loc Cert.SampleRefIdeal.main_v120) = v4 c
          ∧ r.2.mem ((c.tc : Thread Cert.SampleRefIdeal.nD Cert.SampleRefIdeal.τ).loc Cert.SampleRefIdeal.main_v135) = v5 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11)
          ∧ r.2.mem ((c.tc : Thread Cert.SampleRefIdeal.nD Cert.SampleRefIdeal.τ).loc Cert.SampleRefIdeal.main_arg12) = m' ((c.tc : Thread Cert.SampleRefIdeal.nD Cert.SampleRefIdeal.τ).loc Cert.SampleRefIdeal.main_arg12)
          ∧ r.2.mem ((c.tc : Thread Cert.SampleRefIdeal.nD Cert.SampleRefIdeal.τ).loc Cert.SampleRefIdeal.main_arg13) = m' ((c.tc : Thread Cert.SampleRefIdeal.nD Cert.SampleRefIdeal.τ).loc Cert.SampleRefIdeal.main_arg13)
          ∧ r.2.mem ((c.tc : Thread Cert.SampleRefIdeal.nD Cert.SampleRefIdeal.τ).loc Cert.SampleRefIdeal.main_arg14) = m' ((c.tc : Thread Cert.SampleRefIdeal.nD Cert.SampleRefIdeal.τ).loc Cert.SampleRefIdeal.main_arg14)
          ∧ r.2.mem ((c.tc : Thread Cert.SampleRefIdeal.nD Cert.SampleRefIdeal.τ).loc Cert.SampleRefIdeal.main_arg15) = m' ((c.tc : Thread Cert.SampleRefIdeal.nD Cert.SampleRefIdeal.τ).loc Cert.SampleRefIdeal.main_arg15))

def Claim : Prop :=
  ∃ (hAttn : Cert.Attn.Facts) (hAttnIdeal : Cert.AttnIdeal.Facts) (hFoxIdeal : Cert.FoxIdeal.Facts) (hPost : Cert.Post.Facts) (hPostIdeal : Cert.PostIdeal.Facts) (hPostRefIdeal : Cert.PostRefIdeal.Facts) (hLayerZero : Cert.LayerZero.Facts) (hLayerZeroIdeal : Cert.LayerZeroIdeal.Facts) (hLayerZeroRefIdeal : Cert.LayerZeroRefIdeal.Facts) (hKvq : Cert.Kvq.Facts) (hKvqIdeal : Cert.KvqIdeal.Facts) (hKvqRefIdeal : Cert.KvqRefIdeal.Facts) (hSample : Cert.Sample.Facts) (hSampleIdeal : Cert.SampleIdeal.Facts) (hSampleRefIdeal : Cert.SampleRefIdeal.Facts) (hPre_slabs : Cert.Pre_slabs.Facts),
    quiescent_Attn (hAttn := hAttn)
    ∧ quiescent_AttnIdeal (hAttnIdeal := hAttnIdeal)
    ∧ quiescent_AttnIdeal_pre_slabs (hAttnIdeal := hAttnIdeal) (hPre_slabs := hPre_slabs)
    ∧ quiescent_FoxIdeal (hFoxIdeal := hFoxIdeal)
    ∧ quiescent_FoxIdeal_pre_slabs (hFoxIdeal := hFoxIdeal) (hPre_slabs := hPre_slabs)
    ∧ quiescent_Post (hPost := hPost)
    ∧ quiescent_PostIdeal (hPostIdeal := hPostIdeal)
    ∧ quiescent_PostRefIdeal (hPostRefIdeal := hPostRefIdeal)
    ∧ quiescent_LayerZero (hLayerZero := hLayerZero)
    ∧ quiescent_LayerZeroIdeal (hLayerZeroIdeal := hLayerZeroIdeal)
    ∧ quiescent_LayerZeroRefIdeal (hLayerZeroRefIdeal := hLayerZeroRefIdeal)
    ∧ quiescent_Kvq (hKvq := hKvq)
    ∧ quiescent_KvqIdeal (hKvqIdeal := hKvqIdeal)
    ∧ quiescent_KvqRefIdeal (hKvqRefIdeal := hKvqRefIdeal)
    ∧ quiescent_Sample (hSample := hSample)
    ∧ quiescent_SampleIdeal (hSampleIdeal := hSampleIdeal)
    ∧ quiescent_SampleRefIdeal (hSampleRefIdeal := hSampleRefIdeal)
    ∧ preserves_Attn_AttnIdeal
    ∧ algebraic_AttnIdeal_FoxIdeal_pre_slabs (hAttnIdeal := hAttnIdeal) (hFoxIdeal := hFoxIdeal) (hPre_slabs := hPre_slabs)
    ∧ preserves_Post_PostIdeal
    ∧ algebraic_PostIdeal_PostRefIdeal (hPostIdeal := hPostIdeal) (hPostRefIdeal := hPostRefIdeal)
    ∧ preserves_LayerZero_LayerZeroIdeal
    ∧ algebraic_LayerZeroIdeal_LayerZeroRefIdeal (hLayerZeroIdeal := hLayerZeroIdeal) (hLayerZeroRefIdeal := hLayerZeroRefIdeal)
    ∧ preserves_Kvq_KvqIdeal
    ∧ algebraic_KvqIdeal_KvqRefIdeal (hKvqIdeal := hKvqIdeal) (hKvqRefIdeal := hKvqRefIdeal)
    ∧ preserves_Sample_SampleIdeal
    ∧ algebraic_SampleIdeal_SampleRefIdeal (hSampleIdeal := hSampleIdeal) (hSampleRefIdeal := hSampleRefIdeal)
-- ==== Pre_slabs.lean ====
abbrev S4x8192x2048 : Shape := ⟨3, ![4, 8192, 2048]⟩
abbrev S4x8192x16x128 : Shape := ⟨4, ![4, 8192, 16, 128]⟩
abbrev S4x8192x16x64 : Shape := ⟨4, ![4, 8192, 16, 64]⟩
abbrev S_ : Shape := ⟨0, ![]⟩
abbrev S4x8192x16x3 : Shape := ⟨4, ![4, 8192, 16, 3]⟩
abbrev S4x8192x16x61 : Shape := ⟨4, ![4, 8192, 16, 61]⟩
abbrev S4x8192x16x67 : Shape := ⟨4, ![4, 8192, 16, 67]⟩
abbrev S4x8192x16x1 : Shape := ⟨4, ![4, 8192, 16, 1]⟩
abbrev S4x8192x16 : Shape := ⟨3, ![4, 8192, 16]⟩

class Facts : Prop where
  bitsLt_bf16_f32 : FTy.bits .bf16 < FTy.bits .f32
  shapeCasts_S4x8192x2048_S4x8192x16x128 : S4x8192x2048.ShapeCasts S4x8192x16x128
  slices_S4x8192x16x128_S4x8192x16x64_0_0_0_0 : S4x8192x16x128.Slices ![0, 0, 0, 0] S4x8192x16x64
  bcast_S_S4x8192x16x64 : S_.BroadcastsInDim S4x8192x16x64 (![] : Fin 0 → Fin S4x8192x16x64.rank)
  slices_S4x8192x16x128_S4x8192x16x3_0_0_0_64 : S4x8192x16x128.Slices ![0, 0, 0, 64] S4x8192x16x3
  bcast_S_S4x8192x16x3 : S_.BroadcastsInDim S4x8192x16x3 (![] : Fin 0 → Fin S4x8192x16x3.rank)
  slices_S4x8192x16x128_S4x8192x16x61_0_0_0_67 : S4x8192x16x128.Slices ![0, 0, 0, 67] S4x8192x16x61
  bcast_S_S4x8192x16x61 : S_.BroadcastsInDim S4x8192x16x61 (![] : Fin 0 → Fin S4x8192x16x61.rank)
  slices_S4x8192x16x128_S4x8192x16x67_0_0_0_0 : S4x8192x16x128.Slices ![0, 0, 0, 0] S4x8192x16x67
  bcast_S_S4x8192x16x67 : S_.BroadcastsInDim S4x8192x16x67 (![] : Fin 0 → Fin S4x8192x16x67.rank)
  slices_S4x8192x16x128_S4x8192x16x1_0_0_0_64 : S4x8192x16x128.Slices ![0, 0, 0, 64] S4x8192x16x1
  shapeCasts_S4x8192x16x1_S4x8192x16 : S4x8192x16x1.ShapeCasts S4x8192x16
  bcast_S_S4x8192x16 : S_.BroadcastsInDim S4x8192x16 (![] : Fin 0 → Fin S4x8192x16.rank)

variable [Facts]

def fn_part1 {F : FTy → Type} [FloatOps F] (main_v5 : FVec F S4x8192x16x128 .f32) (main_v11 : IVec S4x8192x16x64 1) (main_v14 : IVec S4x8192x16x3 1) (main_v17 : IVec S4x8192x16x61 1) (main_v18 : FVec F S4x8192x16x67 .f32) (main_cst_3 : FVec F S_ .f32) : IVec S4x8192x16x64 1 × IVec S4x8192x16x3 1 × IVec S4x8192x16x61 1 × IVec S4x8192x16x67 1 × IVec S4x8192x16 1 :=
  let main_v19 : FVec F S4x8192x16x67 .f32 := broadcastInDim S4x8192x16x67 ![] bcast_S_S4x8192x16x67 main_cst_3
  let main_v20 : IVec S4x8192x16x67 1 := cmpf .olt main_v18 main_v19
  let main_cst_4 : FVec F S_ .f32 := constant S_ .f32 0xFF800000#32
  let main_v21 : FVec F S4x8192x16x67 .f32 := broadcastInDim S4x8192x16x67 ![] bcast_S_S4x8192x16x67 main_cst_4
  let main_v22 : IVec S4x8192x16x67 1 := cmpf .ogt main_v18 main_v21
  let main_v23 : IVec S4x8192x16x67 1 := andi main_v20 main_v22
  let main_v24 : FVec F S4x8192x16x1 .f32 := (extractStridedSlice S4x8192x16x1 ![0, 0, 0, 64] · slices_S4x8192x16x128_S4x8192x16x1_0_0_0_64) main_v5
  let main_v25 : FVec F S4x8192x16 .f32 := shapeCast S4x8192x16 main_v24 shapeCasts_S4x8192x16x1_S4x8192x16
  let main_cst_5 : FVec F S_ .f32 := constant S_ .f32 0x3F800000#32
  let main_v26 : FVec F S4x8192x16 .f32 := broadcastInDim S4x8192x16 ![] bcast_S_S4x8192x16 main_cst_5
  let main_v27 : IVec S4x8192x16 1 := cmpf .oeq main_v25 main_v26
  (main_v11, main_v14, main_v17, main_v23, main_v27)

def fn {F : FTy → Type} [FloatOps F] (main_arg0 : FVec F S4x8192x2048 .bf16) (main_arg1 : FVec F S4x8192x2048 .bf16) (main_arg2 : FVec F S4x8192x2048 .bf16) : IVec S4x8192x16x64 1 × IVec S4x8192x16x3 1 × IVec S4x8192x16x61 1 × IVec S4x8192x16x67 1 × IVec S4x8192x16 1 :=
  let main_v0 : FVec F S4x8192x2048 .f32 := (extf .f32 · bitsLt_bf16_f32) main_arg0
  let main_v1 : FVec F S4x8192x16x128 .f32 := shapeCast S4x8192x16x128 main_v0 shapeCasts_S4x8192x2048_S4x8192x16x128
  let main_v2 : FVec F S4x8192x2048 .f32 := (extf .f32 · bitsLt_bf16_f32) main_arg1
  let main_v3 : FVec F S4x8192x16x128 .f32 := shapeCast S4x8192x16x128 main_v2 shapeCasts_S4x8192x2048_S4x8192x16x128
  let main_v4 : FVec F S4x8192x2048 .f32 := (extf .f32 · bitsLt_bf16_f32) main_arg2
  let main_v5 : FVec F S4x8192x16x128 .f32 := shapeCast S4x8192x16x128 main_v4 shapeCasts_S4x8192x2048_S4x8192x16x128
  let main_v6 : FVec F S4x8192x16x64 .f32 := (extractStridedSlice S4x8192x16x64 ![0, 0, 0, 0] · slices_S4x8192x16x128_S4x8192x16x64_0_0_0_0) main_v1
  let main_cst : FVec F S_ .f32 := constant S_ .f32 0x7F800000#32
  let main_v7 : FVec F S4x8192x16x64 .f32 := broadcastInDim S4x8192x16x64 ![] bcast_S_S4x8192x16x64 main_cst
  let main_v8 : IVec S4x8192x16x64 1 := cmpf .olt main_v6 main_v7
  let main_cst_0 : FVec F S_ .f32 := constant S_ .f32 0xFF800000#32
  let main_v9 : FVec F S4x8192x16x64 .f32 := broadcastInDim S4x8192x16x64 ![] bcast_S_S4x8192x16x64 main_cst_0
  let main_v10 : IVec S4x8192x16x64 1 := cmpf .ogt main_v6 main_v9
  let main_v11 : IVec S4x8192x16x64 1 := andi main_v8 main_v10
  let main_v12 : FVec F S4x8192x16x3 .f32 := (extractStridedSlice S4x8192x16x3 ![0, 0, 0, 64] · slices_S4x8192x16x128_S4x8192x16x3_0_0_0_64) main_v1
  let main_cst_1 : FVec F S_ .f32 := constant S_ .f32 0x3F800000#32
  let main_v13 : FVec F S4x8192x16x3 .f32 := broadcastInDim S4x8192x16x3 ![] bcast_S_S4x8192x16x3 main_cst_1
  let main_v14 : IVec S4x8192x16x3 1 := cmpf .oeq main_v12 main_v13
  let main_v15 : FVec F S4x8192x16x61 .f32 := (extractStridedSlice S4x8192x16x61 ![0, 0, 0, 67] · slices_S4x8192x16x128_S4x8192x16x61_0_0_0_67) main_v1
  let main_cst_2 : FVec F S_ .f32 := constant S_ .f32 0x00000000#32
  let main_v16 : FVec F S4x8192x16x61 .f32 := broadcastInDim S4x8192x16x61 ![] bcast_S_S4x8192x16x61 main_cst_2
  let main_v17 : IVec S4x8192x16x61 1 := cmpf .oeq main_v15 main_v16
  let main_v18 : FVec F S4x8192x16x67 .f32 := (extractStridedSlice S4x8192x16x67 ![0, 0, 0, 0] · slices_S4x8192x16x128_S4x8192x16x67_0_0_0_0) main_v3
  let main_cst_3 : FVec F S_ .f32 := constant S_ .f32 0x7F800000#32
  fn_part1 (F := F) main_v5 main_v11 main_v14 main_v17 main_v18 main_cst_3
-- ==== Attn.lean ====
abbrev S4x8192x2048 : Shape := ⟨3, ![4, 8192, 2048]⟩
abbrev S4x8192x1024 : Shape := ⟨3, ![4, 8192, 1024]⟩
abbrev S1x512x256 : Shape := ⟨3, ![1, 512, 256]⟩
abbrev S1x8192x256 : Shape := ⟨3, ![1, 8192, 256]⟩
abbrev S1x512x128 : Shape := ⟨3, ![1, 512, 128]⟩
abbrev S512x1 : Shape := ⟨2, ![512, 1]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S256x256 : Shape := ⟨2, ![256, 256]⟩
abbrev S256x1 : Shape := ⟨2, ![256, 1]⟩
abbrev S256 : Shape := ⟨1, ![256]⟩

abbrev nBuf : Space → Nat
  | .hbm => 4
  | .vmem => 10
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x2048, .bf16⟩
  | .hbm, ⟨3, _⟩ => ⟨S4x8192x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x512x128, .bf16⟩
  | .local _ .vmem, ⟨7, _⟩ => ⟨S1x512x128, .bf16⟩
  | .local _ .vmem, ⟨8, _⟩ => ⟨S512x1, .f32⟩
  | .local _ .vmem, ⟨9, _⟩ => ⟨S512x128, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

@[reducible] def k0_t1_loop (i : grid0.Coords) : Scf.Loop 32 :=
  let c0_i32_7 : BitVec 32 := 0#32
  let arg2 : BitVec 32 := BitVec.ofNat 32 (i 2).val
  let c2_i32 : BitVec 32 := 2#32
  let v10 : BitVec 32 := Scalar.muli arg2 c2_i32
  let v11 : BitVec 32 := Scalar.subi v10 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_8 : BitVec 32 := 1#32
  ⟨c0_i32_7, v15, c1_i32_8⟩
def k0_mult1 (i : grid0.Coords) (k0_t1 : Fin (k0_t1_loop i).trips) : BitVec 32 :=
  let c0_i32_7 : BitVec 32 := 0#32
  let c1_i32_8 : BitVec 32 := 1#32
  let arg9 : BitVec 32 := Scf.iv c0_i32_7 c1_i32_8 k0_t1
  let c256_i32_101 : BitVec 32 := 256#32
  let v195 : BitVec 32 := Scalar.muli arg9 c256_i32_101
  v195
def k0_off1 (i : grid0.Coords) (k0_t1 : Fin (k0_t1_loop i).trips) : Fin 3 → Nat :=
  let c0_102 : Index := 0#32
  let c0_i32_7 : BitVec 32 := 0#32
  let c1_i32_8 : BitVec 32 := 1#32
  let arg9 : BitVec 32 := Scf.iv c0_i32_7 c1_i32_8 k0_t1
  let c256_i32_101 : BitVec 32 := 256#32
  let v195 : BitVec 32 := Scalar.muli arg9 c256_i32_101
  let v196 : BitVec 32 := v195
  let v197 : Index := Scalar.indexCast v196
  let c0_103 : Index := 0#32
  ![0, v197.toNat, 0]
@[reducible] def k0_t2_loop (i : grid0.Coords) : Scf.Loop 32 :=
  let c0_i32_7 : BitVec 32 := 0#32
  let arg2 : BitVec 32 := BitVec.ofNat 32 (i 2).val
  let c2_i32 : BitVec 32 := 2#32
  let v10 : BitVec 32 := Scalar.muli arg2 c2_i32
  let v11 : BitVec 32 := Scalar.subi v10 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let v12 : BitVec 32 := Scalar.addi c0_i32_7 v11
  let c1_i32_9 : BitVec 32 := 1#32
  ⟨v15, v12, c1_i32_9⟩
def k0_mult2 (i : grid0.Coords) (k0_t2 : Fin (k0_t2_loop i).trips) : BitVec 32 :=
  let c0_i32_7 : BitVec 32 := 0#32
  let arg2 : BitVec 32 := BitVec.ofNat 32 (i 2).val
  let c2_i32 : BitVec 32 := 2#32
  let v10 : BitVec 32 := Scalar.muli arg2 c2_i32
  let v11 : BitVec 32 := Scalar.subi v10 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg9 : BitVec 32 := Scf.iv v15 c1_i32_9 k0_t2
  let c256_i32_101 : BitVec 32 := 256#32
  let v195 : BitVec 32 := Scalar.muli arg9 c256_i32_101
  v195
def k0_off2 (i : grid0.Coords) (k0_t2 : Fin (k0_t2_loop i).trips) : Fin 3 → Nat :=
  let c0_102 : Index := 0#32
  let c0_i32_7 : BitVec 32 := 0#32
  let arg2 : BitVec 32 := BitVec.ofNat 32 (i 2).val
  let c2_i32 : BitVec 32 := 2#32
  let v10 : BitVec 32 := Scalar.muli arg2 c2_i32
  let v11 : BitVec 32 := Scalar.subi v10 c0_i32_7
  let c1_i32 : BitVec 32 := 1#32
  let v13 : BitVec 32 := Scalar.divsi v11 c1_i32
  let v14 : BitVec 32 := Scalar.muli v13 c1_i32
  let v15 : BitVec 32 := Scalar.addi c0_i32_7 v14
  let c1_i32_9 : BitVec 32 := 1#32
  let arg9 : BitVec 32 := Scf.iv v15 c1_i32_9 k0_t2
  let c256_i32_101 : BitVec 32 := 256#32
  let v195 : BitVec 32 := Scalar.muli arg9 c256_i32_101
  let v196 : BitVec 32 := v195
  let v197 : Index := Scalar.indexCast v196
  let c0_103 : Index := 0#32
  ![0, v197.toNat, 0]
def k0_mult3 (i : grid0.Coords) : BitVec 32 :=
  let arg2 : BitVec 32 := BitVec.ofNat 32 (i 2).val
  let c512_i32 : BitVec 32 := 512#32
  let v16 : BitVec 32 := Scalar.muli arg2 c512_i32
  let c0_i32_10 : BitVec 32 := 0#32
  let v17 : BitVec 32 := Scalar.addi v16 c0_i32_10
  v17
def k0_off3 (i : grid0.Coords) (c0_i32_10 : BitVec 32) : Fin 3 → Nat :=
  let c0_11 : Index := 0#32
  let arg2 : BitVec 32 := BitVec.ofNat 32 (i 2).val
  let c512_i32 : BitVec 32 := 512#32
  let v16 : BitVec 32 := Scalar.muli arg2 c512_i32
  let v17 : BitVec 32 := Scalar.addi v16 c0_i32_10
  let v18 : BitVec 32 := v17
  let v19 : Index := Scalar.indexCast v18
  let c0_12 : Index := 0#32
  ![0, v19.toNat, 0]
def k0_mult4 (i : grid0.Coords) : BitVec 32 :=
  let arg2 : BitVec 32 := BitVec.ofNat 32 (i 2).val
  let c512_i32_27 : BitVec 32 := 512#32
  let v52 : BitVec 32 := Scalar.muli arg2 c512_i32_27
  let c256_i32 : BitVec 32 := 256#32
  let v53 : BitVec 32 := Scalar.addi v52 c256_i32
  v53
@[reducible] def k0_t3_loop (i : grid0.Coords) : Scf.Loop 32 :=
  let c0_i32_55 : BitVec 32 := 0#32
  let arg2 : BitVec 32 := BitVec.ofNat 32 (i 2).val
  let c2_i32_53 : BitVec 32 := 2#32
  let v103 : BitVec 32 := Scalar.muli arg2 c2_i32_53
  let v104 : BitVec 32 := Scalar.subi v103 c0_i32_55
  let c1_i32_56 : BitVec 32 := 1#32
  let v106 : BitVec 32 := Scalar.divsi v104 c1_i32_56
  let v107 : BitVec 32 := Scalar.muli v106 c1_i32_56
  let v108 : BitVec 32 := Scalar.addi c0_i32_55 v107
  let c1_i32_57 : BitVec 32 := 1#32
  ⟨c0_i32_55, v108, c1_i32_57⟩
def k0_mult5 (i : grid0.Coords) (k0_t3 : Fin (k0_t3_loop i).trips) : BitVec 32 :=
  let c0_i32_55 : BitVec 32 := 0#32
  let c1_i32_57 : BitVec 32 := 1#32
  let arg9 : BitVec 32 := Scf.iv c0_i32_55 c1_i32_57 k0_t3
  let c256_i32_101 : BitVec 32 := 256#32
  let v195 : BitVec 32 := Scalar.muli arg9 c256_i32_101
  v195
def k0_off4 (i : grid0.Coords) (k0_t3 : Fin (k0_t3_loop i).trips) : Fin 3 → Nat :=
  let c0_102 : Index := 0#32
  let c0_i32_55 : BitVec 32 := 0#32
  let c1_i32_57 : BitVec 32 := 1#32
  let arg9 : BitVec 32 := Scf.iv c0_i32_55 c1_i32_57 k0_t3
  let c256_i32_101 : BitVec 32 := 256#32
  let v195 : BitVec 32 := Scalar.muli arg9 c256_i32_101
  let v196 : BitVec 32 := v195
  let v197 : Index := Scalar.indexCast v196
  let c128_103 : Index := 128#32
  ![0, v197.toNat, 128]
@[reducible] def k0_t4_loop (i : grid0.Coords) : Scf.Loop 32 :=
  let c0_i32_55 : BitVec 32 := 0#32
  let arg2 : BitVec 32 := BitVec.ofNat 32 (i 2).val
  let c2_i32_53 : BitVec 32 := 2#32
  let v103 : BitVec 32 := Scalar.muli arg2 c2_i32_53
  let v104 : BitVec 32 := Scalar.subi v103 c0_i32_55
  let c1_i32_56 : BitVec 32 := 1#32
  let v106 : BitVec 32 := Scalar.divsi v104 c1_i32_56
  let v107 : BitVec 32 := Scalar.muli v106 c1_i32_56
  let v108 : BitVec 32 := Scalar.addi c0_i32_55 v107
  let v105 : BitVec 32 := Scalar.addi c0_i32_55 v104
  let c1_i32_58 : BitVec 32 := 1#32
  ⟨v108, v105, c1_i32_58⟩
def k0_mult6 (i : grid0.Coords) (k0_t4 : Fin (k0_t4_loop i).trips) : BitVec 32 :=
  let c0_i32_55 : BitVec 32 := 0#32
  let arg2 : BitVec 32 := BitVec.ofNat 32 (i 2).val
  let c2_i32_53 : BitVec 32 := 2#32
  let v103 : BitVec 32 := Scalar.muli arg2 c2_i32_53
  let v104 : BitVec 32 := Scalar.subi v103 c0_i32_55
  let c1_i32_56 : BitVec 32 := 1#32
  let v106 : BitVec 32 := Scalar.divsi v104 c1_i32_56
  let v107 : BitVec 32 := Scalar.muli v106 c1_i32_56
  let v108 : BitVec 32 := Scalar.addi c0_i32_55 v107
  let c1_i32_58 : BitVec 32 := 1#32
  let arg9 : BitVec 32 := Scf.iv v108 c1_i32_58 k0_t4
  let c256_i32_101 : BitVec 32 := 256#32
  let v195 : BitVec 32 := Scalar.muli arg9 c256_i32_101
  v195
def k0_off5 (i : grid0.Coords) (k0_t4 : Fin (k0_t4_loop i).trips) : Fin 3 → Nat :=
  let c0_102 : Index := 0#32
  let c0_i32_55 : BitVec 32 := 0#32
  let arg2 : BitVec 32 := BitVec.ofNat 32 (i 2).val
  let c2_i32_53 : BitVec 32 := 2#32
  let v103 : BitVec 32 := Scalar.muli arg2 c2_i32_53
  let v104 : BitVec 32 := Scalar.subi v103 c0_i32_55
  let c1_i32_56 : BitVec 32 := 1#32
  let v106 : BitVec 32 := Scalar.divsi v104 c1_i32_56
  let v107 : BitVec 32 := Scalar.muli v106 c1_i32_56
  let v108 : BitVec 32 := Scalar.addi c0_i32_55 v107
  let c1_i32_58 : BitVec 32 := 1#32
  let arg9 : BitVec 32 := Scf.iv v108 c1_i32_58 k0_t4
  let c256_i32_101 : BitVec 32 := 256#32
  let v195 : BitVec 32 := Scalar.muli arg9 c256_i32_101
  let v196 : BitVec 32 := v195
  let v197 : Index := Scalar.indexCast v196
  let c128_103 : Index := 128#32
  ![0, v197.toNat, 128]
def k0_mult7 (i : grid0.Coords) : BitVec 32 :=
  let arg2 : BitVec 32 := BitVec.ofNat 32 (i 2).val
  let c512_i32_59 : BitVec 32 := 512#32
  let v109 : BitVec 32 := Scalar.muli arg2 c512_i32_59
  let c0_i32_60 : BitVec 32 := 0#32
  let v110 : BitVec 32 := Scalar.addi v109 c0_i32_60
  v110
def k0_off6 (i : grid0.Coords) (c0_i32_60 : BitVec 32) : Fin 3 → Nat :=
  let c0_61 : Index := 0#32
  let arg2 : BitVec 32 := BitVec.ofNat 32 (i 2).val
  let c512_i32_59 : BitVec 32 := 512#32
  let v109 : BitVec 32 := Scalar.muli arg2 c512_i32_59
  let v110 : BitVec 32 := Scalar.addi v109 c0_i32_60
  let v111 : BitVec 32 := v110
  let v112 : Index := Scalar.indexCast v111
  let c128_62 : Index := 128#32
  ![0, v112.toNat, 128]
def k0_mult8 (i : grid0.Coords) : BitVec 32 :=
  let arg2 : BitVec 32 := BitVec.ofNat 32 (i 2).val
  let c512_i32_77 : BitVec 32 := 512#32
  let v145 : BitVec 32 := Scalar.muli arg2 c512_i32_77
  let c256_i32_78 : BitVec 32 := 256#32
  let v146 : BitVec 32 := Scalar.addi v145 c256_i32_78
  v146
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | _ => none
-- ==== FoxIdeal.lean ====
abbrev S4x8192x2048 : Shape := ⟨3, ![4, 8192, 2048]⟩
abbrev S4x8192x16x128 : Shape := ⟨4, ![4, 8192, 16, 128]⟩
abbrev S4x8192x16x64 : Shape := ⟨4, ![4, 8192, 16, 64]⟩
abbrev S4x8192x16x3 : Shape := ⟨4, ![4, 8192, 16, 3]⟩
abbrev S_ : Shape := ⟨0, ![]⟩
abbrev S4x8192x16 : Shape := ⟨3, ![4, 8192, 16]⟩
abbrev S4x16x8192 : Shape := ⟨3, ![4, 16, 8192]⟩
abbrev S4x16x8192x8192 : Shape := ⟨4, ![4, 16, 8192, 8192]⟩
abbrev S4x16x8192x1 : Shape := ⟨4, ![4, 16, 8192, 1]⟩
abbrev S4x16x1x8192 : Shape := ⟨4, ![4, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x16x64x8192 : Shape := ⟨4, ![4, 16, 64, 8192]⟩
abbrev S4x8192x1024 : Shape := ⟨3, ![4, 8192, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x2048, .bf16⟩
  | .hbm, ⟨3, _⟩ => ⟨S4x8192x2048, .f32⟩
  | .hbm, ⟨4, _⟩ => ⟨S4x8192x16x128, .f32⟩
  | .hbm, ⟨5, _⟩ => ⟨S4x8192x16x64, .f32⟩
  | .hbm, ⟨6, _⟩ => ⟨S4x8192x2048, .f32⟩
  | .hbm, ⟨7, _⟩ => ⟨S4x8192x16x128, .f32⟩
  | .hbm, ⟨8, _⟩ => ⟨S4x8192x16x64, .f32⟩
  | .hbm, ⟨9, _⟩ => ⟨S4x8192x2048, .f32⟩
  | .hbm, ⟨10, _⟩ => ⟨S4x8192x16x128, .f32⟩
  | .hbm, ⟨11, _⟩ => ⟨S4x8192x16x64, .f32⟩
  | .hbm, ⟨12, _⟩ => ⟨S4x8192x2048, .f32⟩
  | .hbm, ⟨13, _⟩ => ⟨S4x8192x16x128, .f32⟩
  | .hbm, ⟨14, _⟩ => ⟨S4x8192x16x3, .f32⟩
  | .hbm, ⟨15, _⟩ => ⟨S_, .f32⟩
  | .hbm, ⟨16, _⟩ => ⟨S4x8192x16, .f32⟩
  | .hbm, ⟨17, _⟩ => ⟨S4x16x8192, .f32⟩
  | .hbm, ⟨18, _⟩ => ⟨S4x16x8192, .f32⟩
  | .hbm, ⟨19, _⟩ => ⟨S4x16x8192x8192, .f32⟩
  | .hbm, ⟨20, _⟩ => ⟨S4x16x8192x1, .f32⟩
  | .hbm, ⟨21, _⟩ => ⟨S4x16x8192x8192, .f32⟩
  | .hbm, ⟨22, _⟩ => ⟨S4x16x8192x8192, .f32⟩
  | .hbm, ⟨23, _⟩ => ⟨S4x16x1x8192, .f32⟩
  | .hbm, ⟨24, _⟩ => ⟨S4x16x8192x8192, .f32⟩
  | .hbm, ⟨25, _⟩ => ⟨S4x16x8192x8192, .f32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S4x16x8192x8192, .i1⟩
  | .hbm, ⟨35, _⟩ => ⟨S4x16x8192x8192, .f32⟩
  | .hbm, ⟨36, _⟩ => ⟨S4x16x8192x8192, .f32⟩
  | .hbm, ⟨37, _⟩ => ⟨S_, .f32⟩
  | .hbm, ⟨38, _⟩ => ⟨S4x16x8192, .f32⟩
  | .hbm, ⟨39, _⟩ => ⟨S_, .f32⟩
  | .hbm, ⟨40, _⟩ => ⟨S4x16x8192, .f32⟩
  | .hbm, ⟨41, _⟩ => ⟨S4x16x8192, .f32⟩
  | .hbm, ⟨42, _⟩ => ⟨S4x16x8192x1, .f32⟩
  | .hbm, ⟨43, _⟩ => ⟨S4x16x8192x8192, .f32⟩
  | .hbm, ⟨44, _⟩ => ⟨S4x16x8192x8192, .f32⟩
  | .hbm, ⟨45, _⟩ => ⟨S4x16x8192x8192, .f32⟩
  | .hbm, ⟨46, _⟩ => ⟨S_, .f32⟩
  | .hbm, ⟨47, _⟩ => ⟨S4x16x8192, .f32⟩
  | .hbm, ⟨48, _⟩ => ⟨S4x16x8192x1, .f32⟩
  | .hbm, ⟨49, _⟩ => ⟨S4x16x8192x8192, .f32⟩
  | .hbm, ⟨50, _⟩ => ⟨S4x16x8192x8192, .f32⟩
  | .hbm, ⟨51, _⟩ => ⟨S4x16x64x8192, .f32⟩
  | .hbm, ⟨52, _⟩ => ⟨S4x8192x16x64, .f32⟩
  | .hbm, ⟨53, _⟩ => ⟨S4x8192x1024, .f32⟩
  | .hbm, ⟨54, _⟩ => ⟨S4x8192x1024, .bf16⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Post.lean ====
abbrev S4x8192x1024 : Shape := ⟨3, ![4, 8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 8
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S1024x1024, .bf16⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S4x8192x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PostRefIdeal.lean ====
abbrev S4x8192x1024 : Shape := ⟨3, ![4, 8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S1024x1024, .bf16⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S4x8192x1024, .f32⟩
  | .hbm, ⟨8, _⟩ => ⟨S1024x1024, .f32⟩
  | .hbm, ⟨9, _⟩ => ⟨S1024x5632, .f32⟩
  | .hbm, ⟨10, _⟩ => ⟨S2816x1024, .f32⟩
  | .hbm, ⟨11, _⟩ => ⟨S4x8192x1024, .f32⟩
  | .hbm, ⟨12, _⟩ => ⟨S4x8192x1024, .f32⟩
  | .hbm, ⟨13, _⟩ => ⟨S1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x5632, .f32⟩
  | .hbm, ⟨31, _⟩ => ⟨S4x8192x2816, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S_, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S4x8192x1024, .f32⟩
  | .hbm, ⟨44, _⟩ => ⟨S4x8192x1024, .f32⟩
  | .hbm, ⟨45, _⟩ => ⟨S1024, .f32⟩
  | .hbm, ⟨46, _⟩ => ⟨S4x8192x1024, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S4x8192x1024, .f32⟩
  | .hbm, ⟨61, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== LayerZero.lean ====
abbrev S4x8192x1024 : Shape := ⟨3, ![4, 8192, 1024]⟩
abbrev S1x1024 : Shape := ⟨2, ![1, 1024]⟩
abbrev S4x256x256 : Shape := ⟨3, ![4, 256, 256]⟩
abbrev S1024x5632 : Shape := ⟨2, ![1024, 5632]⟩
abbrev S2816x1024 : Shape := ⟨2, ![2816, 1024]⟩
abbrev S4x1x15x1024 : Shape := ⟨4, ![4, 1, 15, 1024]⟩
abbrev S1x256x1024 : Shape := ⟨3, ![1, 256, 1024]⟩
abbrev S1x1x15x1024 : Shape := ⟨4, ![1, 1, 15, 1024]⟩
abbrev S272x1024 : Shape := ⟨2, ![272, 1024]⟩
abbrev S16x1024 : Shape := ⟨2, ![16, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S256x5632 : Shape := ⟨2, ![256, 5632]⟩
abbrev S256x2816 : Shape := ⟨2, ![256, 2816]⟩
abbrev S15x1024 : Shape := ⟨2, ![15, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x256x256, .bf16⟩
  | .hbm, ⟨6, _⟩ => ⟨S1024x5632, .bf16⟩
  | .hbm, ⟨7, _⟩ => ⟨S2816x1024, .bf16⟩
  | .hbm, ⟨8, _⟩ => ⟨S4x8192x1024, .f32⟩
  | .hbm, ⟨9, _⟩ => ⟨S4x1x15x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x256x256, .bf16⟩
  | .local _ .vmem, ⟨7, _⟩ => ⟨S1024x5632, .bf16⟩
  | .local _ .vmem, ⟨8, _⟩ => ⟨S2816x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x1x15x1024, .f32⟩
  | .local _ .vmem, ⟨12, _⟩ => ⟨S1x1x15x1024, .f32⟩
  | .local _ .vmem, ⟨13, _⟩ => ⟨S272x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v177 : BitVec 1 := Scalar.cmpi .eq arg1 c31_i32
  let v178 : BitVec 32 := Scalar.extui v177
  let c0_i32_87 : BitVec 32 := 0#32
  let v179 : BitVec 1 := Scalar.cmpi .ne v178 c0_i32_87
  v179

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x15x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== LayerZeroRefIdeal.lean ====
abbrev S4x8192x1024 : Shape := ⟨3, ![4, 8192, 1024]⟩
abbrev S1x1024 : Shape := ⟨2, ![1, 1024]⟩
abbrev S4x256x256 : Shape := ⟨3, ![4, 256, 256]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S8192 : Shape := ⟨1, ![8192]⟩
abbrev S4x8192x256 : Shape := ⟨3, ![4, 8192, 256]⟩
abbrev S1x8192x1 : Shape := ⟨3, ![1, 8192, 1]⟩
abbrev S1x8192 : Shape := ⟨2, ![1, 8192]⟩
abbrev S8192x1 : Shape := ⟨2, ![8192, 1]⟩
abbrev S8192x8192 : Shape := ⟨2, ![8192, 8192]⟩
abbrev S4x256x8192 : Shape := ⟨3, ![4, 256, 8192]⟩
abbrev S1x256x256 : Shape := ⟨3, ![1, 256, 256]⟩
abbrev S256x256 : Shape := ⟨2, ![256, 256]⟩
abbrev S4x8192x5632 : Shape := ⟨3, ![4, 8192, 5632]⟩
abbrev S4x8192x2816 : Shape := ⟨3, ![4, 8192, 2816]⟩
abbrev S4x15x1024 : Shape := ⟨3, ![4, 15, 1024]⟩
abbrev S4x1x15x1024 : Shape := ⟨4, ![4, 1, 15, 1024]⟩

abbrev nBuf : Space → Nat
  | .hbm => 233
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024, .f32⟩
  | 3 => ⟨S1x1024, .f32⟩
  | 4 => ⟨S1x1024, .f32⟩
  | 5 => ⟨S4x256x256, .bf16⟩
  | 6 => ⟨S1024x5632, .bf16⟩
  | 7 => ⟨S2816x1024, .bf16⟩
  | 8 => ⟨S4x256x256, .f32⟩
  | 9 => ⟨S1024x5632, .f32⟩
  | 10 => ⟨S2816x1024, .f32⟩
  | 11 => ⟨S1024, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S_, .f32⟩
  | 20 => ⟨S4x8192x1, .f32⟩
  | 21 => ⟨S4x8192x1, .f32⟩
  | 22 => ⟨S4x8192x1, .f32⟩
  | 23 => ⟨S4x8192x1024, .f32⟩
  | 24 => ⟨S4x8192x1024, .f32⟩
  | 25 => ⟨S1x1x1024, .f32⟩
  | 26 => ⟨S4x8192x1024, .f32⟩
  | 27 => ⟨S4x8192x1024, .f32⟩
  | 28 => ⟨S8192, .i32⟩
  | 29 => ⟨S4x8192x256, .f32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S8192, .i32⟩
  | 43 => ⟨S8192, .f32⟩
  | 44 => ⟨S1x8192x1, .f32⟩
  | 45 => ⟨S1x8192, .i32⟩
  | 46 => ⟨S8192x1, .i32⟩
  | 47 => ⟨S8192x8192, .i32⟩
  | 48 => ⟨S8192x8192, .i32⟩
  | 49 => ⟨S8192x8192, .i1⟩
  | 50 => ⟨S1x8192, .i32⟩
  | 51 => ⟨S8192x1, .i32⟩
  | 52 => ⟨S8192x8192, .i32⟩
  | 53 => ⟨S8192x8192, .i32⟩
  | 54 => ⟨S8192x8192, .i1⟩
  | 55 => ⟨S8192x8192, .i1⟩
  | 56 => ⟨S_, .f32⟩
  | 57 => ⟨S_, .f32⟩
  | 58 => ⟨S8192x8192, .f32⟩
  | 59 => ⟨S8192x8192, .f32⟩
  | 60 => ⟨S8192x8192, .f32⟩
  | 61 => ⟨S4x256x8192, .f32⟩
  | 62 => ⟨S4x8192x256, .f32⟩
  | 63 => ⟨S4x8192x256, .f32⟩
  | 64 => ⟨S4x8192x256, .f32⟩
  | 65 => ⟨S4x8192x256, .f32⟩
  | 66 => ⟨S1x256x256, .f32⟩
  | 67 => ⟨S256x256, .f32⟩
  | 68 => ⟨S4x8192x256, .f32⟩
  | 69 => ⟨S4x8192x256, .f32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .i32⟩
  | 83 => ⟨S8192, .f32⟩
  | 84 => ⟨S1x8192x1, .f32⟩
  | 85 => ⟨S1x8192, .i32⟩
  | 86 => ⟨S8192x1, .i32⟩
  | 87 => ⟨S8192x8192, .i32⟩
  | 88 => ⟨S8192x8192, .i32⟩
  | 89 => ⟨S8192x8192, .i1⟩
  | 90 => ⟨S1x8192, .i32⟩
  | 91 => ⟨S8192x1, .i32⟩
  | 92 => ⟨S8192x8192, .i32⟩
  | 93 => ⟨S8192x8192, .i32⟩
  | 94 => ⟨S8192x8192, .i1⟩
  | 95 => ⟨S8192x8192, .i1⟩
  | 96 => ⟨S_, .f32⟩
  | 97 => ⟨S_, .f32⟩
  | 98 => ⟨S8192x8192, .f32⟩
  | 99 => ⟨S8192x8192, .f32⟩
  | 100 => ⟨S8192x8192, .f32⟩
  | 101 => ⟨S4x256x8192, .f32⟩
  | 102 => ⟨S4x8192x256, .f32⟩
  | 103 => ⟨S4x8192x256, .f32⟩
  | 104 => ⟨S4x8192x256, .f32⟩
  | 105 => ⟨S4x8192x256, .f32⟩
  | 106 => ⟨S1x256x256, .f32⟩
  | 107 => ⟨S256x256, .f32⟩
  | 108 => ⟨S4x8192x256, .f32⟩
  | 109 => ⟨S4x8192x256, .f32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S8192, .i32⟩
  | 123 => ⟨S8192, .f32⟩
  | 124 => ⟨S1x8192x1, .f32⟩
  | 125 => ⟨S1x8192, .i32⟩
  | 126 => ⟨S8192x1, .i32⟩
  | 127 => ⟨S8192x8192, .i32⟩
  | _ => ⟨S4x8192x1024, .f32⟩

abbrev hbmTy0_1 (i : Nat) : BufTy := match i % 128 with
  | 0 => ⟨S8192x8192, .i32⟩
  | 1 => ⟨S8192x8192, .i1⟩
  | 2 => ⟨S1x8192, .i32⟩
  | 3 => ⟨S8192x1, .i32⟩
  | 4 => ⟨S8192x8192, .i32⟩
  | 5 => ⟨S8192x8192, .i32⟩
  | 6 => ⟨S8192x8192, .i1⟩
  | 7 => ⟨S8192x8192, .i1⟩
  | 8 => ⟨S_, .f32⟩
  | 9 => ⟨S_, .f32⟩
  | 10 => ⟨S8192x8192, .f32⟩
  | 11 => ⟨S8192x8192, .f32⟩
  | 12 => ⟨S8192x8192, .f32⟩
  | 13 => ⟨S4x256x8192, .f32⟩
  | 14 => ⟨S4x8192x256, .f32⟩
  | 15 => ⟨S4x8192x256, .f32⟩
  | 16 => ⟨S4x8192x256, .f32⟩
  | 17 => ⟨S4x8192x256, .f32⟩
  | 18 => ⟨S1x256x256, .f32⟩
  | 19 => ⟨S256x256, .f32⟩
  | 20 => ⟨S4x8192x256, .f32⟩
  | 21 => ⟨S4x8192x256, .f32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S8192, .i32⟩
  | 35 => ⟨S8192, .f32⟩
  | 36 => ⟨S1x8192x1, .f32⟩
  | 37 => ⟨S1x8192, .i32⟩
  | 38 => ⟨S8192x1, .i32⟩
  | 39 => ⟨S8192x8192, .i32⟩
  | 40 => ⟨S8192x8192, .i32⟩
  | 41 => ⟨S8192x8192, .i1⟩
  | 42 => ⟨S1x8192, .i32⟩
  | 43 => ⟨S8192x1, .i32⟩
  | 44 => ⟨S8192x8192, .i32⟩
  | 45 => ⟨S8192x8192, .i32⟩
  | 46 => ⟨S8192x8192, .i1⟩
  | 47 => ⟨S8192x8192, .i1⟩
  | 48 => ⟨S_, .f32⟩
  | 49 => ⟨S_, .f32⟩
  | 50 => ⟨S8192x8192, .f32⟩
  | 51 => ⟨S8192x8192, .f32⟩
  | 52 => ⟨S8192x8192, .f32⟩
  | 53 => ⟨S4x256x8192, .f32⟩
  | 54 => ⟨S4x8192x256, .f32⟩
  | 55 => ⟨S4x8192x256, .f32⟩
  | 56 => ⟨S4x8192x256, .f32⟩
  | 57 => ⟨S4x8192x256, .f32⟩
  | 58 => ⟨S1x256x256, .f32⟩
  | 59 => ⟨S256x256, .f32⟩
  | 60 => ⟨S4x8192x256, .f32⟩
  | 61 => ⟨S4x8192x1024, .f32⟩
  | 62 => ⟨S1024, .f32⟩
  | 63 => ⟨S1x1x1024, .f32⟩
  | 64 => ⟨S4x8192x1024, .f32⟩
  | 65 => ⟨S4x8192x1024, .f32⟩
  | 66 => ⟨S1024, .f32⟩
  | 67 => ⟨S1x1x1024, .f32⟩
  | 68 => ⟨S4x8192x1024, .f32⟩
  | 69 => ⟨S4x8192x1024, .f32⟩
  | 70 => ⟨S4x8192x1024, .f32⟩
  | 71 => ⟨S1024, .f32⟩
  | 72 => ⟨S4x8192x1024, .f32⟩
  | 73 => ⟨S_, .f32⟩
  | 74 => ⟨S4x8192, .f32⟩
  | 75 => ⟨S4x8192x1, .f32⟩
  | 76 => ⟨S_, .f32⟩
  | 77 => ⟨S4x8192x1, .f32⟩
  | 78 => ⟨S4x8192x1, .f32⟩
  | 79 => ⟨S_, .f32⟩
  | 80 => ⟨S4x8192x1, .f32⟩
  | 81 => ⟨S4x8192x1, .f32⟩
  | 82 => ⟨S4x8192x1, .f32⟩
  | 83 => ⟨S4x8192x1024, .f32⟩
  | 84 => ⟨S4x8192x1024, .f32⟩
  | 85 => ⟨S1x1x1024, .f32⟩
  | 86 => ⟨S4x8192x1024, .f32⟩
  | 87 => ⟨S4x8192x1024, .f32⟩
  | 88 => ⟨S4x8192x5632, .f32⟩
  | 89 => ⟨S4x8192x2816, .f32⟩
  | 90 => ⟨S4x8192x2816, .f32⟩
  | 91 => ⟨S4x8192x2816, .f32⟩
  | 92 => ⟨S4x8192x2816, .f32⟩
  | 93 => ⟨S_, .f32⟩
  | 94 => ⟨S4x8192x2816, .f32⟩
  | 95 => ⟨S4x8192x2816, .f32⟩
  | 96 => ⟨S_, .f32⟩
  | 97 => ⟨S4x8192x2816, .f32⟩
  | 98 => ⟨S4x8192x2816, .f32⟩
  | 99 => ⟨S4x8192x2816, .f32⟩
  | 100 => ⟨S4x8192x2816, .f32⟩
  | 101 => ⟨S4x8192x1024, .f32⟩
  | 102 => ⟨S4x8192x1024, .f32⟩
  | 103 => ⟨S4x15x1024, .f32⟩
  | 104 => ⟨S4x1x15x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_cst_12 : Ref sig .tc := ⟨.hbm, 97, rfl⟩
abbrev main_call1_v0 : Ref sig .tc := ⟨.hbm, 98, rfl⟩
abbrev main_call1_v1 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_13 : Ref sig .tc := ⟨.hbm, 110, rfl⟩
abbrev main_v83 : Ref sig .tc := ⟨.hbm, 111, rfl⟩
abbrev main_v84 : Ref sig .tc := ⟨.hbm, 112, rfl⟩
abbrev main_c_14 : Ref sig .tc := ⟨.hbm, 113, rfl⟩
abbrev main_v85 : Ref sig .tc := ⟨.hbm, 114, rfl⟩
abbrev main_v86 : Ref sig .tc := ⟨.hbm, 115, rfl⟩
abbrev main_c_15 : Ref sig .tc := ⟨.hbm, 116, rfl⟩
abbrev main_v87 : Ref sig .tc := ⟨.hbm, 117, rfl⟩
abbrev main_v88 : Ref sig .tc := ⟨.hbm, 118, rfl⟩
abbrev main_c_16 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_cst_18 : Ref sig .tc := ⟨.hbm, 137, rfl⟩
abbrev main_call2_v0 : Ref sig .tc := ⟨.hbm, 138, rfl⟩
abbrev main_call2_v1 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_19 : Ref sig .tc := ⟨.hbm, 150, rfl⟩
abbrev main_v115 : Ref sig .tc := ⟨.hbm, 151, rfl⟩
abbrev main_v116 : Ref sig .tc := ⟨.hbm, 152, rfl⟩
abbrev main_c_20 : Ref sig .tc := ⟨.hbm, 153, rfl⟩
abbrev main_v117 : Ref sig .tc := ⟨.hbm, 154, rfl⟩
abbrev main_v118 : Ref sig .tc := ⟨.hbm, 155, rfl⟩
abbrev main_c_21 : Ref sig .tc := ⟨.hbm, 156, rfl⟩
abbrev main_v119 : Ref sig .tc := ⟨.hbm, 157, rfl⟩
abbrev main_v120 : Ref sig .tc := ⟨.hbm, 158, rfl⟩
abbrev main_c_22 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_23 : Ref sig .tc := ⟨.hbm, 176, rfl⟩
abbrev main_cst_24 : Ref sig .tc := ⟨.hbm, 177, rfl⟩
abbrev main_call3_v0 : Ref sig .tc := ⟨.hbm, 178, rfl⟩
abbrev main_call3_v1 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_25 : Ref sig .tc := ⟨.hbm, 201, rfl⟩
abbrev main_v158 : Ref sig .tc := ⟨.hbm, 202, rfl⟩
abbrev main_v159 : Ref sig .tc := ⟨.hbm, 203, rfl⟩
abbrev main_cst_26 : Ref sig .tc := ⟨.hbm, 204, rfl⟩
abbrev main_v160 : Ref sig .tc := ⟨.hbm, 205, rfl⟩
abbrev main_v161 : Ref sig .tc := ⟨.hbm, 206, rfl⟩
abbrev main_cst_27 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_call4_v0 : Ref sig .tc := ⟨.hbm, 219, rfl⟩
abbrev main_call4_v1 : Ref sig .tc := ⟨.hbm, 220, rfl⟩
abbrev main_call4_cst : Ref sig .tc := ⟨.hbm, 221, rfl⟩
abbrev main_call4_v2 : Ref sig .tc := ⟨.hbm, 222, rfl⟩
abbrev main_call4_v3 : Ref sig .tc := ⟨.hbm, 223, rfl⟩
abbrev main_call4_cst_0 : Ref sig .tc := ⟨.hbm, 224, rfl⟩
abbrev main_call4_v4 : Ref sig .tc := ⟨.hbm, 225, rfl⟩
abbrev main_call4_v5 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩

abbrev nD : Nat := 1
abbrev τ : Topo := Topo.v7x

variable {F : FTy → Type} [FloatOps F]
-- ==== Kvq.lean ====
abbrev S4x8192x1024 : Shape := ⟨3, ![4, 8192, 1024]⟩
abbrev S1x1024 : Shape := ⟨2, ![1, 1024]⟩
abbrev S1x128 : Shape := ⟨2, ![1, 128]⟩
abbrev S1024x1024 : Shape := ⟨2, ![1024, 1024]⟩
abbrev S1024x128 : Shape := ⟨2, ![1024, 128]⟩
abbrev S128 : Shape := ⟨1, ![128]⟩
abbrev S128x1 : Shape := ⟨2, ![128, 1]⟩
abbrev S2048 : Shape := ⟨1, ![2048]⟩
abbrev S1x2048 : Shape := ⟨2, ![1, 2048]⟩
abbrev S_ : Shape := ⟨0, ![]⟩
abbrev S128x2048 : Shape := ⟨2, ![128, 2048]⟩
abbrev S4x8192x16 : Shape := ⟨3, ![4, 8192, 16]⟩
abbrev S4x8192x2048 : Shape := ⟨3, ![4, 8192, 2048]⟩
abbrev S1x256x1024 : Shape := ⟨3, ![1, 256, 1024]⟩
abbrev S1x256x16 : Shape := ⟨3, ![1, 256, 16]⟩
abbrev S1x256x2048 : Shape := ⟨3, ![1, 256, 2048]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x16 : Shape := ⟨2, ![256, 16]⟩
abbrev S256x256 : Shape := ⟨2, ![256, 256]⟩
abbrev S256x2048 : Shape := ⟨2, ![256, 2048]⟩
abbrev S1x256x128 : Shape := ⟨3, ![1, 256, 128]⟩

abbrev nBuf : Space → Nat
  | .hbm => 78
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024, .f32⟩
  | .hbm, ⟨3, _⟩ => ⟨S1x128, .f32⟩
  | .hbm, ⟨4, _⟩ => ⟨S1024x1024, .bf16⟩
  | .hbm, ⟨5, _⟩ => ⟨S1024x1024, .bf16⟩
  | .hbm, ⟨6, _⟩ => ⟨S1024x128, .bf16⟩
  | .hbm, ⟨7, _⟩ => ⟨S1024x1024, .bf16⟩
  | .hbm, ⟨8, _⟩ => ⟨S128, .i32⟩
  | .hbm, ⟨9, _⟩ => ⟨S128x1, .i32⟩
  | .hbm, ⟨10, _⟩ => ⟨S2048, .i32⟩
  | .hbm, ⟨11, _⟩ => ⟨S1x2048, .i32⟩
  | .hbm, ⟨12, _⟩ => ⟨S_, .i32⟩
  | .hbm, ⟨13, _⟩ => ⟨S_, .i32⟩
  | .hbm, ⟨14, _⟩ => ⟨S1x2048, .i32⟩
  | .hbm, ⟨15, _⟩ => ⟨S1x2048, .i32⟩
  | .hbm, ⟨16, _⟩ => ⟨S1x2048, .i32⟩
  | .hbm, ⟨17, _⟩ => ⟨S_, .i32⟩
  | .hbm, ⟨18, _⟩ => ⟨S1x2048, .i32⟩
  | .hbm, ⟨19, _⟩ => ⟨S1x2048, .i1⟩
  | .hbm, ⟨20, _⟩ => ⟨S1x2048, .i32⟩
  | .hbm, ⟨21, _⟩ => ⟨S1x2048, .i32⟩
  | .hbm, ⟨22, _⟩ => ⟨S_, .i32⟩
  | .hbm, ⟨23, _⟩ => ⟨S1x2048, .i32⟩
  | .hbm, ⟨24, _⟩ => ⟨S1x2048, .i1⟩
  | .hbm, ⟨25, _⟩ => ⟨S1x2048, .i1⟩
  | .hbm, ⟨26, _⟩ => ⟨S_, .i32⟩
  | .hbm, ⟨27, _⟩ => ⟨S1x2048, .i32⟩
  | .hbm, ⟨28, _⟩ => ⟨S1x2048, .i32⟩
  | .hbm, ⟨29, _⟩ => ⟨S1x2048, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1x2048, .i32⟩
  | .hbm, ⟨37, _⟩ => ⟨S1x2048, .i32⟩
  | .hbm, ⟨38, _⟩ => ⟨S_, .i32⟩
  | .hbm, ⟨39, _⟩ => ⟨S1x2048, .i32⟩
  | .hbm, ⟨40, _⟩ => ⟨S1x2048, .i1⟩
  | .hbm, ⟨41, _⟩ => ⟨S_, .i32⟩
  | .hbm, ⟨42, _⟩ => ⟨S1x2048, .i32⟩
  | .hbm, ⟨43, _⟩ => ⟨S1x2048, .i1⟩
  | .hbm, ⟨44, _⟩ => ⟨S_, .i32⟩
  | .hbm, ⟨45, _⟩ => ⟨S_, .i1⟩
  | .hbm, ⟨46, _⟩ => ⟨S1x2048, .i1⟩
  | .hbm, ⟨47, _⟩ => ⟨S1x2048, .i1⟩
  | .hbm, ⟨48, _⟩ => ⟨S1x2048, .i1⟩
  | .hbm, ⟨49, _⟩ => ⟨S1x2048, .i32⟩
  | .hbm, ⟨50, _⟩ => ⟨S1x2048, .i32⟩
  | .hbm, ⟨51, _⟩ => ⟨S1x2048, .i32⟩
  | .hbm, ⟨52, _⟩ => ⟨S_, .i32⟩
  | .hbm, ⟨53, _⟩ => ⟨S1x2048, .i32⟩
  | .hbm, ⟨54, _⟩ => ⟨S1x2048, .i32⟩
  | .hbm, ⟨55, _⟩ => ⟨S_, .i32⟩
  | .hbm, ⟨56, _⟩ => ⟨S1x2048, .i32⟩
  | .hbm, ⟨57, _⟩ => ⟨S1x2048, .i1⟩
  | .hbm, ⟨58, _⟩ => ⟨S_, .i32⟩
  | .hbm, ⟨59, _⟩ => ⟨S1x2048, .i32⟩
  | .hbm, ⟨60, _⟩ => ⟨S1x2048, .i1⟩
  | .hbm, ⟨61, _⟩ => ⟨S1x2048, .i1⟩
  | .hbm, ⟨62, _⟩ => ⟨S_, .i32⟩
  | .hbm, ⟨63, _⟩ => ⟨S1x2048, .i32⟩
  | .hbm, ⟨64, _⟩ => ⟨S1x2048, .i32⟩
  | .hbm, ⟨65, _⟩ => ⟨S1x2048, .i32⟩
  | .hbm, ⟨66, _⟩ => ⟨S128x2048, .i32⟩
  | .hbm, ⟨67, _⟩ => ⟨S128x2048, .i32⟩
  | .hbm, ⟨68, _⟩ => ⟨S128x2048, .i1⟩
  | .hbm, ⟨69, _⟩ => ⟨S128x2048, .i1⟩
  | .hbm, ⟨70, _⟩ => ⟨S128x2048, .i1⟩
  | .hbm, ⟨71, _⟩ => ⟨S128x2048, .bf16⟩
  | .hbm, ⟨72, _⟩ => ⟨S4x8192x1024, .f32⟩
  | .hbm, ⟨73, _⟩ => ⟨S4x8192x1024, .f32⟩
  | .hbm, ⟨74, _⟩ => ⟨S4x8192x16, .f32⟩
  | .hbm, ⟨75, _⟩ => ⟨S4x8192x2048, .bf16⟩
  | .hbm, ⟨76, _⟩ => ⟨S4x8192x2048, .bf16⟩
  | .hbm, ⟨77, _⟩ => ⟨S4x8192x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1024x1024, .bf16⟩
  | .local _ .vmem, ⟨9, _⟩ => ⟨S128x2048, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x16, .f32⟩
  | .local _ .vmem, ⟨15, _⟩ => ⟨S1x256x16, .f32⟩
  | .local _ .vmem, ⟨16, _⟩ => ⟨S1x256x2048, .bf16⟩
  | .local _ .vmem, ⟨17, _⟩ => ⟨S1x256x2048, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x256x2048, .bf16⟩
  | .local _ .vmem, ⟨21, _⟩ => ⟨S1x256x2048, .bf16⟩
  | .local _ .vmem, ⟨22, _⟩ => ⟨S8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v5 : Ref sig .tc := ⟨.hbm, 51, rfl⟩
abbrev main_c_1 : Ref sig .tc := ⟨.hbm, 52, rfl⟩
abbrev main_v6 : Ref sig .tc := ⟨.hbm, 53, rfl⟩
abbrev main_v7 : Ref sig .tc := ⟨.hbm, 54, rfl⟩
abbrev main_c_2 : Ref sig .tc := ⟨.hbm, 55, rfl⟩
abbrev main_v8 : Ref sig .tc := ⟨.hbm, 56, rfl⟩
abbrev main_v9 : Ref sig .tc := ⟨.hbm, 57, rfl⟩
abbrev main_c_3 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_c_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22_0 : Ref sig .tc := ⟨.hbm, 72, rfl⟩
abbrev main_v22_1 : Ref sig .tc := ⟨.hbm, 73, rfl⟩
abbrev main_v22_2 : Ref sig .tc := ⟨.hbm, 74, rfl⟩
abbrev main_v22_3 : Ref sig .tc := ⟨.hbm, 75, rfl⟩
abbrev main_v22_4 : Ref sig .tc := ⟨.hbm, 76, rfl⟩
abbrev main_v22_5 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KvqRefIdeal.lean ====
abbrev S4x8192x1024 : Shape := ⟨3, ![4, 8192, 1024]⟩
abbrev S1x1024 : Shape := ⟨2, ![1, 1024]⟩
abbrev S1x128 : Shape := ⟨2, ![1, 128]⟩
abbrev S1024x1024 : Shape := ⟨2, ![1024, 1024]⟩
abbrev S1024x128 : Shape := ⟨2, ![1024, 128]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x16 : Shape := ⟨2, ![1024, 16]⟩
abbrev S4x8192x16 : Shape := ⟨3, ![4, 8192, 16]⟩
abbrev S1x16 : Shape := ⟨2, ![1, 16]⟩
abbrev S16 : Shape := ⟨1, ![16]⟩
abbrev S1x1x16 : Shape := ⟨3, ![1, 1, 16]⟩

abbrev nBuf : Space → Nat
  | .hbm => 53
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024, .f32⟩
  | .hbm, ⟨3, _⟩ => ⟨S1x128, .f32⟩
  | .hbm, ⟨4, _⟩ => ⟨S1024x1024, .bf16⟩
  | .hbm, ⟨5, _⟩ => ⟨S1024x1024, .bf16⟩
  | .hbm, ⟨6, _⟩ => ⟨S1024x128, .bf16⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S1024x128, .f32⟩
  | .hbm, ⟨11, _⟩ => ⟨S1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S1024x16, .f32⟩
  | .hbm, ⟨31, _⟩ => ⟨S4x8192x16, .f32⟩
  | .hbm, ⟨32, _⟩ => ⟨S1x16, .f32⟩
  | .hbm, ⟨33, _⟩ => ⟨S16, .f32⟩
  | .hbm, ⟨34, _⟩ => ⟨S1x1x16, .f32⟩
  | .hbm, ⟨35, _⟩ => ⟨S4x8192x16, .f32⟩
  | .hbm, ⟨36, _⟩ => ⟨S4x8192x16, .f32⟩
  | .hbm, ⟨37, _⟩ => ⟨S4x8192x16, .f32⟩
  | .hbm, ⟨38, _⟩ => ⟨S_, .f32⟩
  | .hbm, ⟨39, _⟩ => ⟨S4x8192x16, .f32⟩
  | .hbm, ⟨40, _⟩ => ⟨S4x8192x16, .f32⟩
  | .hbm, ⟨41, _⟩ => ⟨S4x8192x16, .f32⟩
  | .hbm, ⟨42, _⟩ => ⟨S4x8192x16, .f32⟩
  | .hbm, ⟨43, _⟩ => ⟨S4x8192x16, .i1⟩
  | .hbm, ⟨44, _⟩ => ⟨S4x8192x16, .f32⟩
  | .hbm, ⟨45, _⟩ => ⟨S4x8192x16, .f32⟩
  | .hbm, ⟨46, _⟩ => ⟨S4x8192x16, .f32⟩
  | .hbm, ⟨47, _⟩ => ⟨S4x8192x16, .f32⟩
  | .hbm, ⟨48, _⟩ => ⟨S4x8192x16, .f32⟩
  | .hbm, ⟨49, _⟩ => ⟨S4x8192x16, .f32⟩
  | .hbm, ⟨50, _⟩ => ⟨S4x8192x16, .f32⟩
  | .hbm, ⟨51, _⟩ => ⟨S4x8192x16, .f32⟩
  | .hbm, ⟨52, _⟩ => ⟨S4x8192x16, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v26 : Ref sig .tc := ⟨.hbm, 52, rfl⟩

abbrev nD : Nat := 1
abbrev τ : Topo := Topo.v7x

variable {F : FTy → Type} [FloatOps F]
-- ==== Sample.lean ====
abbrev S32x1024 : Shape := ⟨2, ![32, 1024]⟩
abbrev S15x32x1024 : Shape := ⟨3, ![15, 32, 1024]⟩
abbrev S1x1024 : Shape := ⟨2, ![1, 1024]⟩
abbrev S4x256x256 : Shape := ⟨3, ![4, 256, 256]⟩
abbrev S1024x5632 : Shape := ⟨2, ![1024, 5632]⟩
abbrev S2816x1024 : Shape := ⟨2, ![2816, 1024]⟩
abbrev S1x128 : Shape := ⟨2, ![1, 128]⟩
abbrev S1024x1024 : Shape := ⟨2, ![1024, 1024]⟩
abbrev S1024x128 : Shape := ⟨2, ![1024, 128]⟩
abbrev S32x128 : Shape := ⟨2, ![32, 128]⟩
abbrev S32 : Shape := ⟨1, ![32]⟩
abbrev S32x1 : Shape := ⟨2, ![32, 1]⟩
abbrev S1x32x1024 : Shape := ⟨3, ![1, 32, 1024]⟩
abbrev S32x256 : Shape := ⟨2, ![32, 256]⟩
abbrev S1x32x256 : Shape := ⟨3, ![1, 32, 256]⟩
abbrev S1x256x256 : Shape := ⟨3, ![1, 256, 256]⟩
abbrev S256x256 : Shape := ⟨2, ![256, 256]⟩
abbrev S32x5632 : Shape := ⟨2, ![32, 5632]⟩
abbrev S32x2816 : Shape := ⟨2, ![32, 2816]⟩

abbrev nBuf : Space → Nat
  | .hbm => 22
  | .vmem => 22
  | .smem => 0
  | _ => 0

abbrev bufTy : (tb : Table) → Fin (tcTables nBuf tb) → BufTy
  | .hbm, ⟨0, _⟩ => ⟨S32x1024, .f32⟩
  | .hbm, ⟨1, _⟩ => ⟨S15x32x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4x256x256, .bf16⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S1x128, .f32⟩
  | .hbm, ⟨12, _⟩ => ⟨S1024x1024, .bf16⟩
  | .hbm, ⟨13, _⟩ => ⟨S1024x1024, .bf16⟩
  | .hbm, ⟨14, _⟩ => ⟨S1024x128, .bf16⟩
  | .hbm, ⟨15, _⟩ => ⟨S1024x1024, .bf16⟩
  | .hbm, ⟨16, _⟩ => ⟨S32x1024, .f32⟩
  | .hbm, ⟨17, _⟩ => ⟨S15x32x1024, .f32⟩
  | .hbm, ⟨18, _⟩ => ⟨S32x1024, .f32⟩
  | .hbm, ⟨19, _⟩ => ⟨S32x1024, .f32⟩
  | .hbm, ⟨20, _⟩ => ⟨S32x128, .f32⟩
  | .hbm, ⟨21, _⟩ => ⟨S32x1024, .f32⟩
  | .local _ .vmem, ⟨0, _⟩ => ⟨S32x1024, .f32⟩
  | .local _ .vmem, ⟨1, _⟩ => ⟨S15x32x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x256x256, .bf16⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S1x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x128, .bf16⟩
  | .local _ .vmem, ⟨15, _⟩ => ⟨S1024x1024, .bf16⟩
  | .local _ .vmem, ⟨16, _⟩ => ⟨S32x1024, .f32⟩
  | .local _ .vmem, ⟨17, _⟩ => ⟨S15x32x1024, .f32⟩
  | .local _ .vmem, ⟨18, _⟩ => ⟨S32x1024, .f32⟩
  | .local _ .vmem, ⟨19, _⟩ => ⟨S32x1024, .f32⟩
  | .local _ .vmem, ⟨20, _⟩ => ⟨S32x128, .f32⟩
  | .local _ .vmem, ⟨21, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S15x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S15x32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== SampleRefIdeal.lean ====
abbrev S32x1024 : Shape := ⟨2, ![32, 1024]⟩
abbrev S15x32x1024 : Shape := ⟨3, ![15, 32, 1024]⟩
abbrev S1x1024 : Shape := ⟨2, ![1, 1024]⟩
abbrev S4x256x256 : Shape := ⟨3, ![4, 256, 256]⟩
abbrev S1024x5632 : Shape := ⟨2, ![1024, 5632]⟩
abbrev S2816x1024 : Shape := ⟨2, ![2816, 1024]⟩
abbrev S1x128 : Shape := ⟨2, ![1, 128]⟩
abbrev S1024x1024 : Shape := ⟨2, ![1024, 1024]⟩
abbrev S1024x128 : Shape := ⟨2, ![1024, 128]⟩
abbrev S1024 : Shape := ⟨1, ![1024]⟩
abbrev S_ : Shape := ⟨0, ![]⟩
abbrev S32 : Shape := ⟨1, ![32]⟩
abbrev S32x1 : Shape := ⟨2, ![32, 1]⟩
abbrev S32x256 : Shape := ⟨2, ![32, 256]⟩
abbrev S1x32x256 : Shape := ⟨3, ![1, 32, 256]⟩
abbrev S1x256x256 : Shape := ⟨3, ![1, 256, 256]⟩
abbrev S256x256 : Shape := ⟨2, ![256, 256]⟩
abbrev S3x32x256 : Shape := ⟨3, ![3, 32, 256]⟩
abbrev S7x32x256 : Shape := ⟨3, ![7, 32, 256]⟩
abbrev S15x32x256 : Shape := ⟨3, ![15, 32, 256]⟩
abbrev S32x5632 : Shape := ⟨2, ![32, 5632]⟩
abbrev S32x2816 : Shape := ⟨2, ![32, 2816]⟩
abbrev S14x32x1024 : Shape := ⟨3, ![14, 32, 1024]⟩
abbrev S1x32x1024 : Shape := ⟨3, ![1, 32, 1024]⟩
abbrev S32x128 : Shape := ⟨2, ![32, 128]⟩
abbrev S128 : Shape := ⟨1, ![128]⟩

abbrev nBuf : Space → Nat
  | .hbm => 195
  | .vmem => 0
  | .smem => 0
  | _ => 0

abbrev hbmTy0_0 (i : Nat) : BufTy := match i % 128 with
  | 0 => ⟨S32x1024, .f32⟩
  | 1 => ⟨S15x32x1024, .f32⟩
  | 2 => ⟨S1x1024, .f32⟩
  | 3 => ⟨S1x1024, .f32⟩
  | 4 => ⟨S1x1024, .f32⟩
  | 5 => ⟨S1x1024, .f32⟩
  | 6 => ⟨S4x256x256, .bf16⟩
  | 7 => ⟨S1024x5632, .bf16⟩
  | 8 => ⟨S2816x1024, .bf16⟩
  | 9 => ⟨S1x1024, .f32⟩
  | 10 => ⟨S1x1024, .f32⟩
  | 11 => ⟨S1x128, .f32⟩
  | 12 => ⟨S1024x1024, .bf16⟩
  | 13 => ⟨S1024x1024, .bf16⟩
  | 14 => ⟨S1024x128, .bf16⟩
  | 15 => ⟨S1024x1024, .bf16⟩
  | 16 => ⟨S4x256x256, .f32⟩
  | 17 => ⟨S1024x5632, .f32⟩
  | 18 => ⟨S2816x1024, .f32⟩
  | 19 => ⟨S1024x1024, .f32⟩
  | 20 => ⟨S1024x1024, .f32⟩
  | 21 => ⟨S1024x128, .f32⟩
  | 22 => ⟨S1024x1024, .f32⟩
  | 23 => ⟨S1024, .f32⟩
  | 24 => ⟨S32x1024, .f32⟩
  | 25 => ⟨S_, .f32⟩
  | 26 => ⟨S32, .f32⟩
  | 27 => ⟨S32x1, .f32⟩
  | 28 => ⟨S_, .f32⟩
  | 29 => ⟨S32x1, .f32⟩
  | 30 => ⟨S32x1, .f32⟩
  | 31 => ⟨S_, .f32⟩
  | 32 => ⟨S32x1, .f32⟩
  | 33 => ⟨S32x1, .f32⟩
  | 34 => ⟨S32x1, .f32⟩
  | 35 => ⟨S32x1024, .f32⟩
  | 36 => ⟨S32x1024, .f32⟩
  | 37 => ⟨S1x1024, .f32⟩
  | 38 => ⟨S32x1024, .f32⟩
  | 39 => ⟨S32x1024, .f32⟩
  | 40 => ⟨S32x256, .f32⟩
  | 41 => ⟨S1x32x256, .f32⟩
  | 42 => ⟨S_, .f32⟩
  | 43 => ⟨S32x256, .f32⟩
  | 44 => ⟨S32x256, .f32⟩
  | 45 => ⟨S_, .f32⟩
  | 46 => ⟨S32x256, .f32⟩
  | 47 => ⟨S32x256, .f32⟩
  | 48 => ⟨S32x256, .f32⟩
  | 49 => ⟨S32x256, .f32⟩
  | 50 => ⟨S1x256x256, .f32⟩
  | 51 => ⟨S256x256, .f32⟩
  | 52 => ⟨S32x256, .f32⟩
  | 53 => ⟨S32x256, .f32⟩
  | 54 => ⟨S3x32x256, .f32⟩
  | 55 => ⟨S_, .f32⟩
  | 56 => ⟨S32x256, .f32⟩
  | 57 => ⟨S32x256, .f32⟩
  | 58 => ⟨S_, .f32⟩
  | 59 => ⟨S32x256, .f32⟩
  | 60 => ⟨S32x256, .f32⟩
  | 61 => ⟨S32x256, .f32⟩
  | 62 => ⟨S32x256, .f32⟩
  | 63 => ⟨S1x256x256, .f32⟩
  | 64 => ⟨S256x256, .f32⟩
  | 65 => ⟨S32x256, .f32⟩
  | 66 => ⟨S32x256, .f32⟩
  | 67 => ⟨S7x32x256, .f32⟩
  | 68 => ⟨S_, .f32⟩
  | 69 => ⟨S32x256, .f32⟩
  | 70 => ⟨S32x256, .f32⟩
  | 71 => ⟨S_, .f32⟩
  | 72 => ⟨S32x256, .f32⟩
  | 73 => ⟨S32x256, .f32⟩
  | 74 => ⟨S32x256, .f32⟩
  | 75 => ⟨S32x256, .f32⟩
  | 76 => ⟨S1x256x256, .f32⟩
  | 77 => ⟨S256x256, .f32⟩
  | 78 => ⟨S32x256, .f32⟩
  | 79 => ⟨S32x256, .f32⟩
  | 80 => ⟨S15x32x256, .f32⟩
  | 81 => ⟨S_, .f32⟩
  | 82 => ⟨S32x256, .f32⟩
  | 83 => ⟨S32x256, .f32⟩
  | 84 => ⟨S_, .f32⟩
  | 85 => ⟨S32x256, .f32⟩
  | 86 => ⟨S32x256, .f32⟩
  | 87 => ⟨S32x256, .f32⟩
  | 88 => ⟨S32x256, .f32⟩
  | 89 => ⟨S1x256x256, .f32⟩
  | 90 => ⟨S256x256, .f32⟩
  | 91 => ⟨S32x256, .f32⟩
  | 92 => ⟨S32x1024, .f32⟩
  | 93 => ⟨S1024, .f32⟩
  | 94 => ⟨S1x1024, .f32⟩
  | 95 => ⟨S32x1024, .f32⟩
  | 96 => ⟨S32x1024, .f32⟩
  | 97 => ⟨S1024, .f32⟩
  | 98 => ⟨S1x1024, .f32⟩
  | 99 => ⟨S32x1024, .f32⟩
  | 100 => ⟨S32x1024, .f32⟩
  | 101 => ⟨S32x1024, .f32⟩
  | 102 => ⟨S1024, .f32⟩
  | 103 => ⟨S32x1024, .f32⟩
  | 104 => ⟨S_, .f32⟩
  | 105 => ⟨S32, .f32⟩
  | 106 => ⟨S32x1, .f32⟩
  | 107 => ⟨S_, .f32⟩
  | 108 => ⟨S32x1, .f32⟩
  | 109 => ⟨S32x1, .f32⟩
  | 110 => ⟨S_, .f32⟩
  | 111 => ⟨S32x1, .f32⟩
  | 112 => ⟨S32x1, .f32⟩
  | 113 => ⟨S32x1, .f32⟩
  | 114 => ⟨S32x1024, .f32⟩
  | 115 => ⟨S32x1024, .f32⟩
  | 116 => ⟨S1x1024, .f32⟩
  | 117 => ⟨S32x1024, .f32⟩
  | 118 => ⟨S32x1024, .f32⟩
  | 119 => ⟨S32x5632, .f32⟩
  | 120 => ⟨S32x2816, .f32⟩
  | 121 => ⟨S32x2816, .f32⟩
  | 122 => ⟨S32x2816, .f32⟩
  | 123 => ⟨S32x2816, .f32⟩
  | 124 => ⟨S_, .f32⟩
  | 125 => ⟨S32x2816, .f32⟩
  | 126 => ⟨S32x2816, .f32⟩
  | 127 => ⟨S_, .f32⟩
  | _ => ⟨S32x1024, .f32⟩

abbrev hbmTy0_1 (i : Nat) : BufTy := match i % 128 with
  | 0 => ⟨S32x2816, .f32⟩
  | 1 => ⟨S32x2816, .f32⟩
  | 2 => ⟨S32x2816, .f32⟩
  | 3 => ⟨S32x2816, .f32⟩
  | 4 => ⟨S32x1024, .f32⟩
  | 5 => ⟨S32x1024, .f32⟩
  | 6 => ⟨S1024, .f32⟩
  | 7 => ⟨S32x1024, .f32⟩
  | 8 => ⟨S_, .f32⟩
  | 9 => ⟨S32, .f32⟩
  | 10 => ⟨S32x1, .f32⟩
  | 11 => ⟨S_, .f32⟩
  | 12 => ⟨S32x1, .f32⟩
  | 13 => ⟨S32x1, .f32⟩
  | 14 => ⟨S_, .f32⟩
  | 15 => ⟨S32x1, .f32⟩
  | 16 => ⟨S32x1, .f32⟩
  | 17 => ⟨S32x1, .f32⟩
  | 18 => ⟨S32x1024, .f32⟩
  | 19 => ⟨S32x1024, .f32⟩
  | 20 => ⟨S1x1024, .f32⟩
  | 21 => ⟨S32x1024, .f32⟩
  | 22 => ⟨S32x1024, .f32⟩
  | 23 => ⟨S14x32x1024, .f32⟩
  | 24 => ⟨S1x32x1024, .f32⟩
  | 25 => ⟨S15x32x1024, .f32⟩
  | 26 => ⟨S32x1024, .f32⟩
  | 27 => ⟨S32x1024, .f32⟩
  | 28 => ⟨S32x128, .f32⟩
  | 29 => ⟨S128, .f32⟩
  | 30 => ⟨S1x128, .f32⟩
  | 31 => ⟨S32x128, .f32⟩
  | 32 => ⟨S32x128, .f32⟩
  | 33 => ⟨S32x128, .f32⟩
  | 34 => ⟨S_, .f32⟩
  | 35 => ⟨S32x128, .f32⟩
  | 36 => ⟨S32x128, .f32⟩
  | 37 => ⟨S32x128, .f32⟩
  | 38 => ⟨S32x128, .f32⟩
  | 39 => ⟨S32x128, .i1⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S32x128, .f32⟩
  | 47 => ⟨S32x128, .f32⟩
  | 48 => ⟨S32x128, .f32⟩
  | 49 => ⟨S1024, .f32⟩
  | 50 => ⟨S32x1024, .f32⟩
  | 51 => ⟨S_, .f32⟩
  | 52 => ⟨S32, .f32⟩
  | 53 => ⟨S32x1, .f32⟩
  | 54 => ⟨S_, .f32⟩
  | 55 => ⟨S32x1, .f32⟩
  | 56 => ⟨S32x1, .f32⟩
  | 57 => ⟨S_, .f32⟩
  | 58 => ⟨S32x1, .f32⟩
  | 59 => ⟨S32x1, .f32⟩
  | 60 => ⟨S32x1, .f32⟩
  | 61 => ⟨S32x1024, .f32⟩
  | 62 => ⟨S32x1024, .f32⟩
  | 63 => ⟨S1x1024, .f32⟩
  | 64 => ⟨S32x1024, .f32⟩
  | 65 => ⟨S32x1024, .f32⟩
  | 66 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_10 : Ref sig .tc := ⟨.hbm, 104, rfl⟩
abbrev main_v77 : Ref sig .tc := ⟨.hbm, 105, rfl⟩
abbrev main_v78 : Ref sig .tc := ⟨.hbm, 106, rfl⟩
abbrev main_cst_11 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call0_v0 : Ref sig .tc := ⟨.hbm, 122, rfl⟩
abbrev main_call0_v1 : Ref sig .tc := ⟨.hbm, 123, rfl⟩
abbrev main_call0_cst : Ref sig .tc := ⟨.hbm, 124, rfl⟩
abbrev main_call0_v2 : Ref sig .tc := ⟨.hbm, 125, rfl⟩
abbrev main_call0_v3 : Ref sig .tc := ⟨.hbm, 126, rfl⟩
abbrev main_call0_cst_0 : Ref sig .tc := ⟨.hbm, 127, rfl⟩
abbrev main_call0_v4 : Ref sig .tc := ⟨.hbm, 128, rfl⟩
abbrev main_call0_v5 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_13 : Ref sig .tc := ⟨.hbm, 136, rfl⟩
abbrev main_v98 : Ref sig .tc := ⟨.hbm, 137, rfl⟩
abbrev main_v99 : Ref sig .tc := ⟨.hbm, 138, rfl⟩
abbrev main_cst_14 : Ref sig .tc := ⟨.hbm, 139, rfl⟩
abbrev main_v100 : Ref sig .tc := ⟨.hbm, 140, rfl⟩
abbrev main_v101 : Ref sig .tc := ⟨.hbm, 141, rfl⟩
abbrev main_cst_15 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_call1_v0 : Ref sig .tc := ⟨.hbm, 161, rfl⟩
abbrev main_call1_call0_cst : Ref sig .tc := ⟨.hbm, 162, rfl⟩
abbrev main_call1_call0_v0 : Ref sig .tc := ⟨.hbm, 163, rfl⟩
abbrev main_call1_call0_v1 : Ref sig .tc := ⟨.hbm, 164, rfl⟩
abbrev main_call1_call0_v2 : Ref sig .tc := ⟨.hbm, 165, rfl⟩
abbrev main_call1_call0_v3 : Ref sig .tc := ⟨.hbm, 166, rfl⟩
abbrev main_call1_call0_v4 : Ref sig .tc := ⟨.hbm, 167, rfl⟩
abbrev main_call1_call0_v5 : Ref sig .tc := ⟨.hbm, 168, rfl⟩
abbrev main_call1_call0_v6 : Ref sig .tc := ⟨.hbm, 169, rfl⟩
abbrev main_call1_call0_v7 : Ref sig .tc := ⟨.hbm, 170, rfl⟩
abbrev main_call1_call0_v8 : Ref sig .tc := ⟨.hbm, 171, rfl⟩
abbrev main_call1_call0_v9 : Ref sig .tc := ⟨.hbm, 172, rfl⟩
abbrev main_call1_call0_v10 : Ref sig .tc := ⟨.hbm, 173, rfl⟩
abbrev main_call1_call0_v11 : Ref sig .tc := ⟨.hbm, 174, rfl⟩
abbrev main_call1_v1 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_16 : Ref sig .tc := ⟨.hbm, 179, rfl⟩
abbrev main_v123 : Ref sig .tc := ⟨.hbm, 180, rfl⟩
abbrev main_v124 : Ref sig .tc := ⟨.hbm, 181, rfl⟩
abbrev main_cst_17 : Ref sig .tc := ⟨.hbm, 182, rfl⟩
abbrev main_v125 : Ref sig .tc := ⟨.hbm, 183, rfl⟩
abbrev main_v126 : Ref sig .tc := ⟨.hbm, 184, rfl⟩
abbrev main_cst_18 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩

abbrev nD : Nat := 1
abbrev τ : Topo := Topo.v7x

variable {F : FTy → Type} [FloatOps F]
-- ==== Proof.Rows.lean ====
/-
  The layer's row arithmetic over the extended reals, written once: a row times a matrix, the RMS norm of a row, and
  the gated feed-forward of a row. Both the kernels and the references are read down to these.
-/
module

public import Idealize.ShloMosaic.Lib.Pointwise

@[expose] public section

noncomputable section

open Idealize.ShloMosaic

namespace Cert.Rows

/-- The row length 1024 as both programs print it. -/
abbrev width : EReal := (Scalar.ofBits .f32 0x44800000#32 : Ideal .f32)

/-- The norm's epsilon as both programs print it. -/
abbrev eps : EReal := (Scalar.ofBits .f32 0x358637BD#32 : Ideal .f32)

/-- A row times a matrix, at column `l`. -/
def dot {K N : ℕ} (a : Fin K → EReal) (w : Fin K → Fin N → EReal) (l : Fin N) : EReal := ∑ k, a k * w k l

/-- The RMS norm of a row with gain `g`, at lane `l`. -/
def rms (x g : Fin 1024 → EReal) (l : Fin 1024) : EReal :=
  x l * Ideal.rsqrt (Ideal.div (∑ k, x k * x k) width + eps) * g l

/-- The gated feed-forward of a row: gate columns first, then as many value columns. -/
def ffn (h : Fin 1024 → EReal) (wgu : Fin 1024 → Fin 5632 → EReal) (wd : Fin 2816 → Fin 1024 → EReal) (l : Fin 1024) : EReal :=
  ∑ j : Fin 2816, dot h wgu ⟨j.val, by omega⟩ * Ideal.logistic (dot h wgu ⟨j.val, by omega⟩)
    * dot h wgu ⟨2816 + j.val, by omega⟩ * wd j l

/-- A row of the stream plus the mixer's row times its projection. -/
def resid (o x : Fin 1024 → EReal) (w : Fin 1024 → Fin 1024 → EReal) (l : Fin 1024) : EReal := x l + dot o w l

/-- The layer's second half on one row: the residual, the feed-forward of its norm added, the final norm. -/
def post (o x : Fin 1024 → EReal) (wo : Fin 1024 → Fin 1024 → EReal) (nf : Fin 1024 → EReal)
    (wgu : Fin 1024 → Fin 5632 → EReal) (wd : Fin 2816 → Fin 1024 → EReal) (nfin : Fin 1024 → EReal) (l : Fin 1024) : EReal :=
  rms (fun k => resid o x wo k + ffn (rms (resid o x wo) nf) wgu wd k) nfin l

/-- The log-sigmoid as the kernels print it. -/
def logsig (z : EReal) : EReal := min z 0 - Ideal.log1p (Ideal.exp (-(max z (-z))))

/-- A normed row times a matrix depends only on the entries. -/
theorem dot_rms_congr {N : ℕ} {x x' g g' : Fin 1024 → EReal} {w w' : Fin 1024 → Fin N → EReal} (hx : ∀ k, x k = x' k)
    (hg : ∀ k, g k = g' k) (hw : ∀ k l, w k l = w' k l) (l : Fin N) : dot (rms x g) w l = dot (rms x' g') w' l := by
  obtain rfl := funext hx
  obtain rfl := funext hg
  obtain rfl : w = w' := funext fun k => funext (hw k)
  rfl

theorem log1p_exp_ne_bot (y : EReal) : Ideal.log1p (Ideal.exp y) ≠ ⊥ := by
  induction y with
  | bot => show Ideal.log (1 + 0) ≠ ⊥; rw [add_zero]; show (if (1 : ℝ) ≤ 0 then (⊥ : EReal) else _) ≠ ⊥; rw [if_neg (by norm_num)]; exact EReal.coe_ne_bot _
  | top => show Ideal.log (1 + ⊤) ≠ ⊥; rw [show (1 : EReal) + ⊤ = ⊤ from EReal.coe_add_top 1]; exact top_ne_bot
  | coe x =>
    show (if 1 + Real.exp x ≤ 0 then (⊥ : EReal) else _) ≠ ⊥
    rw [if_neg (by have := Real.exp_pos x; linarith)]
    exact EReal.coe_ne_bot _

/-- The log-sigmoid is minus the soft maximum of minus its argument and zero. -/
theorem logsig_neg (z : EReal) : -(max (-z) 0 + Ideal.log1p (Ideal.exp (-(max (-z) (- -z))))) = logsig z := by
  have e : -(max (-z) 0) = min z 0 := by
    rcases le_total z 0 with h | h
    · rw [max_eq_left (by simpa using EReal.neg_le_neg_iff.mpr h), min_eq_left h, neg_neg]
    · rw [max_eq_right (by simpa using EReal.neg_le_neg_iff.mpr h), min_eq_right h, neg_zero]
  rw [EReal.neg_add (Or.inl (ne_of_gt (lt_of_lt_of_le EReal.bot_lt_zero (le_max_right _ _)))) (Or.inr (log1p_exp_ne_bot _)), e, neg_neg,
    max_comm]
  rfl

end Cert.Rows

end
-- ==== Proof.PostRef.lean ====
/-
  What the reference of the layer's second half computes: its composed term split into the residual, the norm and the
  feed-forward, each read at an index as the row arithmetic of Rows.lean.
-/
module

public import proofs.«01_k».proof.Proof.Rows
public import proofs.«01_k».proof.Proof.Gen.PostRefIdeal.Run

@[expose] public section

set_option maxRecDepth 16384

noncomputable section

open Idealize.ShloMosaic Idealize.ShloMosaic.TcCoe Idealize.SL.Sem Idealize.ShloMosaic.StableHlo

namespace Cert.Proof.PostRef

open Cert.PostRefIdeal Cert.PostRefIdeal.Gen

/-- The mixer's output times its projection, added to the stream. -/
def resid (o : FVec Ideal S4x8192x1024 .bf16) (x : FVec Ideal S4x8192x1024 .f32) (w : FVec Ideal S1024x1024 .bf16) :
    FVec Ideal S4x8192x1024 .f32 :=
  addf x (Host.dotGeneral dot_S4x8192x1024_S1024x1024_S4x8192x1024_2_0_01_1_n_n none (extf .f32 o bitsLt_bf16_f32)
    (extf .f32 w bitsLt_bf16_f32))

/-- The RMS norm of every row. -/
def norm (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast S1024 g shapeCasts_S1x1024_S1024)))

/-- A normed row times the gate and value weights. -/
def gu (h : FVec Ideal S4x8192x1024 .f32) (w : FVec Ideal S1024x5632 .bf16) : FVec Ideal S4x8192x5632 .f32 :=
  Host.dotGeneral dot_S4x8192x1024_S1024x5632_S4x8192x5632_2_0_01_1_n_n none h (extf .f32 w bitsLt_bf16_f32)

/-- The gate columns of `gu`. -/
def gate (h : FVec Ideal S4x8192x1024 .f32) (w : FVec Ideal S1024x5632 .bf16) : FVec Ideal S4x8192x2816 .f32 :=
  extractStridedSlice S4x8192x2816 ![0, 0, 0] (gu h w) slices_S4x8192x5632_S4x8192x2816_0_0_0

/-- The feed-forward of every row. -/
def ffn (h : FVec Ideal S4x8192x1024 .f32) (w : FVec Ideal S1024x5632 .bf16) (wd : FVec Ideal S2816x1024 .bf16) :
    FVec Ideal S4x8192x1024 .f32 :=
  Host.dotGeneral dot_S4x8192x2816_S2816x1024_S4x8192x1024_2_0_01_1_n_n none
    (mulf (mulf (gate h w) (Host.divf (broadcastInDim S4x8192x2816 ![] bcast_S_S4x8192x2816 (constant S_ .f32 0x3F800000#32))
        (addf (broadcastInDim S4x8192x2816 ![] bcast_S_S4x8192x2816 (constant S_ .f32 0x3F800000#32))
          (Host.exp (Host.negf (gate h w))))))
      (extractStridedSlice S4x8192x2816 ![0, 0, 2816] (gu h w) slices_S4x8192x5632_S4x8192x2816_0_0_2816))
    (extf .f32 wd bitsLt_bf16_f32)

/-- The whole reference over its arguments. -/
def term (o : FVec Ideal S4x8192x1024 .bf16) (x : FVec Ideal S4x8192x1024 .f32) (wo : FVec Ideal S1024x1024 .bf16)
    (nf : FVec Ideal S1x1024 .f32) (w : FVec Ideal S1024x5632 .bf16) (wd : FVec Ideal S2816x1024 .bf16)
    (nfin : FVec Ideal S1x1024 .f32) : FVec Ideal S4x8192x1024 .f32 :=
  norm (addf (resid o x wo) (ffn (norm (resid o x wo) nf) w wd)) nfin

/-- The reference's result is `term` of its arguments. -/
theorem res_eq (m : (ℓ : Loc nD τ sig) → Buf (Elt Ideal) ℓ) (c : Dev nD) :
    Value.res_out0 m c = term (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := rfl

theorem resid_at (o x w) (b : Fin 4) (r : Fin 8192) (l : Fin 1024) : resid o x w (ix3 b r l)
    = x (ix3 b r l) + Rows.dot (fun k => o (ix3 b r k)) (fun k l => w (ix2 k l)) l := by
  pointwise [resid, Rows.dot]

theorem norm_at (x g) (b : Fin 4) (r : Fin 8192) (l : Fin 1024) : norm x g (ix3 b r l)
    = Rows.rms (fun k => x (ix3 b r k)) (fun k => g (ix2 0 k)) l := by
  pointwise [norm, Rows.rms]

theorem gu_at (h w) (b : Fin 4) (r : Fin 8192) (l : Fin 5632) : gu h w (ix3 b r l)
    = Rows.dot (fun k => h (ix3 b r k)) (fun k l => w (ix2 k l)) l := by
  pointwise [gu, Rows.dot]

theorem ffn_at (h w wd) (b : Fin 4) (r : Fin 8192) (l : Fin 1024) : ffn h w wd (ix3 b r l)
    = Rows.ffn (fun k => h (ix3 b r k)) (fun k l => w (ix2 k l)) (fun k l => wd (ix2 k l)) l := by
  pointwise [ffn, gate, Rows.ffn, gu_at]
  rfl

/-- The reference at an index: the row arithmetic of the rows of its arguments. -/
theorem term_at (o x wo nf w wd nfin) (b : Fin 4) (r : Fin 8192) (l : Fin 1024) : term o x wo nf w wd nfin (ix3 b r l)
    = Rows.post (fun k => o (ix3 b r k)) (fun k => x (ix3 b r k)) (fun k l => wo (ix2 k l)) (fun k => nf (ix2 0 k))
        (fun k l => w (ix2 k l)) (fun k l => wd (ix2 k l)) (fun k => nfin (ix2 0 k)) l := by
  have e1 : (fun k => norm (resid o x wo) nf (ix3 b r k)) = Rows.rms (Rows.resid (fun k => o (ix3 b r k))
      (fun k => x (ix3 b r k)) (fun k l => wo (ix2 k l))) (fun k => nf (ix2 0 k)) := by
    funext k
    rw [norm_at]
    simp only [resid_at]
    rfl
  unfold term
  rw [norm_at]
  unfold Rows.post
  congr 1
  funext k
  show resid o x wo (ix3 b r k) + ffn (norm (resid o x wo) nf) w wd (ix3 b r k) = _
  rw [ffn_at, e1, resid_at]
  rfl

end Cert.Proof.PostRef

end
-- ==== Proof.PostValue.lean ====
/-
  What the kernel of the layer's second half computes: its payload at a row is the row arithmetic of Rows.lean, and the
  array it leaves is the reference's term.
-/
module

public import proofs.«01_k».proof.Proof.PostRef
public import proofs.«01_k».proof.Proof.Gen.PostIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.PostValue

open Cert.PostIdeal Cert.PostIdeal.Gen

variable (v0 : FVec Ideal S1x256x1024 .f32) (v2 : FVec Ideal S1x256x1024 .bf16) (v4 : FVec Ideal S1024x1024 .bf16)
  (v7 : FVec Ideal S1x1024 .f32) (v21 : FVec Ideal S1024x5632 .bf16) (v29 : FVec Ideal S2816x1024 .bf16)
  (v32 : FVec Ideal S1x1024 .f32)

/-- The stream after the projection, one block of rows. -/
def resid : FVec Ideal S256x1024 .f32 :=
  addf (shapeCast S256x1024 v0 shapeCasts_S1x256x1024_S256x1024)
    (matmul dot_S256x1024_S1024x1024_S256x1024_1_0_0_1_n_n none (shapeCast S256x1024 v2 shapeCasts_S1x256x1024_S256x1024) v4
      (constant S256x1024 .f32 0x00000000#32))

/-- The RMS norm of a block of rows. -/
def norm (x : FVec Ideal S256x1024 .f32) (g : FVec Ideal S1x1024 .f32) : FVec Ideal S256x1024 .f32 :=
  mulf (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024)) (broadcastTo S256x1024 g broadcasts_S1x1024_S256x1024)

/-- A block of normed rows times the gate and value weights. -/
def gu (h : FVec Ideal S256x1024 .f32) : FVec Ideal S256x5632 .f32 :=
  matmul dot_S256x1024_S1024x5632_S256x5632_1_0_0_1_n_n none (truncf .bf16 h bitsLt_bf16_f32) v21
    (constant S256x5632 .f32 0x00000000#32)

/-- The gate columns of `gu`. -/
def gate (h : FVec Ideal S256x1024 .f32) : FVec Ideal S256x2816 .f32 :=
  extractStridedSlice S256x2816 ![0, 0] (gu v21 h) slices_S256x5632_o0_0_S256x2816

/-- The feed-forward of a block of rows. -/
def ffn (h : FVec Ideal S256x1024 .f32) : FVec Ideal S256x1024 .f32 :=
  matmul dot_S256x2816_S2816x1024_S256x1024_1_0_0_1_n_n none
    (truncf .bf16 (mulf (mulf (gate v21 h) (logistic (gate v21 h)))
      (extractStridedSlice S256x2816 ![0, 2816] (gu v21 h) slices_S256x5632_o0_2816_S256x2816)) bitsLt_bf16_f32) v29
    (constant S256x1024 .f32 0x00000000#32)

theorem pay2_eq : k0_pay2 v0 v2 v4 v7 v21 v29
    = addf (resid v0 v2 v4) (ffn v21 v29 (norm (resid v0 v2 v4) v7)) := rfl

theorem pay1_eq (x : FVec Ideal S256x1024 .f32) : k0_pay1 x v32
      (multiReduction .add [1] S256 (mulf x x) 0x00000000#32 reduces_S256x1024_S256 (.inl rfl) rfl)
    = shapeCast S1x256x1024 (norm x v32) shapeCasts_S256x1024_S1x256x1024 := rfl

theorem resid_at (r : Fin 256) (l : Fin 1024) : resid v0 v2 v4 (ix2 r l)
    = Rows.resid (fun k => v2 (ix3 0 r k)) (fun k => v0 (ix3 0 r k)) (fun k l => v4 (ix2 k l)) l := by
  pointwise [resid, Rows.resid, Rows.dot]

theorem norm_at (x g) (r : Fin 256) (l : Fin 1024) : norm x g (ix2 r l)
    = Rows.rms (fun k => x (ix2 r k)) (fun k => g (ix2 0 k)) l := by
  pointwise [norm, Rows.rms]

theorem gu_at (h) (r : Fin 256) (l : Fin 5632) : gu v21 h (ix2 r l)
    = Rows.dot (fun k => h (ix2 r k)) (fun k l => v21 (ix2 k l)) l := by
  pointwise [gu, Rows.dot]

theorem ffn_at (h) (r : Fin 256) (l : Fin 1024) : ffn v21 v29 h (ix2 r l)
    = Rows.ffn (fun k => h (ix2 r k)) (fun k l => v21 (ix2 k l)) (fun k l => v29 (ix2 k l)) l := by
  pointwise [ffn, gate, Rows.ffn, gu_at]

/-- The stored block at row `r`: the row arithmetic of the blocks' rows. -/
theorem point_at (u : Fin 1) (r : Fin 256) (l : Fin 1024) :
    (k0_pay1 (F := Ideal) (k0_pay2 v0 v2 v4 v7 v21 v29) v32 (k0_pay3 v0 v2 v4 v7 v21 v29) (ix3 u r l) : EReal)
    = Rows.post (fun k => v2 (ix3 0 r k)) (fun k => v0 (ix3 0 r k)) (fun k l => v4 (ix2 k l)) (fun k => v7 (ix2 0 k))
        (fun k l => v21 (ix2 k l)) (fun k l => v29 (ix2 k l)) (fun k => v32 (ix2 0 k)) l := by
  show k0_pay1 (F := Ideal) (k0_pay2 v0 v2 v4 v7 v21 v29) v32 (multiReduction .add [1] S256
    (mulf (k0_pay2 v0 v2 v4 v7 v21 v29) (k0_pay2 v0 v2 v4 v7 v21 v29)) 0x00000000#32 reduces_S256x1024_S256 (.inl rfl) rfl)
    (ix3 u r l) = _
  rw [pay1_eq]
  have e : ∀ y : FVec Ideal S256x1024 .f32,
      shapeCast S1x256x1024 y shapeCasts_S256x1024_S1x256x1024 (ix3 u r l) = y (ix2 r l) := by
    intro y
    pointwise
  rw [e, norm_at]
  unfold Rows.post
  congr 1
  funext k
  rw [pay2_eq]
  show resid v0 v2 v4 (ix2 r k) + ffn v21 v29 (norm (resid v0 v2 v4) v7) (ix2 r k) = _
  rw [ffn_at, resid_at]
  simp only [norm_at, resid_at]

variable (m : (ℓ : Loc nD τ sig) → Buf (Elt Ideal) ℓ)

/-- The windows' block indices: the rows' blocks go by batch and tile, the weights are whole. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![0, 0] ∧ win0_3.index t = ![0, 0] ∧ win0_4.index t = ![0, 0] ∧ win0_5.index t = ![0, 0]
    ∧ win0_6.index t = ![0, 0] ∧ win0_7.index t = ![(grid0.coords t 0).val, (grid0.coords t 1).val, 0] :=
  (by decide +kernel : ∀ t : Fin grid0.N, _)

/-- The stored block of point `t` is the reference's term at the array index it sits at. -/
theorem point (c : Dev nD) (t : Fin cfg0.N) (y : S1x256x1024.Idx) :
    k0_pay1 (k0_pay2 (iblk m c 1 t) (iblk m c 0 t) (iblk m c 2 t) (iblk m c 3 t) (iblk m c 4 t) (iblk m c 5 t))
      (iblk m c 6 t) (k0_pay3 (iblk m c 1 t) (iblk m c 0 t) (iblk m c 2 t) (iblk m c 3 t) (iblk m c 4 t) (iblk m c 5 t)) y
    = PostRef.term (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (((cfg0.win 7).blk t).view.emb y) := by
  obtain ⟨u, r, l, rfl⟩ : ∃ u r l, y = ix3 u r l := ⟨y 0, y 1, y 2, eq_ix3 y⟩
  rw [point_at, eq_ix3 (((cfg0.win 7).blk t).view.emb (ix3 u r l))]
  refine Eq.trans ?_ (PostRef.term_at _ _ _ _ _ _ _ _ _ _).symm
  have el : l = (((cfg0.win 7).blk t).view.emb (ix3 u r l)) 2 := Fin.ext (by blk_simp [idx t])
  rw [← el]
  congr 1 <;> (try funext k) <;> (try funext l) <;> blk_ext [iblk, V, idx t]

/-- The result array after the run is the reference's term of the arguments. -/
theorem final (c : Dev nD) : (dats m 0 c).arrAt 7 (cfgs 0).N
    = PostRef.term (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t _ y => ?_
  blk_simp
  rw [after0_7]
  frame_out
  exact point m c t y

end Cert.Proof.PostValue

end
-- ==== Proof.PostEq.lean ====
/-
  The second half of the layer: the kernel's run and the reference's run leave the same array.
-/
module

public import proofs.«01_k».proof.Defs
public import proofs.«01_k».proof.Proof.PostValue
public import proofs.«01_k».proof.Proof.Gen.PostIdeal.Frame
public import proofs.«01_k».proof.Proof.Gen.PostRefIdeal.Run

@[expose] public section

noncomputable section

open Idealize.ShloMosaic Idealize.ShloMosaic.TcCoe Idealize.SL.Sem

namespace Cert.Proof.PostEq

/-- From memories agreeing on the arguments, the kernel and its reference end with equal results. -/
theorem algebraic : Cert.algebraic_PostIdeal_PostRefIdeal := by
  intro m ρ m' ρ' _ hag
  refine ⟨fun c => PostRef.term (m ((c.tc : Thread Cert.PostIdeal.nD Cert.PostIdeal.τ).loc Cert.PostIdeal.main_arg0)) (m ((c.tc : Thread Cert.PostIdeal.nD Cert.PostIdeal.τ).loc Cert.PostIdeal.main_arg1))
    (m ((c.tc : Thread Cert.PostIdeal.nD Cert.PostIdeal.τ).loc Cert.PostIdeal.main_arg2)) (m ((c.tc : Thread Cert.PostIdeal.nD Cert.PostIdeal.τ).loc Cert.PostIdeal.main_arg3))
    (m ((c.tc : Thread Cert.PostIdeal.nD Cert.PostIdeal.τ).loc Cert.PostIdeal.main_arg4)) (m ((c.tc : Thread Cert.PostIdeal.nD Cert.PostIdeal.τ).loc Cert.PostIdeal.main_arg5))
    (m ((c.tc : Thread Cert.PostIdeal.nD Cert.PostIdeal.τ).loc Cert.PostIdeal.main_arg6)), ?_, ?_⟩
  · exact (θ_run _ _ _).mono (fun _ h c => ⟨(h c).1.trans (PostValue.final m c), (h c).2⟩) (Cert.PostIdeal.Value.run_blocks m ρ)
  · refine (θ_run _ _ _).mono (fun _ h c => ⟨(h c).1.trans ?_, (h c).2⟩) (Cert.PostRefIdeal.Value.run m' ρ')
    obtain ⟨h0, h1, h2, h3, h4, h5, h6⟩ := hag c
    beta_reduce
    rw [← h0, ← h1, ← h2, ← h3, ← h4, ← h5, ← h6]
    exact PostRef.res_eq m' c

end Cert.Proof.PostEq

end
-- ==== Proof.PoolRows.lean ====
/-
  The pooling mixer's row arithmetic over the extended reals: the sum of a column over the window of rows that ends at a
  row, the number of rows in it, and the grouped projection of the window's mean less the row itself.
-/
module

public import proofs.«01_k».proof.Proof.Rows

@[expose] public section

noncomputable section

open Idealize.ShloMosaic

namespace Cert.Rows

/-- The column's entry `j` rows before row `t`, zero before the first row. -/
def back (u : Fin 8192 → EReal) (t : Fin 8192) (j : ℕ) : EReal := if j ≤ t.val then u ⟨t.val - j, by omega⟩ else 0

/-- The sum of the last `w` rows up to row `t`. -/
def window (w : ℕ) (u : Fin 8192 → EReal) (t : Fin 8192) : EReal := ∑ j ∈ Finset.range w, back u t j

/-- How many rows the window holds. -/
def count (w : ℕ) (t : Fin 8192) : EReal := ((min (t.val + 1) w : ℕ) : ℝ)

/-- The window's sum is the column times the window's indicator. -/
theorem window_eq (w : ℕ) (u : Fin 8192 → EReal) (t : Fin 8192) :
    (∑ s : Fin 8192, (if t.val + 1 - w ≤ s.val ∧ s.val ≤ t.val then (1 : EReal) else 0) * u s) = window w u t := by
  have e : ∀ s : Fin 8192, (if t.val + 1 - w ≤ s.val ∧ s.val ≤ t.val then (1 : EReal) else 0) * u s
      = if t.val + 1 - w ≤ s.val ∧ s.val ≤ t.val then u s else 0 := fun s => by
    split
    · exact one_mul _
    · exact zero_mul _
  rw [Finset.sum_congr rfl fun s _ => e s, ← Finset.sum_filter]
  unfold window back
  rw [← Finset.sum_filter]
  refine Finset.sum_bij' (fun s _ => t.val - s.val) (fun j _ => ⟨t.val - j, by omega⟩) ?_ ?_ ?_ ?_ ?_
  · intro s hs
    have h := (Finset.mem_filter.mp hs).2
    refine Finset.mem_filter.mpr ⟨Finset.mem_range.mpr ?_, ?_⟩ <;> omega
  · intro j hj
    have h := (Finset.mem_filter.mp hj).2
    have h' := Finset.mem_range.mp (Finset.mem_filter.mp hj).1
    refine Finset.mem_filter.mpr ⟨Finset.mem_univ _, ?_⟩
    dsimp only
    omega
  · intro s hs
    have h := (Finset.mem_filter.mp hs).2
    apply Fin.ext
    dsimp only
    omega
  · intro j hj
    have h := (Finset.mem_filter.mp hj).2
    dsimp only
    omega
  · intro s hs
    have h := (Finset.mem_filter.mp hs).2
    congr 1
    apply Fin.ext
    dsimp only
    omega

/-- The window's width by group of lanes. -/
def wide (g : Fin 4) : ℕ := 2 ^ (g.val + 1)

theorem wide_pos (g : Fin 4) : 0 < wide g := Nat.two_pow_pos _

theorem count_ne_zero (w : ℕ) (hw : 0 < w) (t : Fin 8192) : count w t ≠ 0 := by
  unfold count
  have : 0 < min (t.val + 1) w := lt_min (Nat.succ_pos _) hw
  exact_mod_cast this.ne'

/-- A sum divided by the count, and the sum times one over the count. -/
theorem div_count (w : ℕ) (hw : 0 < w) (t : Fin 8192) (s : EReal) : s * Ideal.div 1 (count w t) = Ideal.div s (count w t) := by
  unfold Ideal.div
  rw [if_neg (count_ne_zero w hw t), if_neg (count_ne_zero w hw t), one_mul]

/-- The window's mean less the row, at a lane of a group. -/
def excess (h : Fin 8192 → Fin 1024 → EReal) (t : Fin 8192) (g : Fin 4) (k : Fin 256) : EReal :=
  Ideal.div (window (wide g) (fun s => h s ⟨256 * g.val + k.val, by omega⟩) t) (count (wide g) t)
    - h t ⟨256 * g.val + k.val, by omega⟩

/-- The mixer's output at a lane of a group. -/
def mixAt (h : Fin 8192 → Fin 1024 → EReal) (pw : Fin 4 → Fin 256 → Fin 256 → EReal) (t : Fin 8192) (g : Fin 4) (j : Fin 256) : EReal :=
  ∑ k, excess h t g k * pw g k j

/-- The mixer's output at a lane. -/
def mix (h : Fin 8192 → Fin 1024 → EReal) (pw : Fin 4 → Fin 256 → Fin 256 → EReal) (t : Fin 8192) (l : Fin 1024) : EReal :=
  mixAt h pw t ⟨l.val / 256, by omega⟩ ⟨l.val % 256, Nat.mod_lt _ (by omega)⟩

theorem mix_eq (h : Fin 8192 → Fin 1024 → EReal) (pw : Fin 4 → Fin 256 → Fin 256 → EReal) (t : Fin 8192) (l : Fin 1024) (g : Fin 4)
    (j : Fin 256) (e : l.val = 256 * g.val + j.val) : mix h pw t l = mixAt h pw t g j := by
  unfold mix
  congr 1 <;> apply Fin.ext <;> dsimp only <;> omega

/-- The row after the mixer: the row plus the scaled and shifted mixer's output. -/
def mixed (x : Fin 8192 → Fin 1024 → EReal) (nm pb ps : Fin 1024 → EReal) (pw : Fin 4 → Fin 256 → Fin 256 → EReal) (t : Fin 8192)
    (l : Fin 1024) : EReal := x t l + (mix (fun s => rms (x s) nm) pw t l + pb l) * ps l

/-- The whole first layer on the rows of one sequence. -/
def layer (x : Fin 8192 → Fin 1024 → EReal) (nm nf pb ps : Fin 1024 → EReal) (pw : Fin 4 → Fin 256 → Fin 256 → EReal)
    (wgu : Fin 1024 → Fin 5632 → EReal) (wd : Fin 2816 → Fin 1024 → EReal) (t : Fin 8192) (l : Fin 1024) : EReal :=
  mixed x nm pb ps pw t l + ffn (rms (mixed x nm pb ps pw t) nf) wgu wd l

end Cert.Rows

end
-- ==== Proof.LayerZeroRef.lean ====
/-
  What the reference of the layer's first half computes: its composed term split into the norm, the pooling mixer by
  group of lanes, the residual and the feed-forward, each read at an index as the row arithmetic of PoolRows.lean.
-/
module

public import proofs.«01_k».proof.Proof.PoolRows
public import proofs.«01_k».proof.Proof.Gen.LayerZeroRefIdeal.Run
public import Idealize.ShloMosaic.Lib.WordCmp

@[expose] public section

set_option maxRecDepth 16384

noncomputable section

open Idealize.ShloMosaic Idealize.ShloMosaic.TcCoe Idealize.SL.Sem Idealize.ShloMosaic.StableHlo

namespace Cert.Proof.LayerZeroRef

open Cert.LayerZeroRefIdeal Cert.LayerZeroRefIdeal.Gen

/-- The RMS norm of every row. -/
def norm (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast S1024 g shapeCasts_S1x1024_S1024)))

/-- The row numbers. -/
def rowNo : IVec S8192 32 := iotaInDim S8192 32 0

/-- The row after each row. -/
def nextNo : IVec S8192 32 := addi rowNo (broadcastInDim S8192 ![] bcast_S_S8192 (constantI S_ 32 1#32))

/-- The first row of the window of width `w` that ends at each row. -/
def start (w : BitVec 32) : IVec S8192 32 :=
  maxsi (subi nextNo (broadcastInDim S8192 ![] bcast_S_S8192 (constantI S_ 32 w)))
    (broadcastInDim S8192 ![] bcast_S_S8192 (constantI S_ 32 0#32))

/-- One at the rows of each row's window, zero elsewhere. -/
def mask (w : BitVec 32) : FVec Ideal S8192x8192 .f32 :=
  select (andi (cmpi .sge (broadcastInDim S8192x8192 ![0, 1] bcast_S1x8192_S8192x8192_0_1
        (broadcastInDim S1x8192 ![1] bcast_S8192_S1x8192_1 rowNo))
      (broadcastInDim S8192x8192 ![0, 1] bcast_S8192x1_S8192x8192_0_1 (broadcastInDim S8192x1 ![0] bcast_S8192_S8192x1_0 (start w))))
    (cmpi .sle (broadcastInDim S8192x8192 ![0, 1] bcast_S1x8192_S8192x8192_0_1
        (broadcastInDim S1x8192 ![1] bcast_S8192_S1x8192_1 rowNo))
      (broadcastInDim S8192x8192 ![0, 1] bcast_S8192x1_S8192x8192_0_1 (broadcastInDim S8192x1 ![0] bcast_S8192_S8192x1_0 rowNo))))
    (broadcastInDim S8192x8192 ![] bcast_S_S8192x8192 (constant S_ .f32 0x3F800000#32))
    (broadcastInDim S8192x8192 ![] bcast_S_S8192x8192 (constant S_ .f32 0x00000000#32))

/-- The size of each row's window. -/
def size (w : BitVec 32) : FVec Ideal S8192 .f32 := sitofp .f32 (subi nextNo (start w))

/-- The window's mean less the row, on one group of lanes. -/
def excess (u : FVec Ideal S4x8192x256 .f32) (w : BitVec 32) : FVec Ideal S4x8192x256 .f32 :=
  subf (Host.divf (transpose S4x8192x256 [0, 2, 1]
      (Host.dotGeneral dot_S4x8192x256_S8192x8192_S4x256x8192_1_1_02_0_n_n none u (mask w)) transposes_S4x256x8192_S4x8192x256_0_2_1)
    (broadcastInDim S4x8192x256 ![0, 1, 2] bcast_S1x8192x1_S4x8192x256_0_1_2
      (broadcastInDim S1x8192x1 ![1] bcast_S8192_S1x8192x1_1 (size w)))) u

/-- One group's projection. -/
def group (u : FVec Ideal S4x8192x256 .f32) (w : BitVec 32) (p : FVec Ideal S256x256 .f32) : FVec Ideal S4x8192x256 .f32 :=
  Host.dotGeneral dot_S4x8192x256_S256x256_S4x8192x256_2_0_01_1_n_n none (excess u w) p

/-- The projection matrices of the mixer. -/
def pool (pw : FVec Ideal S4x256x256 .bf16) : FVec Ideal S4x256x256 .f32 := extf .f32 pw bitsLt_bf16_f32

/-- The mixer's output, its four groups side by side. -/
def mix (h : FVec Ideal S4x8192x1024 .f32) (pw : FVec Ideal S4x256x256 .bf16) : FVec Ideal S4x8192x1024 .f32 :=
  concatenate S4x8192x1024 2
    [⟨S4x8192x256, group (extractStridedSlice S4x8192x256 ![0, 0, 0] h slices_S4x8192x1024_S4x8192x256_0_0_0) 2#32
        (shapeCast S256x256 (extractStridedSlice S1x256x256 ![0, 0, 0] (pool pw) slices_S4x256x256_S1x256x256_0_0_0) shapeCasts_S1x256x256_S256x256)⟩,
      ⟨S4x8192x256, group (extractStridedSlice S4x8192x256 ![0, 0, 256] h slices_S4x8192x1024_S4x8192x256_0_0_256) 4#32
        (shapeCast S256x256 (extractStridedSlice S1x256x256 ![1, 0, 0] (pool pw) slices_S4x256x256_S1x256x256_1_0_0) shapeCasts_S1x256x256_S256x256)⟩,
      ⟨S4x8192x256, group (extractStridedSlice S4x8192x256 ![0, 0, 512] h slices_S4x8192x1024_S4x8192x256_0_0_512) 8#32
        (shapeCast S256x256 (extractStridedSlice S1x256x256 ![2, 0, 0] (pool pw) slices_S4x256x256_S1x256x256_2_0_0) shapeCasts_S1x256x256_S256x256)⟩,
      ⟨S4x8192x256, group (extractStridedSlice S4x8192x256 ![0, 0, 768] h slices_S4x8192x1024_S4x8192x256_0_0_768) 16#32
        (shapeCast S256x256 (extractStridedSlice S1x256x256 ![3, 0, 0] (pool pw) slices_S4x256x256_S1x256x256_3_0_0) shapeCasts_S1x256x256_S256x256)⟩]
    concatenates_S4x8192x256_S4x8192x256_S4x8192x256_S4x8192x256_S4x8192x1024_d2

/-- A vector of one row laid along every row. -/
def rows (g : FVec Ideal S1x1024 .f32) : FVec Ideal S4x8192x1024 .f32 :=
  broadcastInDim S4x8192x1024 ![0, 1, 2] bcast_S1x1x1024_S4x8192x1024_0_1_2
    (broadcastInDim S1x1x1024 ![2] bcast_S1024_S1x1x1024_2 (shapeCast S1024 g shapeCasts_S1x1024_S1024))

/-- The stream after the mixer. -/
def mixed (x : FVec Ideal S4x8192x1024 .f32) (nm pb ps : FVec Ideal S1x1024 .f32) (pw : FVec Ideal S4x256x256 .bf16) :
    FVec Ideal S4x8192x1024 .f32 := addf x (mulf (addf (mix (norm x nm) pw) (rows pb)) (rows ps))

/-- A normed row times the gate and value weights. -/
def gu (h : FVec Ideal S4x8192x1024 .f32) (w : FVec Ideal S1024x5632 .bf16) : FVec Ideal S4x8192x5632 .f32 :=
  Host.dotGeneral dot_S4x8192x1024_S1024x5632_S4x8192x5632_2_0_01_1_n_n none h (extf .f32 w bitsLt_bf16_f32)

/-- The gate columns of `gu`. -/
def gate (h : FVec Ideal S4x8192x1024 .f32) (w : FVec Ideal S1024x5632 .bf16) : FVec Ideal S4x8192x2816 .f32 :=
  extractStridedSlice S4x8192x2816 ![0, 0, 0] (gu h w) slices_S4x8192x5632_S4x8192x2816_0_0_0

/-- The feed-forward of every row. -/
def ffn (h : FVec Ideal S4x8192x1024 .f32) (w : FVec Ideal S1024x5632 .bf16) (wd : FVec Ideal S2816x1024 .bf16) :
    FVec Ideal S4x8192x1024 .f32 :=
  Host.dotGeneral dot_S4x8192x2816_S2816x1024_S4x8192x1024_2_0_01_1_n_n none
    (mulf (mulf (gate h w) (Host.divf (broadcastInDim S4x8192x2816 ![] bcast_S_S4x8192x2816 (constant S_ .f32 0x3F800000#32))
        (addf (broadcastInDim S4x8192x2816 ![] bcast_S_S4x8192x2816 (constant S_ .f32 0x3F800000#32))
          (Host.exp (Host.negf (gate h w))))))
      (extractStridedSlice S4x8192x2816 ![0, 0, 2816] (gu h w) slices_S4x8192x5632_S4x8192x2816_0_0_2816))
    (extf .f32 wd bitsLt_bf16_f32)

/-- The stream's reference over its arguments. -/
def term (x : FVec Ideal S4x8192x1024 .f32) (nm nf pb ps : FVec Ideal S1x1024 .f32) (pw : FVec Ideal S4x256x256 .bf16)
    (w : FVec Ideal S1024x5632 .bf16) (wd : FVec Ideal S2816x1024 .bf16) : FVec Ideal S4x8192x1024 .f32 :=
  addf (mixed x nm pb ps pw) (ffn (norm (mixed x nm pb ps pw) nf) w wd)

/-- The pool state's reference: the last fifteen normed rows. -/
def state (x : FVec Ideal S4x8192x1024 .f32) (nm : FVec Ideal S1x1024 .f32) : FVec Ideal S4x1x15x1024 .f32 :=
  broadcastInDim S4x1x15x1024 ![0, 2, 3] bcast_S4x15x1024_S4x1x15x1024_0_2_3
    (extractStridedSlice S4x15x1024 ![0, 8177, 0] (norm x nm) slices_S4x8192x1024_S4x15x1024_0_8177_0)

section
variable (V : Valuation τ sig (Elt Ideal))

theorem norm_eq : Value.res_main_v16 V = norm (V (Proc.devRef .tc main_arg0)) (V (Proc.devRef .tc main_arg1)) := rfl

theorem mix_eq : Value.res_main_v146 V = mix (Value.res_main_v16 V) (V (Proc.devRef .tc main_arg5)) := rfl

theorem mixed_eq : Value.res_main_v155 V = mixed (V (Proc.devRef .tc main_arg0)) (V (Proc.devRef .tc main_arg1))
    (V (Proc.devRef .tc main_arg3)) (V (Proc.devRef .tc main_arg4)) (V (Proc.devRef .tc main_arg5)) := by
  unfold Value.res_main_v155
  rw [mix_eq, norm_eq]
  rfl

theorem gu_eq : Value.res_main_v170 V = gu (norm (Value.res_main_v155 V) (V (Proc.devRef .tc main_arg2))) (V (Proc.devRef .tc main_arg6)) := rfl

theorem gate_eq : Value.res_main_v171 V
    = gate (norm (Value.res_main_v155 V) (V (Proc.devRef .tc main_arg2))) (V (Proc.devRef .tc main_arg6)) := rfl
end

theorem norm_at (x g) (b : Fin 4) (r : Fin 8192) (l : Fin 1024) : norm x g (ix3 b r l)
    = Rows.rms (fun k => x (ix3 b r k)) (fun k => g (ix2 0 k)) l := by
  pointwise [norm, Rows.rms]

theorem gu_at (h w) (b : Fin 4) (r : Fin 8192) (l : Fin 5632) : gu h w (ix3 b r l)
    = Rows.dot (fun k => h (ix3 b r k)) (fun k l => w (ix2 k l)) l := by
  pointwise [gu, Rows.dot]

theorem ffn_at (h w wd) (b : Fin 4) (r : Fin 8192) (l : Fin 1024) : ffn h w wd (ix3 b r l)
    = Rows.ffn (fun k => h (ix3 b r k)) (fun k l => w (ix2 k l)) (fun k l => wd (ix2 k l)) l := by
  pointwise [ffn, gate, Rows.ffn, gu_at]
  rfl

theorem start_word : ∀ g : Fin 4, ∀ t : Fin 8192,
    IntOp.maxsi (IntOp.subi (IntOp.addi (BitVec.ofNat 32 t.val) 1#32) (BitVec.ofNat 32 (Rows.wide g))) 0#32
      = BitVec.ofNat 32 (t.val + 1 - Rows.wide g) := by decide +kernel

theorem size_word : ∀ g : Fin 4, ∀ t : Fin 8192,
    (IntOp.subi (IntOp.addi (BitVec.ofNat 32 t.val) 1#32) (BitVec.ofNat 32 (t.val + 1 - Rows.wide g))).toInt
      = ((min (t.val + 1) (Rows.wide g) : ℕ) : ℤ) := by decide +kernel

theorem start_at (g : Fin 4) (t : Fin 8192) :
    start (BitVec.ofNat 32 (Rows.wide g)) (ix1 t) = BitVec.ofNat 32 (t.val + 1 - Rows.wide g) := start_word g t

theorem size_at (g : Fin 4) (t : Fin 8192) : size (BitVec.ofNat 32 (Rows.wide g)) (ix1 t) = Rows.count (Rows.wide g) t := by
  show (((IntOp.subi (IntOp.addi (BitVec.ofNat 32 t.val) 1#32) (start (BitVec.ofNat 32 (Rows.wide g)) (ix1 t))).toInt : ℝ) : EReal) = _
  rw [start_at, size_word]
  rfl

theorem mask_at (g : Fin 4) (t s : Fin 8192) : (mask (BitVec.ofNat 32 (Rows.wide g)) (ix2 t s) : EReal)
    = if t.val + 1 - Rows.wide g ≤ s.val ∧ s.val ≤ t.val then 1 else 0 := by
  have e : (mask (BitVec.ofNat 32 (Rows.wide g)) (ix2 t s) : EReal)
      = Scalar.select (IntOp.andi (IntOp.cmpi .sge (BitVec.ofNat 32 s.val) (start (BitVec.ofNat 32 (Rows.wide g)) (ix1 t)))
          (IntOp.cmpi .sle (BitVec.ofNat 32 s.val) (BitVec.ofNat 32 t.val))) (1 : EReal) 0 := by
    pointwise [mask, rowNo]
  rw [e, start_at, WordCmp.cmpi_sge_ofNat (by omega) (by omega), WordCmp.cmpi_sle_ofNat (by omega) (by omega), WordCmp.andi_ofBool]
  by_cases h1 : t.val + 1 - Rows.wide g ≤ s.val <;> by_cases h2 : s.val ≤ t.val <;> simp [h1, h2, Scalar.select]

theorem excess_at (u : FVec Ideal S4x8192x256 .f32) (g : Fin 4) (b : Fin 4) (t : Fin 8192) (k : Fin 256) :
    (excess u (BitVec.ofNat 32 (Rows.wide g)) (ix3 b t k) : EReal)
    = Ideal.div (Rows.window (Rows.wide g) (fun s => u (ix3 b s k)) t) (Rows.count (Rows.wide g) t) - u (ix3 b t k) := by
  have e : (excess u (BitVec.ofNat 32 (Rows.wide g)) (ix3 b t k) : EReal)
      = Ideal.div (∑ s : Fin 8192, u (ix3 b s k) * mask (BitVec.ofNat 32 (Rows.wide g)) (ix2 t s))
          (size (BitVec.ofNat 32 (Rows.wide g)) (ix1 t)) - u (ix3 b t k) := by
    pointwise [excess]
  rw [e, size_at, ← Rows.window_eq]
  congr 2
  refine Finset.sum_congr rfl fun s _ => ?_
  rw [mask_at, mul_comm]

theorem group_at (u : FVec Ideal S4x8192x256 .f32) (p : FVec Ideal S256x256 .f32) (g : Fin 4) (b : Fin 4) (t : Fin 8192) (l : Fin 256) :
    (group u (BitVec.ofNat 32 (Rows.wide g)) p (ix3 b t l) : EReal)
    = ∑ k : Fin 256, (Ideal.div (Rows.window (Rows.wide g) (fun s => u (ix3 b s k)) t) (Rows.count (Rows.wide g) t) - u (ix3 b t k))
        * p (ix2 k l) := by
  have e : (group u (BitVec.ofNat 32 (Rows.wide g)) p (ix3 b t l) : EReal)
      = ∑ k : Fin 256, excess u (BitVec.ofNat 32 (Rows.wide g)) (ix3 b t k) * p (ix2 k l) := by
    pointwise [group]
  rw [e]
  refine Finset.sum_congr rfl fun k _ => ?_
  rw [excess_at]

/-- A group of the mixer: lanes `256 g ..` of the normed rows, projected by matrix `g`. -/
theorem group_mix (h : FVec Ideal S4x8192x1024 .f32) (pw : FVec Ideal S4x256x256 .bf16) (u : FVec Ideal S4x8192x256 .f32)
    (p : FVec Ideal S256x256 .f32) (g : Fin 4) (w : BitVec 32) (hw : w = BitVec.ofNat 32 (Rows.wide g))
    (hu : ∀ b s (k : Fin 256), u (ix3 b s k) = h (ix3 b s ⟨256 * g.val + k.val, by omega⟩))
    (hp : ∀ k l, p (ix2 k l) = pw (ix3 g k l)) (b : Fin 4) (t : Fin 8192) (l : Fin 256) :
    (group u w p (ix3 b t l) : EReal) = Rows.mixAt (fun s k => h (ix3 b s k)) (fun g k l => pw (ix3 g k l)) t g l := by
  subst hw
  rw [group_at]
  unfold Rows.mixAt Rows.excess
  refine Finset.sum_congr rfl fun k _ => ?_
  rw [hp, hu]
  simp only [hu]

theorem mix_at (h pw) (b : Fin 4) (t : Fin 8192) (l : Fin 1024) : (mix h pw (ix3 b t l) : EReal)
    = Rows.mix (fun s k => h (ix3 b s k)) (fun g k l => pw (ix3 g k l)) t l := by
  have hg : ∀ (g : Fin 4) (j : Fin 256), l.val = 256 * g.val + j.val →
      Rows.mixAt (fun s k => h (ix3 b s k)) (fun g k l => (pw (ix3 g k l) : EReal)) t g j
        = Rows.mix (fun s k => h (ix3 b s k)) (fun g k l => (pw (ix3 g k l) : EReal)) t l := fun g j e => (Rows.mix_eq _ _ t l g j e).symm
  pointwise [mix]
  split
  · exact (group_mix h pw _ _ 0 _ rfl (by intros; pointwise) (by intros; pointwise [pool]) b t _).trans (hg 0 _ (by simp))
  · split
    · exact (group_mix h pw _ _ 1 _ rfl (by intros; pointwise) (by intros; pointwise [pool]) b t _).trans (hg 1 _ (by simp; omega))
    · split
      · exact (group_mix h pw _ _ 2 _ rfl (by intros; pointwise) (by intros; pointwise [pool]) b t _).trans (hg 2 _ (by simp; omega))
      · exact (group_mix h pw _ _ 3 _ rfl (by intros; pointwise) (by intros; pointwise [pool]) b t _).trans (hg 3 _ (by simp; omega))

theorem mixed_at (x nm pb ps pw) (b : Fin 4) (t : Fin 8192) (l : Fin 1024) : (mixed x nm pb ps pw (ix3 b t l) : EReal)
    = Rows.mixed (fun s k => x (ix3 b s k)) (fun k => nm (ix2 0 k)) (fun k => pb (ix2 0 k)) (fun k => ps (ix2 0 k))
        (fun g k l => pw (ix3 g k l)) t l := by
  have e : ∀ g, rows g (ix3 b t l) = g (ix2 0 l) := by
    intro g
    pointwise [rows]
  show x (ix3 b t l) + (mix (norm x nm) pw (ix3 b t l) + rows pb (ix3 b t l)) * rows ps (ix3 b t l) = _
  rw [mix_at, e, e]
  unfold Rows.mixed
  simp only [norm_at]

/-- The reference at an index: the row arithmetic of the rows of its arguments. -/
theorem term_at (x nm nf pb ps pw w wd) (b : Fin 4) (t : Fin 8192) (l : Fin 1024) : (term x nm nf pb ps pw w wd (ix3 b t l) : EReal)
    = Rows.layer (fun s k => x (ix3 b s k)) (fun k => nm (ix2 0 k)) (fun k => nf (ix2 0 k)) (fun k => pb (ix2 0 k))
        (fun k => ps (ix2 0 k)) (fun g k l => pw (ix3 g k l)) (fun k l => w (ix2 k l)) (fun k l => wd (ix2 k l)) t l := by
  show mixed x nm pb ps pw (ix3 b t l) + ffn (norm (mixed x nm pb ps pw) nf) w wd (ix3 b t l) = _
  rw [ffn_at, mixed_at]
  simp only [norm_at, mixed_at]
  rfl

/-- The pool state at an index: the norm of one of the last fifteen rows. -/
theorem state_at (x nm) (b : Fin 4) (u : Fin 1) (r : Fin 15) (l : Fin 1024) : (state x nm (ix4 b u r l) : EReal)
    = Rows.rms (fun k => x (ix3 b ⟨8177 + r.val, by omega⟩ k)) (fun k => nm (ix2 0 k)) l := by
  have e : state x nm (ix4 b u r l) = norm x nm (ix3 b ⟨8177 + r.val, by omega⟩ l) := by
    pointwise [state]
  rw [e, norm_at]

end Cert.Proof.LayerZeroRef

end
-- ==== Proof.LayerZeroPay.lean ====
/-
  One block of the layer's first half, read down to the row arithmetic of PoolRows.lean: given what the carried rows
  hold, the block the kernel stores is the reference row by row.
-/
module

public import proofs.«01_k».proof.Proof.PoolRows
public import proofs.«01_k».proof.Proof.Gen.LayerZeroIdeal.Skeleton

@[expose] public section

set_option maxRecDepth 16384

noncomputable section

open Idealize.ShloMosaic Idealize.ShloMosaic.TcCoe Idealize.SL.Sem

namespace Cert.Proof.LayerZeroPay

open Cert.LayerZeroIdeal Cert.LayerZeroIdeal.Gen

/-- The normed row sixteen before position `n`, zero before the first row. -/
def past (h : Fin 8192 → Fin 1024 → EReal) (n : ℕ) (l : Fin 1024) : EReal :=
  if hn : 16 ≤ n ∧ n - 16 < 8192 then h ⟨n - 16, hn.2⟩ l else 0

/-- The carried rows at tile `a`: sixteen rows before the tile, then the tile. -/
def Holds (S : FVec Ideal S272x1024 .f32) (h : Fin 8192 → Fin 1024 → EReal) (a : ℕ) : Prop :=
  ∀ (q : Fin 272) (l : Fin 1024), (S (ix2 q l) : EReal) = past h (256 * a + q.val) l

/-- The tile's rows moved `j` rows down, on group `g` of the lanes. -/
def shift (S : FVec Ideal S272x1024 .f32) (j : Fin 17) (g : Fin 4) : FVec Ideal S256x256 .f32 :=
  fun y => S (ix2 ⟨16 - j.val + (y 0).val, by have : (y 0).val < 256 := (y 0).isLt; omega⟩ ⟨256 * g.val + (y 1).val, by have : (y 1).val < 256 := (y 1).isLt; omega⟩)

theorem shift_at {S : FVec Ideal S272x1024 .f32} {h : Fin 8192 → Fin 1024 → EReal} {a : ℕ} (hS : Holds S h a) (j : Fin 17) (g : Fin 4)
    (t : Fin 8192) (r k : Fin 256) (ht : t.val = 256 * a + r.val) :
    (shift S j g (ix2 r k) : EReal) = Rows.back (fun s => h s ⟨256 * g.val + k.val, by omega⟩) t j.val := by
  show (S (ix2 ⟨16 - j.val + r.val, _⟩ ⟨256 * g.val + k.val, _⟩) : EReal) = _
  rw [hS]
  unfold past Rows.back
  dsimp only
  by_cases hj : j.val ≤ t.val
  · rw [dif_pos (by omega), if_pos hj]
    congr 1
    apply Fin.ext
    dsimp only
    omega
  · rw [dif_neg (by omega), if_neg hj]

/-- One over each row's window size. -/
def inv (i : grid0.Coords) (w : BitVec 32) : FVec Ideal S256x1 .f32 :=
  divf (broadcast S256x1 (Scalar.ofBits .f32 0x3F800000#32 : Ideal .f32))
    (sitofp .f32 (minsi (addi (k0_pay6 i) (broadcast S256x1 1#32)) (broadcast S256x1 w)))

/-- A sum of shifted rows over the window's size, less the row, projected. -/
def group (s u : FVec Ideal S256x256 .f32) (i : grid0.Coords) (w : BitVec 32) (p : FVec Ideal S1x256x256 .bf16) : FVec Ideal S256x256 .f32 :=
  matmul dot_S256x256_S256x256_S256x256_1_0_0_1_n_n none
    (truncf .bf16 (subf (mulf s (broadcastTo S256x256 (inv i w) broadcasts_S256x1_S256x256)) u) bitsLt_bf16_f32)
    (shapeCast S256x256 p shapeCasts_S1x256x256_S256x256) (constant S256x256 .f32 0x00000000#32)

theorem min_word : ∀ g : Fin 4, ∀ a : Fin 32, ∀ r : Fin 256,
    (IntOp.minsi (IntOp.addi (IntOp.addi (BitVec.ofNat 32 r.val) (IntOp.muli (BitVec.ofNat 32 a.val) 256#32)) 1#32)
      (BitVec.ofNat 32 (Rows.wide g))).toInt = ((min (256 * a.val + r.val + 1) (Rows.wide g) : ℕ) : ℤ) := by decide +kernel

theorem inv_at (i : grid0.Coords) (g : Fin 4) (t : Fin 8192) (r : Fin 256) (ht : t.val = 256 * (i 1).val + r.val) :
    (inv i (BitVec.ofNat 32 (Rows.wide g)) (ix2 r 0) : EReal) = Ideal.div 1 (Rows.count (Rows.wide g) t) := by
  have e : (inv i (BitVec.ofNat 32 (Rows.wide g)) (ix2 r 0) : EReal)
      = Ideal.div (Scalar.ofBits .f32 0x3F800000#32 : Ideal .f32) (((IntOp.minsi (IntOp.addi (IntOp.addi (BitVec.ofNat 32 r.val) (IntOp.muli (BitVec.ofNat 32 (i 1).val) 256#32)) 1#32)
      (BitVec.ofNat 32 (Rows.wide g))).toInt : ℝ) : EReal) := by
    show Ideal.div _ ((((IntOp.minsi (IntOp.addi (k0_pay6 i (ix2 r 0)) 1#32) (BitVec.ofNat 32 (Rows.wide g))).toInt : ℝ) : EReal)) = _
    have e6 : k0_pay6 i (ix2 r 0) = IntOp.addi (BitVec.ofNat 32 r.val) (IntOp.muli (BitVec.ofNat 32 (i 1).val) 256#32) := by
      unfold k0_pay6
      pointwise
      rfl
    rw [e6]
    rfl
  have e1 : (Scalar.ofBits .f32 0x3F800000#32 : Ideal .f32) = (1 : EReal) := by pointwise
  rw [e, e1, min_word g ⟨(i 1).val, (i 1).isLt⟩ r]
  unfold Rows.count
  rw [ht]
  rfl

theorem group_at (i : grid0.Coords) (g : Fin 4) (h : Fin 8192 → Fin 1024 → EReal) (pw : Fin 4 → Fin 256 → Fin 256 → EReal)
    (s u : FVec Ideal S256x256 .f32) (w : BitVec 32) (p : FVec Ideal S1x256x256 .bf16) (t : Fin 8192) (r l : Fin 256)
    (hw : w = BitVec.ofNat 32 (Rows.wide g)) (ht : t.val = 256 * (i 1).val + r.val)
    (hs : ∀ k : Fin 256, (s (ix2 r k) : EReal) = Rows.window (Rows.wide g) (fun s => h s ⟨256 * g.val + k.val, by omega⟩) t)
    (hu : ∀ k : Fin 256, (u (ix2 r k) : EReal) = h t ⟨256 * g.val + k.val, by omega⟩)
    (hp : ∀ k l, (p (ix3 0 k l) : EReal) = pw g k l) :
    (group s u i w p (ix2 r l) : EReal) = Rows.mixAt h pw t g l := by
  subst hw
  have e : (group s u i (BitVec.ofNat 32 (Rows.wide g)) p (ix2 r l) : EReal)
      = ∑ k : Fin 256, (s (ix2 r k) * inv i (BitVec.ofNat 32 (Rows.wide g)) (ix2 r 0) - u (ix2 r k)) * p (ix3 0 k l) := by
    pointwise [group]
  rw [e]
  unfold Rows.mixAt Rows.excess
  refine Finset.sum_congr rfl fun k _ => ?_
  rw [hp, hu, hs, inv_at i g t r ht, Rows.div_count _ (Rows.wide_pos g)]

variable (i : grid0.Coords) (v3 : FVec Ideal S1x256x1024 .f32) (v5 pb ps nf : FVec Ideal S1x1024 .f32)
  (wgu : FVec Ideal S1024x5632 .bf16) (wd : FVec Ideal S2816x1024 .bf16)

/-- The RMS norm of a block of rows. -/
def norm (x : FVec Ideal S256x1024 .f32) (g : FVec Ideal S1x1024 .f32) : FVec Ideal S256x1024 .f32 :=
  mulf (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024)) (broadcastTo S256x1024 g broadcasts_S1x1024_S256x1024)

/-- A block of normed rows times the gate and value weights. -/
def gu (h : FVec Ideal S256x1024 .f32) : FVec Ideal S256x5632 .f32 :=
  matmul dot_S256x1024_S1024x5632_S256x5632_1_0_0_1_n_n none (truncf .bf16 h bitsLt_bf16_f32) wgu
    (constant S256x5632 .f32 0x00000000#32)

/-- The gate columns of `gu`. -/
def gate (h : FVec Ideal S256x1024 .f32) : FVec Ideal S256x2816 .f32 :=
  extractStridedSlice S256x2816 ![0, 0] (gu wgu h) slices_S256x5632_o0_0_S256x2816

/-- The feed-forward of a block of rows. -/
def ffn (h : FVec Ideal S256x1024 .f32) : FVec Ideal S256x1024 .f32 :=
  matmul dot_S256x2816_S2816x1024_S256x1024_1_0_0_1_n_n none
    (truncf .bf16 (mulf (mulf (gate wgu h) (logistic (gate wgu h)))
      (extractStridedSlice S256x2816 ![0, 2816] (gu wgu h) slices_S256x5632_o0_2816_S256x2816)) bitsLt_bf16_f32) wd
    (constant S256x1024 .f32 0x00000000#32)

theorem norm_at (x g) (r : Fin 256) (l : Fin 1024) : norm x g (ix2 r l)
    = Rows.rms (fun k => x (ix2 r k)) (fun k => g (ix2 0 k)) l := by
  pointwise [norm, Rows.rms]

theorem gu_at (h) (r : Fin 256) (l : Fin 5632) : gu wgu h (ix2 r l)
    = Rows.dot (fun k => h (ix2 r k)) (fun k l => wgu (ix2 k l)) l := by
  pointwise [gu, Rows.dot]

theorem ffn_at (h) (r : Fin 256) (l : Fin 1024) : ffn wgu wd h (ix2 r l)
    = Rows.ffn (fun k => h (ix2 r k)) (fun k l => wgu (ix2 k l)) (fun k l => wd (ix2 k l)) l := by
  pointwise [ffn, gate, Rows.ffn, gu_at]

theorem rows_at (r : Fin 256) (l : Fin 1024) : k0_pay3 (F := Ideal) v3 (ix2 r l) = v3 (ix3 0 r l) := by
  pointwise [k0_pay3]

theorem pay4_eq : k0_pay4 v3 v5 = norm (k0_pay3 v3) v5 := rfl

theorem pay4_at (r : Fin 256) (l : Fin 1024) : k0_pay4 (F := Ideal) v3 v5 (ix2 r l)
    = Rows.rms (fun k => v3 (ix3 0 r k)) (fun k => v5 (ix2 0 k)) l := by
  rw [pay4_eq, norm_at]
  simp only [rows_at v3]

/-- The stream after the mixer, one block of rows. -/
def mixed (v : FVec Ideal S256x1024 .f32) (y : FVec Ideal S256x1024 .f32) : FVec Ideal S256x1024 .f32 :=
  addf v (mulf y (broadcastTo S256x1024 ps broadcasts_S1x1024_S256x1024))

theorem pay16_eq (v y : FVec Ideal S256x1024 .f32) : k0_pay16 v y ps nf wgu wd
    = shapeCast S1x256x1024 (addf (mixed ps v y) (ffn wgu wd (norm (mixed ps v y) nf))) shapeCasts_S256x1024_S1x256x1024 := rfl

variable (S : FVec Ideal S272x1024 .f32) (p0 p1 p2 p3 : FVec Ideal S1x256x256 .bf16)

/-- The mixer's output plus its shift, as the kernel composes it. -/
def mixer : FVec Ideal S256x1024 .f32 :=
  k0_pay15 (k0_pay6 i) (k0_pay8 (k0_pay7 i v3 v5 (shift S 1 0)) p0)
    (k0_pay9 (k0_pay4 v3 v5) (k0_pay6 i) (shift S 1 1) (shift S 2 1) (shift S 3 1) p1)
    (k0_pay12 (k0_pay6 i) (k0_pay10 (k0_pay4 v3 v5)) (k0_pay11 (k0_pay4 v3 v5) (shift S 1 2) (shift S 2 2) (shift S 3 2) (shift S 4 2))
      (shift S 5 2) (shift S 6 2) (shift S 7 2) p2)
    (k0_pay13 (k0_pay4 v3 v5)) (k0_pay14 (k0_pay4 v3 v5) (shift S 1 3) (shift S 2 3) (shift S 3 3) (shift S 4 3) (shift S 5 3) (shift S 6 3))
    (shift S 7 3) (shift S 8 3) (shift S 9 3) (shift S 10 3) (shift S 11 3) (shift S 12 3) (shift S 13 3) (shift S 14 3) (shift S 15 3) p3 pb

/-- Four groups side by side, plus the shift. -/
def join (a b c d : FVec Ideal S256x256 .f32) : FVec Ideal S256x1024 .f32 :=
  addf (concatenate S256x1024 1 [⟨S256x256, a⟩, ⟨S256x256, b⟩, ⟨S256x256, c⟩, ⟨S256x256, d⟩]
    concatenates_S256x256_S256x256_S256x256_S256x256_S256x1024_d1) (broadcastTo S256x1024 pb broadcasts_S1x1024_S256x1024)

/-- The normed block's lanes of a group as the kernel slices them. -/
def part0 : FVec Ideal S256x256 .f32 := extractStridedSlice S256x256 ![0, 0] (k0_pay4 v3 v5) slices_S256x1024_o0_0_S256x256
def part1 : FVec Ideal S256x256 .f32 := extractStridedSlice S256x256 ![0, 256] (k0_pay4 v3 v5) slices_S256x1024_o0_256_S256x256
def part2 : FVec Ideal S256x256 .f32 := extractStridedSlice S256x256 ![0, 512] (k0_pay4 v3 v5) slices_S256x1024_o0_512_S256x256
def part3 : FVec Ideal S256x256 .f32 := extractStridedSlice S256x256 ![0, 768] (k0_pay4 v3 v5) slices_S256x1024_o0_768_S256x256

/-- The window sums as the kernel adds them up. -/
def sum0 : FVec Ideal S256x256 .f32 := addf (part0 v3 v5) (shift S 1 0)
def sum1 : FVec Ideal S256x256 .f32 := addf (addf (addf (part1 v3 v5) (shift S 1 1)) (shift S 2 1)) (shift S 3 1)
def sum2 : FVec Ideal S256x256 .f32 :=
  addf (addf (addf (addf (addf (addf (addf (part2 v3 v5) (shift S 1 2)) (shift S 2 2)) (shift S 3 2)) (shift S 4 2)) (shift S 5 2)) (shift S 6 2)) (shift S 7 2)
def sum3 : FVec Ideal S256x256 .f32 :=
  addf (addf (addf (addf (addf (addf (addf (addf (addf (addf (addf (addf (addf (addf (addf (part3 v3 v5) (shift S 1 3)) (shift S 2 3)) (shift S 3 3))
    (shift S 4 3)) (shift S 5 3)) (shift S 6 3)) (shift S 7 3)) (shift S 8 3)) (shift S 9 3)) (shift S 10 3)) (shift S 11 3)) (shift S 12 3))
    (shift S 13 3)) (shift S 14 3)) (shift S 15 3)

theorem mixer_eq : mixer i v3 v5 pb S p0 p1 p2 p3
    = join pb (group (sum0 v3 v5 S) (part0 v3 v5) i 2#32 p0) (group (sum1 v3 v5 S) (part1 v3 v5) i 4#32 p1)
        (group (sum2 v3 v5 S) (part2 v3 v5) i 8#32 p2) (group (sum3 v3 v5 S) (part3 v3 v5) i 16#32 p3) := rfl

theorem join_at (h : Fin 8192 → Fin 1024 → EReal) (pw : Fin 4 → Fin 256 → Fin 256 → EReal) (t : Fin 8192) (r : Fin 256)
    (a b c d : FVec Ideal S256x256 .f32) (ha : ∀ l, (a (ix2 r l) : EReal) = Rows.mixAt h pw t 0 l)
    (hb : ∀ l, (b (ix2 r l) : EReal) = Rows.mixAt h pw t 1 l) (hc : ∀ l, (c (ix2 r l) : EReal) = Rows.mixAt h pw t 2 l)
    (hd : ∀ l, (d (ix2 r l) : EReal) = Rows.mixAt h pw t 3 l) (l : Fin 1024) :
    (join pb a b c d (ix2 r l) : EReal) = Rows.mix h pw t l + pb (ix2 0 l) := by
  pointwise [join]
  congr 1
  split
  · rw [ha]
    exact (Rows.mix_eq h pw t l 0 _ (by simp)).symm
  · split
    · rw [hb]
      exact (Rows.mix_eq h pw t l 1 _ (by simp; omega)).symm
    · split
      · rw [hc]
        exact (Rows.mix_eq h pw t l 2 _ (by simp; omega)).symm
      · rw [hd]
        exact (Rows.mix_eq h pw t l 3 _ (by simp; omega)).symm

theorem lane_lt (g : Fin 4) (k : Fin 256) : 256 * g.val + k.val < 1024 := by omega

theorem back_zero (u : Fin 8192 → EReal) (t : Fin 8192) : Rows.back u t 0 = u t := by
  unfold Rows.back
  rw [if_pos (Nat.zero_le _)]
  rfl

section
variable {S}
variable (h : Fin 8192 → Fin 1024 → EReal) (t : Fin 8192) (r k : Fin 256) (ht : t.val = 256 * (i 1).val + r.val)
  (hS : Holds S h (i 1).val) (hh : ∀ l, (k0_pay4 (F := Ideal) v3 v5 (ix2 r l) : EReal) = h t l)

include hh in
theorem part0_at : (part0 v3 v5 (ix2 r k) : EReal) = h t ⟨256 * (0 : Fin 4).val + k.val, lane_lt 0 k⟩ := by
  rw [← hh]
  pointwise [part0]

include hh in
theorem part1_at : (part1 v3 v5 (ix2 r k) : EReal) = h t ⟨256 * (1 : Fin 4).val + k.val, lane_lt 1 k⟩ := by
  rw [← hh]
  pointwise [part1]

include hh in
theorem part2_at : (part2 v3 v5 (ix2 r k) : EReal) = h t ⟨256 * (2 : Fin 4).val + k.val, lane_lt 2 k⟩ := by
  rw [← hh]
  pointwise [part2]

include hh in
theorem part3_at : (part3 v3 v5 (ix2 r k) : EReal) = h t ⟨256 * (3 : Fin 4).val + k.val, lane_lt 3 k⟩ := by
  rw [← hh]
  pointwise [part3]

include ht hS hh in
theorem sum0_at : (sum0 v3 v5 S (ix2 r k) : EReal) = Rows.window (Rows.wide 0) (fun s => h s ⟨256 * (0 : Fin 4).val + k.val, lane_lt 0 k⟩) t := by
  show (part0 v3 v5 (ix2 r k) : EReal) + shift S 1 0 (ix2 r k) = _
  rw [part0_at v3 v5 h t r k hh, shift_at hS 1 0 t r k ht]
  unfold Rows.window
  rw [show Rows.wide 0 = 2 from rfl, Finset.sum_range_succ, Finset.sum_range_one, back_zero]
  rfl

include ht hS hh in
theorem sum1_at : (sum1 v3 v5 S (ix2 r k) : EReal) = Rows.window (Rows.wide 1) (fun s => h s ⟨256 * (1 : Fin 4).val + k.val, lane_lt 1 k⟩) t := by
  show (part1 v3 v5 (ix2 r k) : EReal) + shift S 1 1 (ix2 r k) + shift S 2 1 (ix2 r k) + shift S 3 1 (ix2 r k) = _
  rw [part1_at v3 v5 h t r k hh]
  simp only [shift_at hS _ 1 t r k ht]
  unfold Rows.window
  rw [show Rows.wide 1 = 4 from rfl]
  simp only [Finset.sum_range_succ, Finset.sum_range_zero, zero_add, back_zero]
  rfl

include ht hS hh in
theorem sum2_at : (sum2 v3 v5 S (ix2 r k) : EReal) = Rows.window (Rows.wide 2) (fun s => h s ⟨256 * (2 : Fin 4).val + k.val, lane_lt 2 k⟩) t := by
  show (part2 v3 v5 (ix2 r k) : EReal) + shift S 1 2 (ix2 r k) + shift S 2 2 (ix2 r k) + shift S 3 2 (ix2 r k)
    + shift S 4 2 (ix2 r k) + shift S 5 2 (ix2 r k) + shift S 6 2 (ix2 r k) + shift S 7 2 (ix2 r k) = _
  rw [part2_at v3 v5 h t r k hh]
  simp only [shift_at hS _ 2 t r k ht]
  unfold Rows.window
  rw [show Rows.wide 2 = 8 from rfl]
  simp only [Finset.sum_range_succ, Finset.sum_range_zero, zero_add, back_zero]
  rfl

include ht hS hh in
theorem sum3_at : (sum3 v3 v5 S (ix2 r k) : EReal) = Rows.window (Rows.wide 3) (fun s => h s ⟨256 * (3 : Fin 4).val + k.val, lane_lt 3 k⟩) t := by
  show (part3 v3 v5 (ix2 r k) : EReal) + shift S 1 3 (ix2 r k) + shift S 2 3 (ix2 r k) + shift S 3 3 (ix2 r k)
    + shift S 4 3 (ix2 r k) + shift S 5 3 (ix2 r k) + shift S 6 3 (ix2 r k) + shift S 7 3 (ix2 r k) + shift S 8 3 (ix2 r k)
    + shift S 9 3 (ix2 r k) + shift S 10 3 (ix2 r k) + shift S 11 3 (ix2 r k) + shift S 12 3 (ix2 r k) + shift S 13 3 (ix2 r k)
    + shift S 14 3 (ix2 r k) + shift S 15 3 (ix2 r k) = _
  rw [part3_at v3 v5 h t r k hh]
  simp only [shift_at hS _ 3 t r k ht]
  unfold Rows.window
  rw [show Rows.wide 3 = 16 from rfl]
  simp only [Finset.sum_range_succ, Finset.sum_range_zero, zero_add, back_zero]
  rfl

include ht hS hh in
/-- The mixer's output plus its shift at a row: the row arithmetic. -/
theorem mixer_at (pw : Fin 4 → Fin 256 → Fin 256 → EReal) (hp0 : ∀ k l, (p0 (ix3 0 k l) : EReal) = pw 0 k l)
    (hp1 : ∀ k l, (p1 (ix3 0 k l) : EReal) = pw 1 k l) (hp2 : ∀ k l, (p2 (ix3 0 k l) : EReal) = pw 2 k l)
    (hp3 : ∀ k l, (p3 (ix3 0 k l) : EReal) = pw 3 k l) (l : Fin 1024) :
    (mixer i v3 v5 pb S p0 p1 p2 p3 (ix2 r l) : EReal) = Rows.mix h pw t l + pb (ix2 0 l) := by
  rw [mixer_eq]
  refine join_at pb h pw t r _ _ _ _ (fun l => ?_) (fun l => ?_) (fun l => ?_) (fun l => ?_) l
  · exact group_at i 0 h pw _ _ _ _ t r l rfl ht (fun k => sum0_at i v3 v5 h t r k ht hS hh) (fun k => part0_at v3 v5 h t r k hh) hp0
  · exact group_at i 1 h pw _ _ _ _ t r l rfl ht (fun k => sum1_at i v3 v5 h t r k ht hS hh) (fun k => part1_at v3 v5 h t r k hh) hp1
  · exact group_at i 2 h pw _ _ _ _ t r l rfl ht (fun k => sum2_at i v3 v5 h t r k ht hS hh) (fun k => part2_at v3 v5 h t r k hh) hp2
  · exact group_at i 3 h pw _ _ _ _ t r l rfl ht (fun k => sum3_at i v3 v5 h t r k ht hS hh) (fun k => part3_at v3 v5 h t r k hh) hp3
end

/-- The stored block at row `r`: the row arithmetic of the whole sequence at that row. -/
theorem point_at (X : Fin 8192 → Fin 1024 → EReal) (NM NF PB PS : Fin 1024 → EReal) (PW : Fin 4 → Fin 256 → Fin 256 → EReal)
    (WG : Fin 1024 → Fin 5632 → EReal) (WD : Fin 2816 → Fin 1024 → EReal) (row : Fin 256 → Fin 8192)
    (hrow : ∀ r, (row r).val = 256 * (i 1).val + r.val) (hx : ∀ r k, (v3 (ix3 0 r k) : EReal) = X (row r) k)
    (hnm : ∀ k, (v5 (ix2 0 k) : EReal) = NM k) (hnf : ∀ k, (nf (ix2 0 k) : EReal) = NF k) (hpb : ∀ k, (pb (ix2 0 k) : EReal) = PB k)
    (hps : ∀ k, (ps (ix2 0 k) : EReal) = PS k) (hwg : ∀ k l, (wgu (ix2 k l) : EReal) = WG k l)
    (hwd : ∀ k l, (wd (ix2 k l) : EReal) = WD k l) (hp0 : ∀ k l, (p0 (ix3 0 k l) : EReal) = PW 0 k l)
    (hp1 : ∀ k l, (p1 (ix3 0 k l) : EReal) = PW 1 k l) (hp2 : ∀ k l, (p2 (ix3 0 k l) : EReal) = PW 2 k l)
    (hp3 : ∀ k l, (p3 (ix3 0 k l) : EReal) = PW 3 k l) (hS : Holds S (fun s => Rows.rms (X s) NM) (i 1).val)
    (u : Fin 1) (r : Fin 256) (l : Fin 1024) :
    (k0_pay16 (k0_pay3 v3) (mixer i v3 v5 pb S p0 p1 p2 p3) ps nf wgu wd (ix3 u r l) : EReal)
      = Rows.layer X NM NF PB PS PW WG WD (row r) l := by
  obtain rfl : (fun k => (nf (ix2 0 k) : EReal)) = NF := funext hnf
  obtain rfl : (fun k l => (wgu (ix2 k l) : EReal)) = WG := funext fun k => funext (hwg k)
  obtain rfl : (fun k l => (wd (ix2 k l) : EReal)) = WD := funext fun k => funext (hwd k)
  have hh : ∀ l, (k0_pay4 (F := Ideal) v3 v5 (ix2 r l) : EReal) = Rows.rms (X (row r)) NM l := by
    intro l
    rw [pay4_at]
    simp only [hx, hnm]
  have em : ∀ l, (mixed ps (k0_pay3 v3) (mixer i v3 v5 pb S p0 p1 p2 p3) (ix2 r l) : EReal) = Rows.mixed X NM PB PS PW (row r) l := by
    intro l
    have e : (mixed ps (k0_pay3 v3) (mixer i v3 v5 pb S p0 p1 p2 p3) (ix2 r l) : EReal)
        = v3 (ix3 0 r l) + mixer i v3 v5 pb S p0 p1 p2 p3 (ix2 r l) * ps (ix2 0 l) := by
      rw [← rows_at v3]
      pointwise [mixed]
    rw [e, mixer_at i v3 v5 pb p0 p1 p2 p3 (fun s => Rows.rms (X s) NM) (row r) r (hrow r) hS hh PW hp0 hp1 hp2 hp3, hx, hpb, hps]
    rfl
  have e : ∀ y : FVec Ideal S256x1024 .f32,
      shapeCast S1x256x1024 y shapeCasts_S256x1024_S1x256x1024 (ix3 u r l) = y (ix2 r l) := by
    intro y
    pointwise
  rw [pay16_eq, e]
  show (mixed ps (k0_pay3 v3) (mixer i v3 v5 pb S p0 p1 p2 p3) (ix2 r l) : EReal)
    + ffn wgu wd (norm (mixed ps (k0_pay3 v3) (mixer i v3 v5 pb S p0 p1 p2 p3)) nf) (ix2 r l) = _
  rw [ffn_at, em]
  simp only [norm_at, em]
  rfl

end Cert.Proof.LayerZeroPay

end
-- ==== Proof.LayerZeroScratch.lean ====
/-
  The rows the pooling kernel carries from tile to tile: what its loads read after its stores, and what a point leaves
  for the next one.
-/
module

public import proofs.«01_k».proof.Proof.LayerZeroPay
public import proofs.«01_k».proof.Proof.Gen.LayerZeroIdeal.Value
public import Idealize.ShloMosaic.Lib.Pipeline.ValueKit
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.LayerZeroScratch

open Cert.LayerZeroIdeal Cert.LayerZeroIdeal.Gen Cert.Proof.LayerZeroPay

/-- The carried rows after a tile's rows are stored below the first sixteen. -/
def over (S : FVec Ideal S272x1024 .f32) (N : FVec Ideal S256x1024 .f32) : FVec Ideal S272x1024 .f32 :=
  fun y => if h : 16 ≤ (y 0).val then N (ix2 ⟨(y 0).val - 16, by have : (y 0).val < 272 := (y 0).isLt; omega⟩ (y 1)) else S y

/-- Sixteen rows as the first of the carried rows. -/
def fills (Z : FVec Ideal S16x1024 .f32) : FVec Ideal S272x1024 .f32 :=
  fun y => if h : (y 0).val < 16 then Z (ix2 ⟨(y 0).val, h⟩ (y 1)) else (0 : EReal)

theorem read_body {κ : Kind} {sp : Space} (v : View sig κ sp S272x1024 .f32) (f : v.ty.Contents (Elt Ideal)) (N : FVec Ideal S256x1024 .f32) :
    v.read (Elt Ideal) (v.writes (Elt Ideal) f [⟨Rect.unit ![16, 0] ![256, 1024] inb_S272x1024_S256x1024_16_0, N⟩])
      = over (v.read (Elt Ideal) f) N := by
  funext y
  obtain ⟨q, l, rfl⟩ : ∃ (q : Fin 272) (l : Fin 1024), y = ix2 q l := ⟨y 0, y 1, by funext a; fin_cases a <;> rfl⟩
  unfold over
  split
  · rename_i h
    have h' : 16 ≤ q.val := h
    refine View.read_writes_cons_unit_of_mem v f inb_S272x1024_S256x1024_16_0 N [] (ix2 q l) (ix2 ⟨q.val - 16, by omega⟩ l) rfl (fun a => ?_)
    fin_cases a
    · show q.val = 16 + (q.val - 16)
      omega
    · show l.val = 0 + l.val
      omega
  · rename_i h
    have h' : ¬16 ≤ q.val := h
    refine View.read_writes_cons_unit_of_not_mem v f inb_S272x1024_S256x1024_16_0 N [] (ix2 q l) rfl 0 (Or.inl ?_)
    show q.val < 16
    omega

/-- The carried rows read after the tile's rows are stored over older contents. -/
theorem read_over (S : FVec Ideal S272x1024 .f32) (N : FVec Ideal S256x1024 .f32) (hw : (Memref.whole cc0_scratch0).IsWhole) :
    View.read (Elt Ideal) (View.whole cc0_scratch0) ((View.whole cc0_scratch0).writes (Elt Ideal) (hw.unread (Val := Elt Ideal) S)
      [⟨Rect.unit ![16, 0] ![256, 1024] inb_S272x1024_S256x1024_16_0, N⟩]) = over S N :=
  (read_body (View.whole cc0_scratch0) _ N).trans (congrArg (fun w => over w N) (read_unread_whole (Val := Elt Ideal) cc0_scratch0 hw S))

/-- The carried rows after the first sixteen and then the tile's are stored. -/
theorem canon_over (Z : FVec Ideal S16x1024 .f32) (N : FVec Ideal S256x1024 .f32) :
    View.canon (Val := Elt Ideal) (e := .f32) [⟨Rect.unit ![16, 0] ![256, 1024] inb_S272x1024_S256x1024_16_0, N⟩,
      ⟨Rect.unit ![0, 0] ![16, 1024] inb_S272x1024_S16x1024_0_0, Z⟩] = over (fills Z) N := by
  funext y
  obtain ⟨q, l, rfl⟩ : ∃ (q : Fin 272) (l : Fin 1024), y = ix2 q l := ⟨y 0, y 1, by funext a; fin_cases a <;> rfl⟩
  unfold over
  split
  · rename_i h
    have h' : 16 ≤ q.val := h
    have e : (ix2 q l : S272x1024.Idx) = (Rect.unit ![16, 0] ![256, 1024] inb_S272x1024_S256x1024_16_0).emb (ix2 ⟨q.val - 16, by omega⟩ l) := by
      funext a
      fin_cases a
      · apply Fin.ext
        show q.val = 16 + 1 * (q.val - 16)
        omega
      · apply Fin.ext
        show l.val = 0 + 1 * l.val
        omega
    exact (congrArg _ e).trans (View.canon_cons_emb _ _ _ _)
  · rename_i h
    have h' : q.val < 16 := by
      have h' : ¬16 ≤ q.val := h
      omega
    rw [View.canon_cons_of_not_mem _ _ (by
      rw [Rect.mem_set_unit]
      intro hall
      have := (hall 0).1
      exact h this)]
    have e : (ix2 q l : S272x1024.Idx) = (Rect.unit ![0, 0] ![16, 1024] inb_S272x1024_S16x1024_0_0).emb (ix2 ⟨q.val, h'⟩ l) := by
      funext a
      fin_cases a
      · apply Fin.ext
        show q.val = 0 + 1 * q.val
        omega
      · apply Fin.ext
        show l.val = 0 + 1 * l.val
        omega
    unfold fills
    rw [dif_pos (show ((ix2 q l : S272x1024.Idx) 0).val < 16 from h')]
    exact (congrArg _ e).trans (View.canon_cons_emb _ _ _ _)

theorem readCov_over (Z : FVec Ideal S16x1024 .f32) (N : FVec Ideal S256x1024 .f32) (r : Rect S272x1024) :
    (View.whole cc0_scratch0).readCov (Val := Elt Ideal) [⟨Rect.unit ![16, 0] ![256, 1024] inb_S272x1024_S256x1024_16_0, N⟩,
      ⟨Rect.unit ![0, 0] ![16, 1024] inb_S272x1024_S16x1024_0_0, Z⟩] r.toLoadRect = View.ld (Val := Elt Ideal) (over (fills Z) N) r := by
  rw [View.readCov_eq_canon', canon_over]
  rfl

/-- A load of a tile's rows on a group's lanes is the carried rows moved down. -/
theorem ld_shift (X : FVec Ideal S272x1024 .f32) (o p : ℕ)
    (inb : ∀ a : Fin 2, (![o, p] : Fin 2 → ℕ) a + (![256, 256] : Fin 2 → ℕ) a ≤ S272x1024.size a)
    (ho : o ≤ 16) (hp : 256 * (p / 256) = p) :
    View.ld (Val := Elt Ideal) (e' := .f32) X (Rect.unit (s := S272x1024) ![o, p] ![256, 256] inb)
      = shift X ⟨16 - o, by omega⟩ ⟨p / 256, by have h : p + 256 ≤ 1024 := inb 1; omega⟩ := by
  funext y
  show X _ = X _
  congr 1
  funext a
  fin_cases a
  · apply Fin.ext
    show o + 1 * (y 0).val = 16 - (16 - o) + (y 0).val
    omega
  · apply Fin.ext
    show p + 1 * (y 1).val = 256 * (p / 256) + (y 1).val
    omega

/-- The first sixteen carried rows, after they are stored last. -/
theorem canon_head (Z : FVec Ideal S16x1024 .f32) (L : List (View.Piece (Elt Ideal) S272x1024 .f32)) (q : Fin 16) (l : Fin 1024) :
    View.canon (Val := Elt Ideal) (e := .f32) (⟨Rect.unit ![0, 0] ![16, 1024] inb_S272x1024_S16x1024_0_0, Z⟩ :: L)
      (ix2 (⟨q.val, by omega⟩ : Fin 272) l) = Z (ix2 q l) := by
  have e : (ix2 (⟨q.val, by omega⟩ : Fin 272) l : S272x1024.Idx) = (Rect.unit ![0, 0] ![16, 1024] inb_S272x1024_S16x1024_0_0).emb (ix2 q l) := by
    funext a
    fin_cases a
    · apply Fin.ext
      show q.val = 0 + 1 * q.val
      omega
    · apply Fin.ext
      show l.val = 0 + 1 * l.val
      omega
  rw [e, View.canon_cons_emb]

/-- The last sixteen rows of a tile. -/
def last (N : FVec Ideal S256x1024 .f32) : FVec Ideal S16x1024 .f32 :=
  fun y => N (ix2 ⟨240 + (y 0).val, by have : (y 0).val < 16 := (y 0).isLt; omega⟩ (y 1))

/-- The last fifteen of sixteen rows. -/
def drop (Z : FVec Ideal S16x1024 .f32) : FVec Ideal S15x1024 .f32 :=
  fun y => Z (ix2 ⟨1 + (y 0).val, by have : (y 0).val < 15 := (y 0).isLt; omega⟩ (y 1))

/-- The last sixteen carried rows after the tile's rows are stored: the tile's last sixteen. -/
theorem last_rows (N : FVec Ideal S256x1024 .f32) (L : List (View.Piece (Elt Ideal) S272x1024 .f32)) :
    (View.whole cc0_scratch0).readCov (Val := Elt Ideal) (⟨Rect.unit ![16, 0] ![256, 1024] inb_S272x1024_S256x1024_16_0, N⟩ :: L)
      (Rect.unit (s := S272x1024) ![256, 0] ![16, 1024] inb_S272x1024_S16x1024_256_0).toLoadRect = last N := by
  rw [View.readCov_eq_canon']
  funext y
  have e : (Rect.unit (s := S272x1024) ![256, 0] ![16, 1024] inb_S272x1024_S16x1024_256_0).toLoadRect.idx y
      = (Rect.unit (s := S272x1024) ![16, 0] ![256, 1024] inb_S272x1024_S256x1024_16_0).emb
        (ix2 (⟨240 + (y 0).val, by have : (y 0).val < 16 := (y 0).isLt; omega⟩ : Fin 256) (y 1)) := by
    funext a
    fin_cases a
    · apply Fin.ext
      show 256 + 1 * (y 0).val = 16 + 1 * (240 + (y 0).val)
      omega
    · apply Fin.ext
      show 0 + 1 * (y 1).val = 0 + 1 * (y 1).val
      rfl
  exact (congrArg _ e).trans (View.canon_cons_emb _ _ _ _)

/-- Rows one to fifteen of the carried rows after the first sixteen are stored last. -/
theorem drop_rows (Z : FVec Ideal S16x1024 .f32) (L : List (View.Piece (Elt Ideal) S272x1024 .f32)) :
    (View.whole cc0_scratch0).readCov (Val := Elt Ideal) (⟨Rect.unit ![0, 0] ![16, 1024] inb_S272x1024_S16x1024_0_0, Z⟩ :: L)
      (Rect.unit (s := S272x1024) ![1, 0] ![15, 1024] inb_S272x1024_S15x1024_1_0).toLoadRect = drop Z := by
  rw [View.readCov_eq_canon']
  funext y
  have e : (Rect.unit (s := S272x1024) ![1, 0] ![15, 1024] inb_S272x1024_S15x1024_1_0).toLoadRect.idx y
      = (Rect.unit (s := S272x1024) ![0, 0] ![16, 1024] inb_S272x1024_S16x1024_0_0).emb
        (ix2 (⟨1 + (y 0).val, by have : (y 0).val < 15 := (y 0).isLt; omega⟩ : Fin 16) (y 1)) := by
    funext a
    fin_cases a
    · apply Fin.ext
      show 1 + 1 * (y 0).val = 0 + 1 * (1 + (y 0).val)
      omega
    · apply Fin.ext
      show 0 + 1 * (y 1).val = 0 + 1 * (y 1).val
      rfl
  exact (congrArg _ e).trans (View.canon_cons_emb _ _ _ _)

theorem copy_at (v : FVec Ideal S16x1024 .f32) (q : Fin 16) (l : Fin 1024) : k0_pay17 (F := Ideal) v (ix2 q l) = v (ix2 q l) := by
  pointwise [k0_pay17]

theorem stored_at (w : FVec Ideal S15x1024 .f32) (u v : Fin 1) (r : Fin 15) (l : Fin 1024) :
    k0_pay1 (F := Ideal) w (ix4 u v r l) = w (ix2 r l) := by
  pointwise [k0_pay1]

variable (m : (ℓ : Loc nD τ sig) → Buf (Elt Ideal) ℓ) (c : Dev nD) (t : Fin cfg0.N)

/-- What a point leaves in the first sixteen carried rows: its tile's last sixteen normed rows. -/
theorem carried (q : Fin 16) (l : Fin 1024) : ((outsAt0 m c t.val t.isLt).2.2 (ix2 (⟨q.val, by omega⟩ : Fin 272) l) : EReal)
    = k0_pay5 (F := Ideal) (iblk m c 0 t) (iblk m c 1 t) (ix2 ⟨240 + q.val, by omega⟩ l) := by
  by_cases h0 : t.val % 32 = 0
  · rw [outsAt0_A m c t h0 (by omega)]
    frame_out
    rw [canon_head, last_rows, copy_at]
    rfl
  · by_cases h1 : t.val % 32 = 31
    · rw [outsAt0_C m c t h0 h1]
      frame_out
      rw [canon_head, last_rows, copy_at]
      rfl
    · rw [outsAt0_B m c t h0 h1]
      frame_out
      rw [canon_head, last_rows, copy_at]
      rfl

/-- The block a point stores, over carried rows `S`. -/
def block (S : FVec Ideal S272x1024 .f32) : FVec Ideal S1x256x1024 .f32 :=
  k0_pay16 (k0_pay3 (iblk m c 0 t)) (mixer (grid0.coords t) (iblk m c 0 t) (iblk m c 1 t) (iblk m c 3 t)
    (over S (k0_pay5 (iblk m c 0 t) (iblk m c 1 t)))
    (View.ld (iblk m c 5 t) (Rect.unit ![0, 0, 0] ![1, 256, 256] inb_S4x256x256_S1x256x256_0_0_0))
    (View.ld (iblk m c 5 t) (Rect.unit ![1, 0, 0] ![1, 256, 256] inb_S4x256x256_S1x256x256_1_0_0))
    (View.ld (iblk m c 5 t) (Rect.unit ![2, 0, 0] ![1, 256, 256] inb_S4x256x256_S1x256x256_2_0_0))
    (View.ld (iblk m c 5 t) (Rect.unit ![3, 0, 0] ![1, 256, 256] inb_S4x256x256_S1x256x256_3_0_0)))
    (iblk m c 4 t) (iblk m c 2 t) (iblk m c 6 t) (iblk m c 7 t)

theorem out_A (h0 : t.val % 32 = 0) (h1 : ¬t.val % 32 = 31) : (outsAt0 m c t.val t.isLt).1 = block m c t (fills (k0_pay2 (F := Ideal))) := by
  rw [outsAt0_A m c t h0 h1]
  frame_out
  repeat rw [readCov_over]
  simp only [ld_shift, Nat.reduceLeDiff, Nat.reduceMul, Nat.reduceDiv, Nat.reduceSub]
  unfold block mixer
  rfl

theorem out_B (h0 : ¬t.val % 32 = 0) (h1 : ¬t.val % 32 = 31) : (outsAt0 m c t.val t.isLt).1
    = block m c t (outsAt0 m c (t.val - 1) (Nat.lt_of_le_of_lt (Nat.sub_le _ _) t.isLt)).2.2 := by
  rw [outsAt0_B m c t h0 h1]
  frame_out
  repeat rw [read_over]
  simp only [ld_shift, Nat.reduceLeDiff, Nat.reduceMul, Nat.reduceDiv, Nat.reduceSub]
  unfold block mixer
  rfl

theorem out_C (h0 : ¬t.val % 32 = 0) (h1 : t.val % 32 = 31) : (outsAt0 m c t.val t.isLt).1
    = block m c t (outsAt0 m c (t.val - 1) (Nat.lt_of_le_of_lt (Nat.sub_le _ _) t.isLt)).2.2 := by
  rw [outsAt0_C m c t h0 h1]
  frame_out
  repeat rw [read_over]
  simp only [ld_shift, Nat.reduceLeDiff, Nat.reduceMul, Nat.reduceDiv, Nat.reduceSub]
  unfold block mixer
  rfl

/-- The state a batch's last point stores: its tile's last fifteen normed rows. -/
theorem state_C (h0 : ¬t.val % 32 = 0) (h1 : t.val % 32 = 31) (u v : Fin 1) (r : Fin 15) (l : Fin 1024) :
    ((outsAt0 m c t.val t.isLt).2.1 (ix4 u v r l) : EReal)
      = k0_pay5 (F := Ideal) (iblk m c 0 t) (iblk m c 1 t) (ix2 ⟨241 + r.val, by omega⟩ l) := by
  rw [outsAt0_C m c t h0 h1]
  frame_out
  rw [stored_at, drop_rows, last_rows]
  show (k0_pay17 (F := Ideal) (last (k0_pay5 (iblk m c 0 t) (iblk m c 1 t))) (ix2 (⟨1 + r.val, by omega⟩ : Fin 16) l) : EReal) = _
  rw [copy_at]
  show (k0_pay5 (F := Ideal) (iblk m c 0 t) (iblk m c 1 t) (ix2 (⟨240 + (1 + r.val), _⟩ : Fin 256) l) : EReal) = _
  congr 2
  apply Fin.ext
  dsimp only
  omega

end Cert.Proof.LayerZeroScratch

end
-- ==== Proof.LayerZeroValue.lean ====
/-
  What the pooling kernel leaves: each stored block is the row arithmetic of PoolRows.lean at the block's rows, and the
  arrays after the run are the reference's terms.
-/
module

public import proofs.«01_k».proof.Proof.LayerZeroRef
public import proofs.«01_k».proof.Proof.LayerZeroScratch

@[expose] public section

set_option maxRecDepth 16384

noncomputable section

open Idealize.ShloMosaic Idealize.ShloMosaic.TcCoe Idealize.SL.Sem
open Idealize.ShloMosaic.Pipeline (Dat)

namespace Cert.Proof.LayerZeroValue

open Cert.LayerZeroIdeal Cert.LayerZeroIdeal.Gen Cert.Proof.LayerZeroPay Cert.Proof.LayerZeroScratch

variable (m : (ℓ : Loc nD τ sig) → Buf (Elt Ideal) ℓ)

/-- The windows' block indices: the rows' blocks go by batch and tile, the state's by batch, the weights are whole. -/
theorem idx : ∀ t : Fin cfg0.N, win0_0.index t = ![(grid0.coords t 0).val, (grid0.coords t 1).val, 0]
    ∧ win0_1.index t = ![0, 0] ∧ win0_2.index t = ![0, 0] ∧ win0_3.index t = ![0, 0] ∧ win0_4.index t = ![0, 0]
    ∧ win0_5.index t = ![0, 0, 0] ∧ win0_6.index t = ![0, 0] ∧ win0_7.index t = ![0, 0]
    ∧ win0_8.index t = ![(grid0.coords t 0).val, (grid0.coords t 1).val, 0]
    ∧ win0_9.index t = ![(grid0.coords t 0).val, 0, 0, 0] :=
  (by decide +kernel : ∀ t : Fin grid0.N, _)

theorem coords : ∀ t : Fin cfg0.N, (grid0.coords t 0).val = t.val / 32 ∧ (grid0.coords t 1).val = t.val % 32 :=
  (by decide +kernel : ∀ t : Fin grid0.N, _)

/-- The batch and the row of a grid point. -/
def batch (t : Fin cfg0.N) : Fin 4 := ⟨(grid0.coords t 0).val, (grid0.coords t 0).isLt⟩
def row (t : Fin cfg0.N) (r : Fin 256) : Fin 8192 :=
  ⟨256 * (grid0.coords t 1).val + r.val, by have : (grid0.coords t 1).val < 32 := (grid0.coords t 1).isLt; omega⟩

theorem x_at (c : Dev nD) (t : Fin cfg0.N) (r : Fin 256) (k : Fin 1024) : ((iblk m c 0 t : FVec Ideal S1x256x1024 .f32) (ix3 0 r k) : EReal)
    = (m ((c : Thread nD τ).loc main_arg0)) (ix3 (batch t) (row t r) k) := by
  rw [← V_main_arg0 m c]
  unfold iblk
  show V m c main_arg0 (((cfg0.win 0).blk t).view.emb (ix3 0 r k)) = _
  generalize V m c main_arg0 = X
  blk_ext [idx t, batch, row]

theorem nm_at (c : Dev nD) (t : Fin cfg0.N) (k : Fin 1024) : ((iblk m c 1 t : FVec Ideal S1x1024 .f32) (ix2 0 k) : EReal)
    = (m ((c : Thread nD τ).loc main_arg1)) (ix2 0 k) := by
  rw [← V_main_arg1 m c]
  unfold iblk
  show V m c main_arg1 (((cfg0.win 1).blk t).view.emb (ix2 0 k)) = _
  generalize V m c main_arg1 = X
  blk_ext [idx t, batch, row]

theorem nf_at (c : Dev nD) (t : Fin cfg0.N) (k : Fin 1024) : ((iblk m c 2 t : FVec Ideal S1x1024 .f32) (ix2 0 k) : EReal)
    = (m ((c : Thread nD τ).loc main_arg2)) (ix2 0 k) := by
  rw [← V_main_arg2 m c]
  unfold iblk
  show V m c main_arg2 (((cfg0.win 2).blk t).view.emb (ix2 0 k)) = _
  generalize V m c main_arg2 = X
  blk_ext [idx t, batch, row]

theorem pb_at (c : Dev nD) (t : Fin cfg0.N) (k : Fin 1024) : ((iblk m c 3 t : FVec Ideal S1x1024 .f32) (ix2 0 k) : EReal)
    = (m ((c : Thread nD τ).loc main_arg3)) (ix2 0 k) := by
  rw [← V_main_arg3 m c]
  unfold iblk
  show V m c main_arg3 (((cfg0.win 3).blk t).view.emb (ix2 0 k)) = _
  generalize V m c main_arg3 = X
  blk_ext [idx t, batch, row]

theorem ps_at (c : Dev nD) (t : Fin cfg0.N) (k : Fin 1024) : ((iblk m c 4 t : FVec Ideal S1x1024 .f32) (ix2 0 k) : EReal)
    = (m ((c : Thread nD τ).loc main_arg4)) (ix2 0 k) := by
  rw [← V_main_arg4 m c]
  unfold iblk
  show V m c main_arg4 (((cfg0.win 4).blk t).view.emb (ix2 0 k)) = _
  generalize V m c main_arg4 = X
  blk_ext [idx t, batch, row]

theorem pw_at (c : Dev nD) (t : Fin cfg0.N) (g : Fin 4) (k : Fin 256) (l : Fin 256) : ((iblk m c 5 t : FVec Ideal S4x256x256 .bf16) (ix3 g k l) : EReal)
    = (m ((c : Thread nD τ).loc main_arg5)) (ix3 g k l) := by
  rw [← V_main_arg5 m c]
  unfold iblk
  show V m c main_arg5 (((cfg0.win 5).blk t).view.emb (ix3 g k l)) = _
  generalize V m c main_arg5 = X
  blk_ext [idx t, batch, row]

theorem wg_at (c : Dev nD) (t : Fin cfg0.N) (k : Fin 1024) (l : Fin 5632) : ((iblk m c 6 t : FVec Ideal S1024x5632 .bf16) (ix2 k l) : EReal)
    = (m ((c : Thread nD τ).loc main_arg6)) (ix2 k l) := by
  rw [← V_main_arg6 m c]
  unfold iblk
  show V m c main_arg6 (((cfg0.win 6).blk t).view.emb (ix2 k l)) = _
  generalize V m c main_arg6 = X
  blk_ext [idx t, batch, row]

theorem wd_at (c : Dev nD) (t : Fin cfg0.N) (k : Fin 2816) (l : Fin 1024) : ((iblk m c 7 t : FVec Ideal S2816x1024 .bf16) (ix2 k l) : EReal)
    = (m ((c : Thread nD τ).loc main_arg7)) (ix2 k l) := by
  rw [← V_main_arg7 m c]
  unfold iblk
  show V m c main_arg7 (((cfg0.win 7).blk t).view.emb (ix2 k l)) = _
  generalize V m c main_arg7 = X
  blk_ext [idx t, batch, row]

theorem pw0_at (c : Dev nD) (t : Fin cfg0.N) (k l : Fin 256) :
    ((View.ld (Val := Elt Ideal) (e' := .bf16) (iblk m c 5 t : FVec Ideal S4x256x256 .bf16)
      (Rect.unit (s := S4x256x256) ![0, 0, 0] ![1, 256, 256] inb_S4x256x256_S1x256x256_0_0_0)) (ix3 0 k l) : EReal)
      = (m ((c : Thread nD τ).loc main_arg5)) (ix3 0 k l) := by
  rw [← pw_at m c t]
  refine congrArg (iblk m c 5 t : FVec Ideal S4x256x256 .bf16) ?_
  funext a
  fin_cases a
  · rfl
  · apply Fin.ext
    show 0 + 1 * k.val = k.val
    omega
  · apply Fin.ext
    show 0 + 1 * l.val = l.val
    omega

theorem pw1_at (c : Dev nD) (t : Fin cfg0.N) (k l : Fin 256) :
    ((View.ld (Val := Elt Ideal) (e' := .bf16) (iblk m c 5 t : FVec Ideal S4x256x256 .bf16)
      (Rect.unit (s := S4x256x256) ![1, 0, 0] ![1, 256, 256] inb_S4x256x256_S1x256x256_1_0_0)) (ix3 0 k l) : EReal)
      = (m ((c : Thread nD τ).loc main_arg5)) (ix3 1 k l) := by
  rw [← pw_at m c t]
  refine congrArg (iblk m c 5 t : FVec Ideal S4x256x256 .bf16) ?_
  funext a
  fin_cases a
  · rfl
  · apply Fin.ext
    show 0 + 1 * k.val = k.val
    omega
  · apply Fin.ext
    show 0 + 1 * l.val = l.val
    omega

theorem pw2_at (c : Dev nD) (t : Fin cfg0.N) (k l : Fin 256) :
    ((View.ld (Val := Elt Ideal) (e' := .bf16) (iblk m c 5 t : FVec Ideal S4x256x256 .bf16)
      (Rect.unit (s := S4x256x256) ![2, 0, 0] ![1, 256, 256] inb_S4x256x256_S1x256x256_2_0_0)) (ix3 0 k l) : EReal)
      = (m ((c : Thread nD τ).loc main_arg5)) (ix3 2 k l) := by
  rw [← pw_at m c t]
  refine congrArg (iblk m c 5 t : FVec Ideal S4x256x256 .bf16) ?_
  funext a
  fin_cases a
  · rfl
  · apply Fin.ext
    show 0 + 1 * k.val = k.val
    omega
  · apply Fin.ext
    show 0 + 1 * l.val = l.val
    omega

theorem pw3_at (c : Dev nD) (t : Fin cfg0.N) (k l : Fin 256) :
    ((View.ld (Val := Elt Ideal) (e' := .bf16) (iblk m c 5 t : FVec Ideal S4x256x256 .bf16)
      (Rect.unit (s := S4x256x256) ![3, 0, 0] ![1, 256, 256] inb_S4x256x256_S1x256x256_3_0_0)) (ix3 0 k l) : EReal)
      = (m ((c : Thread nD τ).loc main_arg5)) (ix3 3 k l) := by
  rw [← pw_at m c t]
  refine congrArg (iblk m c 5 t : FVec Ideal S4x256x256 .bf16) ?_
  funext a
  fin_cases a
  · rfl
  · apply Fin.ext
    show 0 + 1 * k.val = k.val
    omega
  · apply Fin.ext
    show 0 + 1 * l.val = l.val
    omega

theorem emb8 (t : Fin cfg0.N) (u : Fin 1) (r : Fin 256) (l : Fin 1024) :
    ((cfg0.win 8).blk t).view.emb (ix3 u r l) = ix3 (batch t) (row t r) l := by
  obtain rfl : u = 0 := Subsingleton.elim _ _
  blk_ext [idx t, batch, row]

theorem emb9 (t : Fin cfg0.N) (u v : Fin 1) (r : Fin 15) (l : Fin 1024) :
    ((cfg0.win 9).blk t).view.emb (ix4 u v r l) = ix4 (batch t) v r l := by
  obtain rfl : u = 0 := Subsingleton.elim _ _
  obtain rfl : v = 0 := Subsingleton.elim _ _
  blk_ext [idx t, batch, row]

/-- The normed rows of a batch. -/
def pre (c : Dev nD) (b : Fin 4) (s : Fin 8192) (l : Fin 1024) : EReal :=
  Rows.rms (fun k => ((m ((c : Thread nD τ).loc main_arg0)) (ix3 b s k) : EReal))
    (fun k => ((m ((c : Thread nD τ).loc main_arg1)) (ix2 0 k) : EReal)) l

theorem pay5_at (c : Dev nD) (t : Fin cfg0.N) (r : Fin 256) (l : Fin 1024) :
    (k0_pay5 (F := Ideal) (iblk m c 0 t) (iblk m c 1 t) (ix2 r l) : EReal) = pre m c (batch t) (row t r) l := by
  have e : ∀ y : FVec Ideal S256x1024 .f32, shapeCast S256x1024 y shapeCasts_S256x1024_S256x1024 (ix2 r l) = y (ix2 r l) := by
    intro y
    pointwise
  unfold k0_pay5
  refine (e _).trans ((pay4_at _ _ r l).trans ?_)
  unfold pre
  simp only [x_at m c t, nm_at m c t]

/-- What a point leaves for the next: the sixteen normed rows before the next tile. -/
theorem tail_at (c : Dev nD) (t : Fin cfg0.N) (q : Fin 16) (l : Fin 1024) :
    ((outsAt0 m c t.val t.isLt).2.2 (ix2 (⟨q.val, by omega⟩ : Fin 272) l) : EReal)
      = past (pre m c (batch t)) (256 * ((grid0.coords t 1).val + 1) + q.val) l := by
  have h1 : (grid0.coords t 1).val < 32 := (grid0.coords t 1).isLt
  rw [carried, pay5_at]
  unfold past
  rw [dif_pos (by omega)]
  congr 1
  apply Fin.ext
  show 256 * (grid0.coords t 1).val + (240 + q.val) = 256 * ((grid0.coords t 1).val + 1) + q.val - 16
  omega

/-- Carried rows that hold the sixteen rows before the tile hold, with the tile's rows, what the shifts read. -/
theorem holds_over (S : FVec Ideal S272x1024 .f32) (N : FVec Ideal S256x1024 .f32) (h : Fin 8192 → Fin 1024 → EReal) (a : ℕ) (ha : a < 32)
    (hS : ∀ (q : Fin 16) (l : Fin 1024), (S (ix2 (⟨q.val, by omega⟩ : Fin 272) l) : EReal) = past h (256 * a + q.val) l)
    (hN : ∀ (r : Fin 256) (l : Fin 1024), (N (ix2 r l) : EReal) = h ⟨256 * a + r.val, by omega⟩ l) : Holds (over S N) h a := by
  intro q l
  unfold over
  by_cases hq : 16 ≤ q.val
  · rw [dif_pos (show 16 ≤ ((ix2 q l : S272x1024.Idx) 0).val from hq)]
    refine (hN ⟨q.val - 16, by omega⟩ l).trans ?_
    unfold past
    rw [dif_pos (by omega)]
    congr 1
    apply Fin.ext
    dsimp only
    omega
  · rw [dif_neg (show ¬16 ≤ ((ix2 q l : S272x1024.Idx) 0).val from hq)]
    exact hS ⟨q.val, by omega⟩ l

/-- A stored block over carried rows that hold the rows before the tile: the reference's row arithmetic. -/
theorem block_at (c : Dev nD) (t : Fin cfg0.N) (S : FVec Ideal S272x1024 .f32)
    (hS : ∀ (q : Fin 16) (l : Fin 1024), (S (ix2 (⟨q.val, by omega⟩ : Fin 272) l) : EReal)
      = past (pre m c (batch t)) (256 * (grid0.coords t 1).val + q.val) l) (u : Fin 1) (r : Fin 256) (l : Fin 1024) :
    (block m c t S (ix3 u r l) : EReal)
      = LayerZeroRef.term (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (ix3 (batch t) (row t r) l) := by
  refine Eq.trans ?_ (LayerZeroRef.term_at _ _ _ _ _ _ _ _ _ _ _).symm
  exact point_at (grid0.coords t) _ _ _ _ _ _ _ _ _ _ _ _ _ _ _ _ _ _ _ _ (row t) (fun _ => rfl) (x_at m c t)
    (nm_at m c t) (nf_at m c t) (pb_at m c t) (ps_at m c t) (wg_at m c t) (wd_at m c t) (pw0_at m c t) (pw1_at m c t)
    (pw2_at m c t) (pw3_at m c t)
    (holds_over _ _ _ _ (grid0.coords t 1).isLt hS (fun r l => pay5_at m c t r l)) u r l

theorem zero_at (q : Fin 16) (l : Fin 1024) : (fills (k0_pay2 (F := Ideal)) (ix2 (⟨q.val, by omega⟩ : Fin 272) l) : EReal) = 0 := by
  unfold fills
  rw [dif_pos (show ((ix2 (⟨q.val, by omega⟩ : Fin 272) l : S272x1024.Idx) 0).val < 16 from q.isLt)]
  show (k0_pay2 (F := Ideal) (ix2 q l) : EReal) = 0
  pointwise [k0_pay2]

/-- The block a point leaves is the reference's stream at its rows. -/
theorem out_at (c : Dev nD) (t : Fin cfg0.N) (u : Fin 1) (r : Fin 256) (l : Fin 1024) :
    ((outsAt0 m c t.val t.isLt).1 (ix3 u r l) : EReal)
      = LayerZeroRef.term (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (ix3 (batch t) (row t r) l) := by
  obtain ⟨e0, e1⟩ := coords t
  by_cases h0 : t.val % 32 = 0
  · rw [out_A m c t h0 (by omega)]
    refine block_at m c t _ (fun q l => ?_) u r l
    rw [zero_at]
    unfold past
    rw [dif_neg (by omega)]
  · have hp : t.val - 1 < cfg0.N := Nat.lt_of_le_of_lt (Nat.sub_le _ _) t.isLt
    obtain ⟨f0, f1⟩ := coords ⟨t.val - 1, hp⟩
    dsimp only at f0 f1
    have hS : ∀ (q : Fin 16) (l : Fin 1024), ((outsAt0 m c (t.val - 1) hp).2.2 (ix2 (⟨q.val, by omega⟩ : Fin 272) l) : EReal)
        = past (pre m c (batch t)) (256 * (grid0.coords t 1).val + q.val) l := by
      intro q l
      refine (tail_at m c ⟨t.val - 1, hp⟩ q l).trans ?_
      have eb : batch ⟨t.val - 1, hp⟩ = batch t := by
        apply Fin.ext
        show (grid0.coords ⟨t.val - 1, hp⟩ 0).val = (grid0.coords t 0).val
        omega
      have er : (grid0.coords ⟨t.val - 1, hp⟩ 1).val + 1 = (grid0.coords t 1).val := by omega
      rw [eb, er]
    by_cases h1 : t.val % 32 = 31
    · rw [out_C m c t h0 h1]
      exact block_at m c t _ hS u r l
    · rw [out_B m c t h0 h1]
      exact block_at m c t _ hS u r l

/-- The stream's array after the run is the reference's. -/
theorem final8 (c : Dev nD) : (dats m 0 c).arrAt 8 (cfgs 0).N
    = LayerZeroRef.term (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  obtain ⟨u, r, l, rfl⟩ : ∃ u r l, y = ix3 u r l := ⟨y 0, y 1, y 2, eq_ix3 y⟩
  exact (out_at m c t u r l).trans (congrArg (LayerZeroRef.term _ _ _ _ _ _ _ _) (emb8 t u r l)).symm

/-- The pool state's array after the run is the reference's. -/
theorem final9 (c : Dev nD) : (dats m 0 c).arrAt 9 (cfgs 0).N
    = LayerZeroRef.state (m ((c : Thread nD τ).loc main_arg0)) (m ((c : Thread nD τ).loc main_arg1)) := by
  refine (dats m 0 c).arrAt_eq_of_covers 9 _ (by decide +kernel) fun t hf y => ?_
  have h1 : t.val % 32 = 31 := (flush0_9 t).mp hf
  have h0 : ¬t.val % 32 = 0 := by omega
  obtain ⟨e0, e1⟩ := coords t
  blk_simp
  rw [after0_9]
  obtain ⟨u, v, r, l, rfl⟩ : ∃ u v r l, y = ix4 u v r l := ⟨y 0, y 1, y 2, y 3, eq_ix4 y⟩
  refine (state_C m c t h0 h1 u v r l).trans (Eq.trans ?_ (congrArg (LayerZeroRef.state _ _) (emb9 t u v r l)).symm)
  refine (pay5_at m c t _ l).trans (Eq.trans ?_ (LayerZeroRef.state_at _ _ _ _ _ _).symm)
  unfold pre
  have er : row t ⟨241 + r.val, by omega⟩ = ⟨8177 + r.val, by omega⟩ := by
    apply Fin.ext
    show 256 * (grid0.coords t 1).val + (241 + r.val) = 8177 + r.val
    omega
  rw [er]

end Cert.Proof.LayerZeroValue

end
-- ==== Proof.LayerZeroEq.lean ====
/-
  The pooling mixer and its feed-forward: the kernel's run and the reference's run leave the same arrays.
-/
module

public import proofs.«01_k».proof.Defs
public import proofs.«01_k».proof.Proof.LayerZeroValue
public import proofs.«01_k».proof.Proof.Gen.LayerZeroIdeal.Frame
public import proofs.«01_k».proof.Proof.Gen.LayerZeroRefIdeal.Run

@[expose] public section

noncomputable section

open Idealize.ShloMosaic Idealize.ShloMosaic.TcCoe Idealize.SL.Sem

namespace Cert.Proof.LayerZeroEq

/-- From memories agreeing on the arguments, the kernel and its reference end with equal streams and pool states. -/
theorem algebraic : Cert.algebraic_LayerZeroIdeal_LayerZeroRefIdeal := by
  intro m ρ m' ρ' _ hag
  refine ⟨fun c => LayerZeroRef.term (m ((c.tc : Thread Cert.LayerZeroIdeal.nD Cert.LayerZeroIdeal.τ).loc Cert.LayerZeroIdeal.main_arg0))
      (m ((c.tc : Thread Cert.LayerZeroIdeal.nD Cert.LayerZeroIdeal.τ).loc Cert.LayerZeroIdeal.main_arg1))
      (m ((c.tc : Thread Cert.LayerZeroIdeal.nD Cert.LayerZeroIdeal.τ).loc Cert.LayerZeroIdeal.main_arg2))
      (m ((c.tc : Thread Cert.LayerZeroIdeal.nD Cert.LayerZeroIdeal.τ).loc Cert.LayerZeroIdeal.main_arg3))
      (m ((c.tc : Thread Cert.LayerZeroIdeal.nD Cert.LayerZeroIdeal.τ).loc Cert.LayerZeroIdeal.main_arg4))
      (m ((c.tc : Thread Cert.LayerZeroIdeal.nD Cert.LayerZeroIdeal.τ).loc Cert.LayerZeroIdeal.main_arg5))
      (m ((c.tc : Thread Cert.LayerZeroIdeal.nD Cert.LayerZeroIdeal.τ).loc Cert.LayerZeroIdeal.main_arg6))
      (m ((c.tc : Thread Cert.LayerZeroIdeal.nD Cert.LayerZeroIdeal.τ).loc Cert.LayerZeroIdeal.main_arg7)),
    fun c => LayerZeroRef.state (m ((c.tc : Thread Cert.LayerZeroIdeal.nD Cert.LayerZeroIdeal.τ).loc Cert.LayerZeroIdeal.main_arg0))
      (m ((c.tc : Thread Cert.LayerZeroIdeal.nD Cert.LayerZeroIdeal.τ).loc Cert.LayerZeroIdeal.main_arg1)), ?_, ?_⟩
  · refine (θ_run _ _ _).mono (fun _ h c => ?_) (Cert.LayerZeroIdeal.Value.run_blocks m ρ)
    obtain ⟨h0, h1, h3⟩ := h c
    exact ⟨h0.trans (LayerZeroValue.final8 m c), h1.trans (LayerZeroValue.final9 m c), h3⟩
  · refine (θ_run _ _ _).mono (fun _ h c => ?_) (Cert.LayerZeroRefIdeal.Value.run m' ρ')
    obtain ⟨g0, g1, g3⟩ := h c
    obtain ⟨h0, h1, h2, h3, h4, h5, h6, h7⟩ := hag c
    refine ⟨g0.trans ?_, g1.trans ?_, g3⟩
    · beta_reduce
      rw [← h0, ← h1, ← h2, ← h3, ← h4, ← h5, ← h6, ← h7, LayerZeroRef.gate_eq, LayerZeroRef.gu_eq, LayerZeroRef.mixed_eq]
      rfl
    · beta_reduce
      rw [← h0, ← h1, LayerZeroRef.norm_eq]
      rfl

end Cert.Proof.LayerZeroEq

end
-- ==== Proof.KvqRef.lean ====
/-
  What the reference of the key, value and gate projections computes: the norm and the three products, each read at an
  index as the row arithmetic of Rows.lean.
-/
module

public import proofs.«01_k».proof.Proof.Rows
public import proofs.«01_k».proof.Proof.Gen.KvqRefIdeal.Run

@[expose] public section

set_option maxRecDepth 16384

noncomputable section

open Idealize.ShloMosaic Idealize.ShloMosaic.TcCoe Idealize.SL.Sem Idealize.ShloMosaic.StableHlo

namespace Cert.Proof.KvqRef

open Cert.KvqRefIdeal Cert.KvqRefIdeal.Gen

/-- The RMS norm of every row. -/
def norm (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast S1024 g shapeCasts_S1x1024_S1024)))

/-- The normed rows times a projection: the keys, and the values. -/
def proj (x : FVec Ideal S4x8192x1024 .f32) (g : FVec Ideal S1x1024 .f32) (w : FVec Ideal S1024x1024 .bf16) :
    FVec Ideal S4x8192x1024 .f32 :=
  Host.dotGeneral dot_S4x8192x1024_S1024x1024_S4x8192x1024_2_0_01_1_n_n none (norm x g) (extf .f32 w bitsLt_bf16_f32)

/-- The gates before the log-sigmoid. -/
def pre (x : FVec Ideal S4x8192x1024 .f32) (g : FVec Ideal S1x1024 .f32) (b : FVec Ideal S1x128 .f32)
    (w : FVec Ideal S1024x128 .bf16) : FVec Ideal S4x8192x16 .f32 :=
  addf (Host.dotGeneral dot_S4x8192x1024_S1024x16_S4x8192x16_2_0_01_1_n_n none (norm x g)
      (extractStridedSlice S1024x16 ![0, 0] (extf .f32 w bitsLt_bf16_f32) slices_S1024x128_S1024x16_0_0))
    (broadcastInDim S4x8192x16 ![0, 1, 2] bcast_S1x1x16_S4x8192x16_0_1_2
      (broadcastInDim S1x1x16 ![2] bcast_S16_S1x1x16_2
        (shapeCast S16 (extractStridedSlice S1x16 ![0, 0] b slices_S1x128_S1x16_0_0) shapeCasts_S1x16_S16)))

/-- Zero at every gate. -/
def zero : FVec Ideal S4x8192x16 .f32 := broadcastInDim S4x8192x16 ![] bcast_S_S4x8192x16 (constant S_ .f32 0x00000000#32)

/-- The log-sigmoid, as minus the soft maximum of minus the argument and zero. -/
def logsig (z : FVec Ideal S4x8192x16 .f32) : FVec Ideal S4x8192x16 .f32 :=
  Host.negf (select (cmpf .une (subf (Host.negf z) zero) (subf (Host.negf z) zero)) (addf (Host.negf z) zero)
    (addf (maximumf (Host.negf z) zero) (Host.log1p (Host.exp (Host.negf (Host.absf (subf (Host.negf z) zero)))))))

/-- The reference's gates are `logsig` of `pre` of its arguments. -/
theorem res_eq (m : (ℓ : Loc nD τ sig) → Buf (Elt Ideal) ℓ) (c : Dev nD) :
    Value.res_out2 m c = logsig (pre (m ((c.tc : Thread nD τ).loc main_arg0)) (m ((c.tc : Thread nD τ).loc main_arg1))
      (m ((c.tc : Thread nD τ).loc main_arg3)) (m ((c.tc : Thread nD τ).loc main_arg6))) := by
  unfold Value.res_out2 Value.res_main_v26
  rfl

theorem norm_at (x g) (b : Fin 4) (r : Fin 8192) (l : Fin 1024) : norm x g (ix3 b r l)
    = Rows.rms (fun k => x (ix3 b r k)) (fun k => g (ix2 0 k)) l := by
  pointwise [norm, Rows.rms]

/-- The keys or values at an index. -/
theorem proj_at (x g w) (b : Fin 4) (r : Fin 8192) (l : Fin 1024) : proj x g w (ix3 b r l)
    = Rows.dot (Rows.rms (fun k => x (ix3 b r k)) (fun k => g (ix2 0 k))) (fun k l => w (ix2 k l)) l := by
  pointwise [proj, Rows.dot, norm_at]

theorem pre_at (x g d w) (b : Fin 4) (r : Fin 8192) (l : Fin 16) : pre x g d w (ix3 b r l)
    = Rows.dot (Rows.rms (fun k => x (ix3 b r k)) (fun k => g (ix2 0 k))) (fun k l => w (ix2 k l)) (⟨l.val, by omega⟩ : Fin 128)
      + d (ix2 0 ⟨l.val, by omega⟩) := by
  pointwise [pre, Rows.dot, norm_at]

theorem logsig_at (z) (b : Fin 4) (r : Fin 8192) (l : Fin 16) : logsig z (ix3 b r l) = Rows.logsig (z (ix3 b r l)) := by
  pointwise [logsig, zero]
  rw [if_neg (fun h => h rfl)]
  exact Rows.logsig_neg _

end Cert.Proof.KvqRef

end
-- ==== Proof.KvqValue.lean ====
/-
  What the kernel of the key, value and gate projections computes: its three payloads at a row are the row arithmetic of
  Rows.lean, and the arrays it leaves are the reference's.
-/
module

public import proofs.«01_k».proof.Proof.KvqRef
public import proofs.«01_k».proof.Proof.Gen.KvqIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.KvqValue

open Cert.KvqIdeal Cert.KvqIdeal.Gen

variable (x : FVec Ideal S1x256x1024 .f32) (g : FVec Ideal S1x1024 .f32)

/-- The normed block at row `r`. -/
theorem norm_at (r : Fin 256) (l : Fin 1024) : k0_pay5 (F := Ideal) x g (ix2 r l)
    = Rows.rms (fun k => x (ix3 0 r k)) (fun k => g (ix2 0 k)) l := by
  pointwise [k0_pay5, k0_pay4, Rows.rms]

/-- The stored keys at row `r`. -/
theorem key_at (w : FVec Ideal S1024x1024 .bf16) (u : Fin 1) (r : Fin 256) (l : Fin 1024) :
    (k0_pay12 (F := Ideal) (k0_pay6 x g w) (ix3 u r l) : EReal)
    = Rows.dot (Rows.rms (fun k => x (ix3 0 r k)) (fun k => g (ix2 0 k))) (fun k l => w (ix2 k l)) l := by
  pointwise [k0_pay12, k0_pay6, norm_at, Rows.dot]

/-- The stored values at row `r`. -/
theorem val_at (w : FVec Ideal S1024x1024 .bf16) (u : Fin 1) (r : Fin 256) (l : Fin 1024) :
    (k0_pay13 (F := Ideal) (k0_pay7 x g w) (ix3 u r l) : EReal)
    = Rows.dot (Rows.rms (fun k => x (ix3 0 r k)) (fun k => g (ix2 0 k))) (fun k l => w (ix2 k l)) l := by
  pointwise [k0_pay13, k0_pay7, norm_at, Rows.dot]

theorem pre_at (w : FVec Ideal S1024x128 .bf16) (d : FVec Ideal S1x128 .f32) (r : Fin 256) (l : Fin 128) :
    (k0_pay8 (F := Ideal) x g w d (ix2 r l) : EReal)
    = Rows.dot (Rows.rms (fun k => x (ix3 0 r k)) (fun k => g (ix2 0 k))) (fun k l => w (ix2 k l)) l + d (ix2 0 l) := by
  pointwise [k0_pay8, norm_at, Rows.dot]

/-- The stored gates at row `r`. -/
theorem gate_at (w : FVec Ideal S1024x128 .bf16) (d : FVec Ideal S1x128 .f32) (u : Fin 1) (r : Fin 256) (l : Fin 16) :
    (k0_pay14 (F := Ideal) (k0_pay9 x g w d) (k0_pay10 x g w d) (ix3 u r l) : EReal)
    = Rows.logsig (Rows.dot (Rows.rms (fun k => x (ix3 0 r k)) (fun k => g (ix2 0 k))) (fun k l => w (ix2 k l)) (⟨l.val, by omega⟩ : Fin 128)
      + d (ix2 0 ⟨l.val, by omega⟩)) := by
  pointwise [k0_pay14, k0_pay11, k0_pay9, k0_pay10, pre_at, Rows.logsig]
  rw [zero_sub]
  rfl

variable (m : (ℓ : Loc nD τ sig) → Buf (Elt Ideal) ℓ)

/-- The windows' block indices: the rows' blocks go by batch and tile, the weights are whole. -/
theorem idx : ∀ t : Fin cfg0.N, win0_0.index t = ![(grid0.coords t 0).val, (grid0.coords t 1).val, 0]
    ∧ win0_1.index t = ![0, 0] ∧ win0_3.index t = ![0, 0] ∧ win0_4.index t = ![0, 0] ∧ win0_5.index t = ![0, 0]
    ∧ win0_6.index t = ![0, 0] ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0] :=
  (by decide +kernel : ∀ t : Fin grid0.N, _)

/-- The block of keys a point leaves, whichever case it is. -/
theorem outs9 (c : Dev nD) (t : Fin cfg0.N) : (outsAt0 m c t.val t.isLt).1
    = k0_pay12 (k0_pay6 (iblk m c 0 t) (iblk m c 1 t) (iblk m c 4 t)) := by
  by_cases h : t.val % 32 = 0
  · rw [outsAt0_A m c t h]
    frame_out
  · rw [outsAt0_B m c t h]
    frame_out

theorem outs10 (c : Dev nD) (t : Fin cfg0.N) : (outsAt0 m c t.val t.isLt).2.1
    = k0_pay13 (k0_pay7 (iblk m c 0 t) (iblk m c 1 t) (iblk m c 5 t)) := by
  by_cases h : t.val % 32 = 0
  · rw [outsAt0_A m c t h]
    frame_out
  · rw [outsAt0_B m c t h]
    frame_out

theorem outs11 (c : Dev nD) (t : Fin cfg0.N) : (outsAt0 m c t.val t.isLt).2.2.1
    = k0_pay14 (k0_pay9 (iblk m c 0 t) (iblk m c 1 t) (iblk m c 6 t) (iblk m c 3 t))
        (k0_pay10 (iblk m c 0 t) (iblk m c 1 t) (iblk m c 6 t) (iblk m c 3 t)) := by
  by_cases h : t.val % 32 = 0
  · rw [outsAt0_A m c t h]
    frame_out
  · rw [outsAt0_B m c t h]
    frame_out

/-- The batch and the row of a grid point. -/
def batch (t : Fin cfg0.N) : Fin 4 := ⟨(grid0.coords t 0).val, (grid0.coords t 0).isLt⟩
def row (t : Fin cfg0.N) (r : Fin 256) : Fin 8192 :=
  ⟨256 * (grid0.coords t 1).val + r.val, by have : (grid0.coords t 1).val < 32 := (grid0.coords t 1).isLt; omega⟩

theorem x_at (c : Dev nD) (t : Fin cfg0.N) (r : Fin 256) (k : Fin 1024) : ((iblk m c 0 t : FVec Ideal S1x256x1024 .f32) (ix3 0 r k) : EReal)
    = (m ((c : Thread nD τ).loc main_arg0)) (ix3 (batch t) (row t r) k) := by
  rw [← V_main_arg0 m c]
  unfold iblk
  show V m c main_arg0 (((cfg0.win 0).blk t).view.emb (ix3 0 r k)) = _
  generalize V m c main_arg0 = X
  blk_ext [idx t, batch, row]

theorem g_at (c : Dev nD) (t : Fin cfg0.N) (k : Fin 1024) : ((iblk m c 1 t : FVec Ideal S1x1024 .f32) (ix2 0 k) : EReal)
    = (m ((c : Thread nD τ).loc main_arg1)) (ix2 0 k) := by
  rw [← V_main_arg1 m c]
  unfold iblk
  show V m c main_arg1 (((cfg0.win 1).blk t).view.emb (ix2 0 k)) = _
  generalize V m c main_arg1 = X
  blk_ext [idx t, batch, row]

theorem d_at (c : Dev nD) (t : Fin cfg0.N) (k : Fin 128) : ((iblk m c 3 t : FVec Ideal S1x128 .f32) (ix2 0 k) : EReal)
    = (m ((c : Thread nD τ).loc main_arg3)) (ix2 0 k) := by
  rw [← V_main_arg3 m c]
  unfold iblk
  show V m c main_arg3 (((cfg0.win 3).blk t).view.emb (ix2 0 k)) = _
  generalize V m c main_arg3 = X
  blk_ext [idx t, batch, row]

theorem wk_at (c : Dev nD) (t : Fin cfg0.N) (k l : Fin 1024) : ((iblk m c 4 t : FVec Ideal S1024x1024 .bf16) (ix2 k l) : EReal)
    = (m ((c : Thread nD τ).loc main_arg4)) (ix2 k l) := by
  rw [← V_main_arg4 m c]
  unfold iblk
  show V m c main_arg4 (((cfg0.win 4).blk t).view.emb (ix2 k l)) = _
  generalize V m c main_arg4 = X
  blk_ext [idx t, batch, row]

theorem wv_at (c : Dev nD) (t : Fin cfg0.N) (k l : Fin 1024) : ((iblk m c 5 t : FVec Ideal S1024x1024 .bf16) (ix2 k l) : EReal)
    = (m ((c : Thread nD τ).loc main_arg5)) (ix2 k l) := by
  rw [← V_main_arg5 m c]
  unfold iblk
  show V m c main_arg5 (((cfg0.win 5).blk t).view.emb (ix2 k l)) = _
  generalize V m c main_arg5 = X
  blk_ext [idx t, batch, row]

theorem wf_at (c : Dev nD) (t : Fin cfg0.N) (k : Fin 1024) (l : Fin 128) : ((iblk m c 6 t : FVec Ideal S1024x128 .bf16) (ix2 k l) : EReal)
    = (m ((c : Thread nD τ).loc main_arg6)) (ix2 k l) := by
  rw [← V_main_arg6 m c]
  unfold iblk
  show V m c main_arg6 (((cfg0.win 6).blk t).view.emb (ix2 k l)) = _
  generalize V m c main_arg6 = X
  blk_ext [idx t, batch, row]

theorem emb9 (t : Fin cfg0.N) (u : Fin 1) (r : Fin 256) (l : Fin 1024) :
    ((cfg0.win 9).blk t).view.emb (ix3 u r l) = ix3 (batch t) (row t r) l := by
  obtain rfl : u = 0 := Subsingleton.elim _ _
  blk_ext [idx t, batch, row]

theorem emb10 (t : Fin cfg0.N) (u : Fin 1) (r : Fin 256) (l : Fin 1024) :
    ((cfg0.win 10).blk t).view.emb (ix3 u r l) = ix3 (batch t) (row t r) l := by
  obtain rfl : u = 0 := Subsingleton.elim _ _
  blk_ext [idx t, batch, row]

theorem emb11 (t : Fin cfg0.N) (u : Fin 1) (r : Fin 256) (l : Fin 16) :
    ((cfg0.win 11).blk t).view.emb (ix3 u r l) = ix3 (batch t) (row t r) l := by
  obtain rfl : u = 0 := Subsingleton.elim _ _
  blk_ext [idx t, batch, row]

/-- The array of keys after the run is the reference's. -/
theorem final9 (c : Dev nD) : (dats m 0 c).arrAt 9 (cfgs 0).N
    = KvqRef.proj (m ((c : Thread nD τ).loc main_arg0)) (m ((c : Thread nD τ).loc main_arg1)) (m ((c : Thread nD τ).loc main_arg4)) := by
  refine (dats m 0 c).arrAt_eq_of_covers 9 _ (by decide +kernel) fun t _ y => ?_
  blk_simp
  rw [after0_9, outs9]
  obtain ⟨u, r, l, rfl⟩ : ∃ u r l, y = ix3 u r l := ⟨y 0, y 1, y 2, eq_ix3 y⟩
  refine (key_at _ _ _ u r l).trans (Eq.trans ?_ (congrArg (KvqRef.proj _ _ _) (emb9 t u r l)).symm)
  exact (Rows.dot_rms_congr (x_at m c t r) (g_at m c t) (wk_at m c t) l).trans (KvqRef.proj_at _ _ _ _ _ _).symm

/-- The array of values after the run is the reference's. -/
theorem final10 (c : Dev nD) : (dats m 0 c).arrAt 10 (cfgs 0).N
    = KvqRef.proj (m ((c : Thread nD τ).loc main_arg0)) (m ((c : Thread nD τ).loc main_arg1)) (m ((c : Thread nD τ).loc main_arg5)) := by
  refine (dats m 0 c).arrAt_eq_of_covers 10 _ (by decide +kernel) fun t _ y => ?_
  blk_simp
  rw [after0_10, outs10]
  obtain ⟨u, r, l, rfl⟩ : ∃ u r l, y = ix3 u r l := ⟨y 0, y 1, y 2, eq_ix3 y⟩
  refine (val_at _ _ _ u r l).trans (Eq.trans ?_ (congrArg (KvqRef.proj _ _ _) (emb10 t u r l)).symm)
  exact (Rows.dot_rms_congr (x_at m c t r) (g_at m c t) (wv_at m c t) l).trans (KvqRef.proj_at _ _ _ _ _ _).symm

/-- The array of gates after the run is the reference's. -/
theorem final11 (c : Dev nD) : (dats m 0 c).arrAt 11 (cfgs 0).N
    = KvqRef.logsig (KvqRef.pre (m ((c : Thread nD τ).loc main_arg0)) (m ((c : Thread nD τ).loc main_arg1))
        (m ((c : Thread nD τ).loc main_arg3)) (m ((c : Thread nD τ).loc main_arg6))) := by
  refine (dats m 0 c).arrAt_eq_of_covers 11 _ (by decide +kernel) fun t _ y => ?_
  blk_simp
  rw [after0_11, outs11]
  obtain ⟨u, r, l, rfl⟩ : ∃ u r l, y = ix3 u r l := ⟨y 0, y 1, y 2, eq_ix3 y⟩
  refine (gate_at _ _ _ _ u r l).trans (Eq.trans ?_ (congrArg (KvqRef.logsig _) (emb11 t u r l)).symm)
  refine (congrArg Rows.logsig ?_).trans (KvqRef.logsig_at _ _ _ _).symm
  exact (congrArg₂ (· + ·) (Rows.dot_rms_congr (x_at m c t r) (g_at m c t) (wf_at m c t) _) (d_at m c t _)).trans
    (KvqRef.pre_at _ _ _ _ _ _ _).symm

end Cert.Proof.KvqValue

end
-- ==== Proof.KvqEq.lean ====
/-
  The key, value and gate projections: the kernel's run and the reference's run leave the same arrays.
-/
module

public import proofs.«01_k».proof.Defs
public import proofs.«01_k».proof.Proof.KvqValue
public import proofs.«01_k».proof.Proof.Gen.KvqIdeal.Frame
public import proofs.«01_k».proof.Proof.Gen.KvqRefIdeal.Run

@[expose] public section

noncomputable section

open Idealize.ShloMosaic Idealize.ShloMosaic.TcCoe Idealize.SL.Sem

namespace Cert.Proof.KvqEq

/-- From memories agreeing on the arguments, the kernel and its reference end with equal keys, values and gates. -/
theorem algebraic : Cert.algebraic_KvqIdeal_KvqRefIdeal := by
  intro m ρ m' ρ' _ hag
  refine ⟨fun c => KvqRef.proj (m ((c.tc : Thread Cert.KvqIdeal.nD Cert.KvqIdeal.τ).loc Cert.KvqIdeal.main_arg0)) (m ((c.tc : Thread Cert.KvqIdeal.nD Cert.KvqIdeal.τ).loc Cert.KvqIdeal.main_arg1))
      (m ((c.tc : Thread Cert.KvqIdeal.nD Cert.KvqIdeal.τ).loc Cert.KvqIdeal.main_arg4)),
    fun c => KvqRef.proj (m ((c.tc : Thread Cert.KvqIdeal.nD Cert.KvqIdeal.τ).loc Cert.KvqIdeal.main_arg0)) (m ((c.tc : Thread Cert.KvqIdeal.nD Cert.KvqIdeal.τ).loc Cert.KvqIdeal.main_arg1))
      (m ((c.tc : Thread Cert.KvqIdeal.nD Cert.KvqIdeal.τ).loc Cert.KvqIdeal.main_arg5)),
    fun c => KvqRef.logsig (KvqRef.pre (m ((c.tc : Thread Cert.KvqIdeal.nD Cert.KvqIdeal.τ).loc Cert.KvqIdeal.main_arg0)) (m ((c.tc : Thread Cert.KvqIdeal.nD Cert.KvqIdeal.τ).loc Cert.KvqIdeal.main_arg1))
      (m ((c.tc : Thread Cert.KvqIdeal.nD Cert.KvqIdeal.τ).loc Cert.KvqIdeal.main_arg3)) (m ((c.tc : Thread Cert.KvqIdeal.nD Cert.KvqIdeal.τ).loc Cert.KvqIdeal.main_arg6))), ?_, ?_⟩
  · refine (θ_run _ _ _).mono (fun _ h c => ?_) (Cert.KvqIdeal.Value.run_blocks m ρ)
    obtain ⟨h0, h1, h2, -, -, -, h3⟩ := h c
    exact ⟨h0.trans (KvqValue.final9 m c), h1.trans (KvqValue.final10 m c), h2.trans (KvqValue.final11 m c), h3⟩
  · refine (θ_run _ _ _).mono (fun _ h c => ?_) (Cert.KvqRefIdeal.Value.run m' ρ')
    obtain ⟨g0, g1, g2, h3⟩ := h c
    obtain ⟨h0, h1, -, h4, h5, h6, h7, -⟩ := hag c
    refine ⟨g0.trans ?_, g1.trans ?_, g2.trans ?_, h3⟩
    · beta_reduce
      rw [← h0, ← h1, ← h5]
      rfl
    · beta_reduce
      rw [← h0, ← h1, ← h6]
      rfl
    · beta_reduce
      rw [← h0, ← h1, ← h4, ← h7]
      exact KvqRef.res_eq m' c

end Cert.Proof.KvqEq

end
-- ==== Proof.AttnRow.lean ====
/-
  The arithmetic of one row of the forgetting attention over the extended reals: the running maximum and the running sums
  rescaled by it, step by step, keep the sums `∑ exp(score) * value` up to one positive finite factor, and that factor
  leaves the quotient of two such sums.
-/
module

public import Idealize.ShloMosaic.PureOps.Ideal

@[expose] public section

noncomputable section

open Idealize.ShloMosaic

namespace Cert.Attend

/-- The exponential of a score: of a real number its exponential, of minus infinity zero. -/
abbrev wt (s : EReal) : EReal := Ideal.exp s

/-- A score is a real number or minus infinity (a masked key). -/
def Score (s : EReal) : Prop := s ≠ ⊤

/-- The largest of a row's running maximum and the scores of a block. -/
def newMax {n : ℕ} (m : EReal) (s : Fin n → EReal) : EReal := max m (Finset.univ.fold max ⊥ s)

/-- The running sum after a block: the old one rescaled, and the block's values weighted. -/
def newAcc {n : ℕ} (m a : EReal) (s v : Fin n → EReal) : EReal :=
  a * Ideal.exp (m - newMax m s) + ∑ j, Ideal.exp (s j - newMax m s) * v j

/-- A running maximum and a running sum that stand for the plain sum `N`: a real maximum `μ` and `exp(-μ) * N`. -/
def Holds (m a N : EReal) : Prop := ∃ μ : ℝ, m = μ ∧ a = Ideal.exp (-(μ : EReal)) * N

theorem exp_coe (x : ℝ) : Ideal.exp (x : EReal) = ((Real.exp x : ℝ) : EReal) := rfl

theorem exp_bot : Ideal.exp ⊥ = 0 := rfl

theorem exp_nonneg (s : EReal) : 0 ≤ Ideal.exp s := by
  induction s with
  | bot => exact le_refl _
  | top => exact le_top
  | coe x => rw [exp_coe]; exact_mod_cast (Real.exp_pos x).le

/-- Subtracting a real maximum from a score multiplies its exponential. -/
theorem exp_sub {s : EReal} (hs : Score s) (μ : ℝ) :
    Ideal.exp (s - (μ : EReal)) = Ideal.exp (-(μ : EReal)) * Ideal.exp s := by
  induction s with
  | bot => rw [EReal.bot_sub, exp_bot, mul_zero]
  | top => exact absurd rfl hs
  | coe x =>
    rw [← EReal.coe_sub, ← EReal.coe_neg, exp_coe, exp_coe, exp_coe, ← EReal.coe_mul, ← Real.exp_add]
    congr 2; ring

/-- A nonnegative finite factor goes into a sum, whatever the summands. -/
theorem coe_mul_sum {ι : Type*} (t : Finset ι) (c : ℝ) (hc : 0 ≤ c) (f : ι → EReal) :
    (c : EReal) * ∑ j ∈ t, f j = ∑ j ∈ t, (c : EReal) * f j := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- The weighted values of a block, with a real maximum taken off the scores. -/
theorem sum_sub {n : ℕ} {s : Fin n → EReal} (hs : ∀ j, Score (s j)) (v : Fin n → EReal) (μ : ℝ) :
    ∑ j, Ideal.exp (s j - (μ : EReal)) * v j = Ideal.exp (-(μ : EReal)) * ∑ j, wt (s j) * v j := by
  rw [← EReal.coe_neg, exp_coe, coe_mul_sum _ _ (Real.exp_pos _).le]
  refine Finset.sum_congr rfl fun j _ => ?_
  rw [exp_sub (hs j), ← EReal.coe_neg, exp_coe, mul_assoc]

theorem fold_ne_top {n : ℕ} {s : Fin n → EReal} (hs : ∀ j, Score (s j)) : Finset.univ.fold max ⊥ s ≠ ⊤ := by
  rw [← lt_top_iff_ne_top, Finset.fold_max_lt]
  exact ⟨bot_lt_top, fun j _ => lt_top_iff_ne_top.mpr (hs j)⟩

theorem newMax_real {n : ℕ} {m : EReal} {s : Fin n → EReal} (hm : m ≠ ⊤) (hs : ∀ j, Score (s j))
    (h : m ≠ ⊥ ∨ ∃ j, s j ≠ ⊥) : ∃ μ : ℝ, newMax m s = μ := by
  have ht : newMax m s ≠ ⊤ := by
    rw [newMax, ← lt_top_iff_ne_top, max_lt_iff]
    exact ⟨lt_top_iff_ne_top.mpr hm, lt_top_iff_ne_top.mpr (fold_ne_top hs)⟩
  have hb : newMax m s ≠ ⊥ := by
    rw [← bot_lt_iff_ne_bot]
    rcases h with h | ⟨j, h⟩
    · exact (bot_lt_iff_ne_bot.mpr h).trans_le (le_max_left _ _)
    · exact (bot_lt_iff_ne_bot.mpr h).trans_le
        ((Finset.le_fold_max _ |>.mpr (.inr ⟨j, Finset.mem_univ j, le_refl _⟩)).trans (le_max_right _ _))
  exact ⟨(newMax m s).toReal, (EReal.coe_toReal ht hb).symm⟩

/-- The first block: from the empty maximum and the empty sum. -/
theorem holds_first {n : ℕ} {s : Fin n → EReal} (hs : ∀ j, Score (s j)) (h : ∃ j, s j ≠ ⊥) (v : Fin n → EReal) :
    Holds (newMax ⊥ s) (newAcc ⊥ 0 s v) (∑ j, wt (s j) * v j) := by
  obtain ⟨μ, hμ⟩ := newMax_real (m := ⊥) (by simp) hs (.inr h)
  exact ⟨μ, hμ, by rw [newAcc, hμ, zero_mul, zero_add, sum_sub hs]⟩

/-- A further block adds its weighted values to the plain sum. -/
theorem holds_step {n : ℕ} {m a N : EReal} (hN : Holds m a N) {s : Fin n → EReal} (hs : ∀ j, Score (s j))
    (v : Fin n → EReal) : Holds (newMax m s) (newAcc m a s v) (N + ∑ j, wt (s j) * v j) := by
  obtain ⟨ν, rfl, rfl⟩ := hN
  obtain ⟨μ, hμ⟩ := newMax_real (m := (ν : EReal)) (by simp) hs (.inl (by simp))
  refine ⟨μ, hμ, ?_⟩
  rw [newAcc, hμ, sum_sub hs, ← EReal.coe_sub, ← EReal.coe_neg, ← EReal.coe_neg, exp_coe, exp_coe, exp_coe,
    EReal.left_distrib_of_nonneg_of_ne_top (by exact_mod_cast (Real.exp_pos _).le) (EReal.coe_ne_top _),
    mul_comm ((Real.exp (-ν) : ℝ) : EReal) N, mul_assoc, ← EReal.coe_mul, ← Real.exp_add, mul_comm N]
  congr 4; ring

/-- The quotient of two sums that stand for plain ones is the quotient of the plain ones. -/
theorem holds_div {m a b N D : EReal} (ha : Holds m a N) (hb : Holds m b D) (hD : ∃ d : ℝ, 0 < d ∧ D = d) :
    Ideal.div a b = N * D⁻¹ := by
  obtain ⟨μ, rfl, rfl⟩ := ha
  obtain ⟨ν, hν, rfl⟩ := hb
  obtain rfl : μ = ν := by exact_mod_cast hν
  obtain ⟨d, hd, rfl⟩ := hD
  have he := Real.exp_pos (-μ)
  rw [← EReal.coe_neg, exp_coe, Ideal.div, ← EReal.coe_mul,
    if_neg (by exact_mod_cast (mul_pos he hd).ne'), ← EReal.coe_inv, ← EReal.coe_inv, mul_comm _ N, mul_assoc,
    ← EReal.coe_mul]
  congr 2
  field_simp

/-- The plain weighted mean of a row: `∑ exp(score) * value` over `∑ exp(score)`. -/
def mean {ι : Type*} [Fintype ι] (s v : ι → EReal) : EReal := (∑ j, wt (s j) * v j) * (∑ j, wt (s j))⁻¹

theorem sum_wt_real {ι : Type*} (t : Finset ι) {s : ι → EReal} (hs : ∀ j, Score (s j)) :
    ∃ d : ℝ, 0 ≤ d ∧ ∑ j ∈ t, wt (s j) = d ∧ ((∃ j ∈ t, s j ≠ ⊥) → 0 < d) := by
  classical
  induction t using Finset.induction_on with
  | empty => exact ⟨0, le_refl _, by simp, by simp⟩
  | insert a t ha ih =>
    obtain ⟨d, hd, e, hp⟩ := ih
    rw [Finset.sum_insert ha, e]
    rcases eq_or_ne (s a) ⊥ with h | h
    · refine ⟨d, hd, by rw [h, wt, exp_bot, zero_add], fun ⟨j, hj, hj'⟩ => hp ⟨j, ?_, hj'⟩⟩
      rcases Finset.mem_insert.mp hj with rfl | hj
      · exact absurd h hj'
      · exact hj
    · rw [← EReal.coe_toReal (hs a) h]
      exact ⟨Real.exp (s a).toReal + d, by positivity, by rw [wt, exp_coe, EReal.coe_add], fun _ => by positivity⟩

/-- The softmax of scores shifted by a real number, applied to values, is the plain weighted mean. -/
theorem softmax_eq {ι : Type*} [Fintype ι] {s : ι → EReal} (hs : ∀ j, Score (s j)) (h : ∃ j, s j ≠ ⊥) (v : ι → EReal)
    (δ : ℝ) :
    ∑ j, v j * Ideal.div (Ideal.exp (s j - (δ : EReal))) (∑ k, Ideal.exp (s k - (δ : EReal))) = mean s v := by
  obtain ⟨d, -, e, hp⟩ := sum_wt_real Finset.univ hs
  have hd : 0 < d := hp (by obtain ⟨j, hj⟩ := h; exact ⟨j, Finset.mem_univ j, hj⟩)
  have he := Real.exp_pos (-δ)
  have hsum : ∑ k, Ideal.exp (s k - (δ : EReal)) = ((Real.exp (-δ) * d : ℝ) : EReal) := by
    rw [EReal.coe_mul, ← e, coe_mul_sum _ _ he.le]
    exact Finset.sum_congr rfl fun j _ => by rw [exp_sub (hs j), ← EReal.coe_neg, exp_coe]
  rw [mean, e, ← EReal.coe_inv, mul_comm (Finset.sum _ _), coe_mul_sum _ _ (inv_pos.mpr hd).le, hsum]
  refine Finset.sum_congr rfl fun j _ => ?_
  have hc : ((d⁻¹ : ℝ) : EReal) = ((Real.exp (-δ) : ℝ) : EReal) * (((Real.exp (-δ) * d)⁻¹ : ℝ) : EReal) := by
    rw [← EReal.coe_mul]; congr 1; field_simp
  rw [Ideal.div, if_neg (by exact_mod_cast (mul_pos he hd).ne'), exp_sub (hs j), ← EReal.coe_neg, exp_coe, ← EReal.coe_inv, hc]
  ac_rfl

end Cert.Attend

end
-- ==== Proof.AttnMean.lean ====
/-
  The attention of one layer over slabs of 16 heads of 128 lanes: for each row the mean of the values over the keys up to
  it, weighted by the exponentials of the scores, and what the lanes of the slabs hold.
-/
module

public import proofs.«01_k».proof.Proof.AttnRow
public import Idealize.ShloMosaic.Lib.Pointwise

@[expose] public section

noncomputable section

open Idealize.ShloMosaic Idealize.ShloMosaic.TcCoe Cert.Attend

namespace Cert.Proof.AttnMean

/-- A slab: 4 batches of 8192 rows of 16 heads of 128 lanes. -/
abbrev Slab : Type := FVec Ideal (⟨3, ![4, 8192, 2048]⟩ : Shape) .bf16

/-- The score of row `i` with key `j` in a head. -/
def score (q k : Slab) (b : Fin 4) (h : Fin 16) (i j : Fin 8192) : EReal :=
  ∑ d : Fin 128, (q (ix3 b i ⟨128 * h.val + d.val, by omega⟩) : EReal) * (k (ix3 b j ⟨128 * h.val + d.val, by omega⟩) : EReal)

/-- The score, the keys after the row masked. -/
def seen (q k : Slab) (b : Fin 4) (h : Fin 16) (i j : Fin 8192) : EReal := if j.val ≤ i.val then score q k b h i j else ⊥

/-- The weighted mean of the values. -/
def attend (q k v : Slab) (b : Fin 4) (h : Fin 16) (i : Fin 8192) (l : Fin 128) : EReal :=
  mean (seen q k b h i) fun j => v (ix3 b j ⟨128 * h.val + l.val, by omega⟩)

/-- The result array: lanes 0 to 63 of every head's weighted mean, side by side. -/
def result (q k v : Slab) : FVec Ideal (⟨3, ![4, 8192, 1024]⟩ : Shape) .bf16 := fun y =>
  attend q k v (y 0) ⟨(y 2).val / 64, by have h : (y 2).val < 1024 := (y 2).isLt; omega⟩ (y 1) ⟨(y 2).val % 64, by omega⟩

/-- The result array read by batch, row, head and lane. -/
theorem result_at (q k v : Slab) (y : (⟨3, ![4, 8192, 1024]⟩ : Shape).Idx) (b : Fin 4) (h : Fin 16) (i : Fin 8192) (l : Fin 128) (hl : l.val < 64)
    (e0 : (y 0).val = b.val) (e1 : (y 1).val = i.val) (e2 : (y 2).val = 64 * h.val + l.val) : result q k v y = attend q k v b h i l := by
  obtain ⟨b', i', c, rfl⟩ : ∃ b i c, y = ix3 b i c := ⟨y 0, y 1, y 2, eq_ix3 y⟩
  obtain rfl : b' = b := Fin.ext e0
  obtain rfl : i' = i := Fin.ext e1
  have e2 : c.val = 64 * h.val + l.val := e2
  have eh : (⟨c.val / 64, by omega⟩ : Fin 16) = h := Fin.ext (by show c.val / 64 = h.val; omega)
  have el : (⟨c.val % 64, by omega⟩ : Fin 128) = l := Fin.ext (by show c.val % 64 = l.val; omega)
  show attend q k v b' ⟨c.val / 64, _⟩ i' ⟨c.val % 64, _⟩ = _
  rw [eh, el]

/-- What the lanes hold: real queries in 0 to 63, ones in 64 to 66, zeros beyond; real keys and gates in 0 to 66; a one in the
    values' lane 64. -/
structure Lanes (q k v : Slab) : Prop where
  qdata : ∀ (b : Fin 4) (i : Fin 8192) (h : Fin 16) (d : Fin 64), ∃ x : ℝ, (q (ix3 b i ⟨128 * h.val + d.val, by omega⟩) : EReal) = x
  qone : ∀ (b : Fin 4) (i : Fin 8192) (h : Fin 16) (d : Fin 3), (q (ix3 b i ⟨128 * h.val + (64 + d.val), by omega⟩) : EReal) = 1
  qzero : ∀ (b : Fin 4) (i : Fin 8192) (h : Fin 16) (d : Fin 61), (q (ix3 b i ⟨128 * h.val + (67 + d.val), by omega⟩) : EReal) = 0
  kdata : ∀ (b : Fin 4) (i : Fin 8192) (h : Fin 16) (d : Fin 67), ∃ x : ℝ, (k (ix3 b i ⟨128 * h.val + d.val, by omega⟩) : EReal) = x
  vone : ∀ (b : Fin 4) (i : Fin 8192) (h : Fin 16), (v (ix3 b i ⟨128 * h.val + 64, by omega⟩) : EReal) = 1

/-- A sum of real numbers is real. -/
theorem real_sum {ι : Type*} (t : Finset ι) {f : ι → EReal} (hf : ∀ i, ∃ x : ℝ, f i = x) : ∃ x : ℝ, ∑ i ∈ t, f i = x := by
  classical
  induction t using Finset.induction_on with
  | empty => exact ⟨0, by simp⟩
  | insert a t ha ih =>
    obtain ⟨x, hx⟩ := ih
    obtain ⟨y, hy⟩ := hf a
    exact ⟨y + x, by rw [Finset.sum_insert ha, hx, hy, EReal.coe_add]⟩

/-- A sum over 128 lanes: the first 64, the next 3, the rest. -/
theorem sum_lanes (f : Fin 128 → EReal) : ∑ d, f d =
    ∑ d : Fin 64, f ⟨d.val, by omega⟩ + (∑ d : Fin 3, f ⟨64 + d.val, by omega⟩ + ∑ d : Fin 61, f ⟨67 + d.val, by omega⟩) := by
  have e1 : ∑ d : Fin 128, f d = ∑ d : Fin 64, f (Fin.castAdd 64 d) + ∑ d : Fin (3 + 61), f (Fin.natAdd 64 d) := Fin.sum_univ_add (a := 64) (b := 64) f
  have e2 := Fin.sum_univ_add (a := 3) (b := 61) fun d => f (Fin.natAdd 64 d)
  rw [e1, e2]
  refine congrArg (fun x : EReal => _ + (_ + x)) (Finset.sum_congr rfl fun d _ => congrArg f (Fin.ext ?_))
  show 64 + (3 + d.val) = 67 + d.val
  omega

variable {q k v : Slab}

/-- The queries' and keys' products over the first 64 lanes. -/
def dots (q k : Slab) (b : Fin 4) (h : Fin 16) (i j : Fin 8192) : EReal :=
  ∑ d : Fin 64, (q (ix3 b i ⟨128 * h.val + d.val, by omega⟩) : EReal) * (k (ix3 b j ⟨128 * h.val + d.val, by omega⟩) : EReal)

/-- The gate of a key: the sum of its lanes 64 to 66. -/
def gate (k : Slab) (b : Fin 4) (h : Fin 16) (j : Fin 8192) : EReal := ∑ d : Fin 3, (k (ix3 b j ⟨128 * h.val + (64 + d.val), by omega⟩) : EReal)

theorem dots_real (H : Lanes q k v) (b : Fin 4) (h : Fin 16) (i j : Fin 8192) : ∃ x : ℝ, dots q k b h i j = x :=
  real_sum _ fun d => by
    obtain ⟨x, hx⟩ := H.qdata b i h d
    obtain ⟨y, hy⟩ := H.kdata b j h ⟨d.val, by omega⟩
    exact ⟨x * y, by rw [hx, hy, EReal.coe_mul]⟩

theorem gate_real (H : Lanes q k v) (b : Fin 4) (h : Fin 16) (j : Fin 8192) : ∃ x : ℝ, gate k b h j = x :=
  real_sum _ fun d => H.kdata b j h ⟨64 + d.val, by omega⟩

/-- The score is the product of query and key, plus the key's gate. -/
theorem score_eq (H : Lanes q k v) (b : Fin 4) (h : Fin 16) (i j : Fin 8192) : score q k b h i j = dots q k b h i j + gate k b h j := by
  unfold score
  rw [sum_lanes]
  have e3 : ∑ d : Fin 61, (q (ix3 b i ⟨128 * h.val + (67 + d.val), by omega⟩) : EReal) * (k (ix3 b j ⟨128 * h.val + (67 + d.val), by omega⟩) : EReal) = 0 :=
    Finset.sum_eq_zero fun d _ => by rw [H.qzero b i h d, zero_mul]
  have e2 : ∑ d : Fin 3, (q (ix3 b i ⟨128 * h.val + (64 + d.val), by omega⟩) : EReal) * (k (ix3 b j ⟨128 * h.val + (64 + d.val), by omega⟩) : EReal)
      = gate k b h j := Finset.sum_congr rfl fun d _ => by rw [H.qone b i h d, one_mul]
  rw [e2, e3, add_zero]
  rfl

theorem score_real (H : Lanes q k v) (b : Fin 4) (h : Fin 16) (i j : Fin 8192) : ∃ x : ℝ, score q k b h i j = x := by
  obtain ⟨x, hx⟩ := dots_real H b h i j
  obtain ⟨y, hy⟩ := gate_real H b h j
  exact ⟨x + y, by rw [score_eq H, hx, hy, EReal.coe_add]⟩

end Cert.Proof.AttnMean

end
-- ==== Proof.AttnPay.lean ====
/-
  What the stored vectors of the attention kernel are, row by row: the running maximum and the running sums of one step
  over a block of 256 keys, in the arithmetic of AttnRow.lean, for both heads of a pair.
-/
module

public import proofs.«01_k».proof.Proof.AttnRow
public import proofs.«01_k».proof.Proof.Gen.AttnIdeal.Skeleton
public import Idealize.ShloMosaic.Lib.Pointwise
public import Idealize.ShloMosaic.Lib.WordCmp

@[expose] public section

set_option maxRecDepth 16384

noncomputable section

open Idealize.ShloMosaic Idealize.ShloMosaic.TcCoe

namespace Cert.Proof.AttnPay

open Cert.AttnIdeal Cert.AttnIdeal.Gen Cert.Attend

variable (q : FVec Ideal S1x512x128 .bf16) (K V : FVec Ideal S1x256x128 .bf16)

/-- The score of query row `r` with the keys of a block. -/
def score (r : Fin 512) (j : Fin 256) : EReal := ∑ d : Fin 128, (q (ix3 0 r d) : EReal) * (K (ix3 0 j d) : EReal)

/-- The scores of a block on the diagonal: a key past the row is masked. -/
def masked (r : ℕ) (s : Fin 256 → EReal) (j : Fin 256) : EReal := if j.val ≤ r then s j else ⊥

/-- The mask's fill value is minus infinity. -/
theorem mask_eq : (Named.named (F := Ideal) (φ := .f32) κ "mask" 0xF149F2CA#32 : EReal) = ⊥ :=
  IdealRules.named_const.ideal_named_scalar κ "mask" _ _ rfl

/-- The word of minus infinity. -/
theorem ninf : Ideal.ofBits .f32 0xFF800000#32 = ⊥ := by
  simp [Ideal.ofBits, Ideal.ieee]

/-- A choice by a comparison of two small numbers. -/
theorem sel_le {a b : ℕ} (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb]
  by_cases h : a ≤ b <;> simp [Scalar.select, h]

theorem sel_lt {a b : ℕ} (ha : a < 2 ^ 31) (hb : b < 2 ^ 31) (x y : EReal) :
    Scalar.select (IntOp.cmpi .slt (BitVec.ofNat 32 a) (BitVec.ofNat 32 b)) x y = if a < b then x else y := by
  rw [WordCmp.cmpi_slt_ofNat ha hb]
  by_cases h : a < b <;> simp [Scalar.select, h]

theorem score_main (r : Fin 512) (j : Fin 256) : (k0_pay6 (F := Ideal) q K (ix2 r j) : EReal) = score q K r j := by
  pointwise [k0_pay6, k0_pay3, score]

theorem max_main (m : FVec Ideal S512x1 .f32) (r : Fin 512) :
    (k0_pay9 (F := Ideal) q K m (ix2 r 0) : EReal) = newMax (m (ix2 r 0)) (score q K r) := by
  pointwise [k0_pay9, k0_pay7, newMax, score_main, ninf]

theorem acc_main (m : FVec Ideal S512x1 .f32) (a : FVec Ideal S512x128 .f32) (r : Fin 512) (l : Fin 128) :
    (k0_pay8 (F := Ideal) q K V m a (ix2 r l) : EReal) =
      newAcc (m (ix2 r 0)) (a (ix2 r l)) (score q K r) (fun j => V (ix3 0 j l)) := by
  pointwise [k0_pay8, k0_pay7, newAcc, newMax, score_main, ninf]

theorem score_diag (r : Fin 512) (j : Fin 256) :
    (k0_pay18 (F := Ideal) (k0_pay15 q K) k0_pay16 k0_pay17 (ix2 r j) : EReal) = masked r.val (score q K r) j := by
  pointwise [k0_pay15, k0_pay16, k0_pay17, k0_pay18, k0_pay3, score, masked]
  rw [sel_le (by omega) (by omega), mask_eq]

theorem max_diag (m : FVec Ideal S512x1 .f32) (r : Fin 512) :
    (k0_pay21 (F := Ideal) (k0_pay15 q K) k0_pay16 k0_pay17 m (ix2 r 0) : EReal) =
      newMax (m (ix2 r 0)) (masked r.val (score q K r)) := by
  pointwise [k0_pay21, k0_pay19, newMax, score_diag, ninf]

theorem acc_diag (m : FVec Ideal S512x1 .f32) (a : FVec Ideal S512x128 .f32) (r : Fin 512) (l : Fin 128) :
    (k0_pay20 (F := Ideal) (k0_pay14 V) (k0_pay15 q K) k0_pay16 k0_pay17 m a (ix2 r l) : EReal) =
      newAcc (m (ix2 r 0)) (a (ix2 r l)) (masked r.val (score q K r)) (fun j => V (ix3 0 j l)) := by
  pointwise [k0_pay20, k0_pay19, k0_pay14, newAcc, newMax, score_diag, ninf]

theorem score_half (r : Fin 256) (j : Fin 256) :
    (k0_pay23 (F := Ideal) (k0_pay3 q) K (ix2 r j) : EReal) = masked r.val (score q K ⟨256 + r.val, by omega⟩) j := by
  pointwise [k0_pay23, k0_pay3, score, masked]
  rw [sel_le (by omega) (by omega), mask_eq]

theorem acc_half (m : FVec Ideal S256x1 .f32) (a : FVec Ideal S256x128 .f32) (r : Fin 256) (l : Fin 128) :
    (k0_pay25 (F := Ideal) (k0_pay22 V) (k0_pay23 (k0_pay3 q) K) m a (ix2 r l) : EReal) =
      newAcc (m (ix2 r 0)) (a (ix2 r l)) (masked r.val (score q K ⟨256 + r.val, by omega⟩)) (fun j => V (ix3 0 j l)) := by
  pointwise [k0_pay25, k0_pay24, k0_pay22, newAcc, newMax, score_half, ninf]

theorem max_first (r : Fin 512) : (k0_pay4 (F := Ideal) (ix2 r 0) : EReal) = ⊥ := by
  pointwise [k0_pay4, mask_eq]

theorem acc_first (r : Fin 512) (l : Fin 128) : (k0_pay5 (F := Ideal) (ix2 r l) : EReal) = 0 := by
  pointwise [k0_pay5]

/-! The second head of the pair computes the same. -/

theorem max_main' (m : FVec Ideal S512x1 .f32) (r : Fin 512) :
    (k0_pay34 (F := Ideal) (k0_pay28 q) K m (ix2 r 0) : EReal) = newMax (m (ix2 r 0)) (score q K r) := max_main q K m r

theorem acc_main' (m : FVec Ideal S512x1 .f32) (a : FVec Ideal S512x128 .f32) (r : Fin 512) (l : Fin 128) :
    (k0_pay33 (F := Ideal) (k0_pay28 q) K V m a (ix2 r l) : EReal) =
      newAcc (m (ix2 r 0)) (a (ix2 r l)) (score q K r) (fun j => V (ix3 0 j l)) := acc_main q K V m a r l

theorem max_diag' (m : FVec Ideal S512x1 .f32) (r : Fin 512) :
    (k0_pay43 (F := Ideal) (k0_pay40 (k0_pay28 q) K m) (ix2 r 0) : EReal) =
      newMax (m (ix2 r 0)) (masked r.val (score q K r)) := max_diag q K m r

theorem acc_diag' (m : FVec Ideal S512x1 .f32) (a : FVec Ideal S512x128 .f32) (r : Fin 512) (l : Fin 128) :
    (k0_pay42 (F := Ideal) (k0_pay41 (k0_pay28 q) K V m a) (ix2 r l) : EReal) =
      newAcc (m (ix2 r 0)) (a (ix2 r l)) (masked r.val (score q K r)) (fun j => V (ix3 0 j l)) := acc_diag q K V m a r l

theorem acc_half' (m : FVec Ideal S256x1 .f32) (a : FVec Ideal S256x128 .f32) (r : Fin 256) (l : Fin 128) :
    (k0_pay46 (F := Ideal) (k0_pay28 q) K V m a (ix2 r l) : EReal) =
      newAcc (m (ix2 r 0)) (a (ix2 r l)) (masked r.val (score q K ⟨256 + r.val, by omega⟩)) (fun j => V (ix3 0 j l)) :=
  acc_half q K V m a r l

theorem max_first' (r : Fin 512) : (k0_pay29 (F := Ideal) (ix2 r 0) : EReal) = ⊥ := max_first r

theorem acc_first' (r : Fin 512) (l : Fin 128) : (k0_pay30 (F := Ideal) (ix2 r l) : EReal) = 0 := acc_first r l

/-- The stored block: the first head's quotients in lanes 0 to 63, the second head's in lanes 64 to 127. -/
theorem out_at (a b : FVec Ideal S512x128 .f32) (r : Fin 512) (l : Fin 128) :
    (k0_pay2 (F := Ideal) (k0_pay27 a) b (ix3 0 r l) : EReal) = if l.val < 64 then Ideal.div (a (ix2 r l)) (a (ix2 r 64))
      else Ideal.div (b (ix2 r ⟨(l.val + 128 - 64) % 128, Nat.mod_lt _ (by omega)⟩)) (b (ix2 r 64)) := by
  pointwise [k0_pay2, k0_pay27]
  exact sel_lt (by omega) (by omega) _ _

end Cert.Proof.AttnPay

end
-- ==== Proof.AttnPre.lean ====
/-
  What the precondition on the attention's slabs says of their lanes.
-/
module

public import proofs.«01_k».proof.Pre_slabs
public import proofs.«01_k».proof.Proof.AttnMean
public import proofs.«01_k».proof.Proof.AttnPay
public import Idealize.ShloMosaic.Lib.Pointwise

@[expose] public section

set_option maxRecDepth 16384

noncomputable section

open Idealize.ShloMosaic Idealize.ShloMosaic.TcCoe

namespace Cert.Proof.AttnPre

open Cert.Pre_slabs Cert.Pre_slabs.Facts Cert.Proof.AttnMean Cert.Proof.AttnPay

/-- The side conditions of the precondition's operations. -/
instance facts : Cert.Pre_slabs.Facts where
  bitsLt_bf16_f32 := by decide
  shapeCasts_S4x8192x2048_S4x8192x16x128 := by decide
  slices_S4x8192x16x128_S4x8192x16x64_0_0_0_0 := by decide
  bcast_S_S4x8192x16x64 := by decide
  slices_S4x8192x16x128_S4x8192x16x3_0_0_0_64 := by decide
  bcast_S_S4x8192x16x3 := by decide
  slices_S4x8192x16x128_S4x8192x16x61_0_0_0_67 := by decide
  bcast_S_S4x8192x16x61 := by decide
  slices_S4x8192x16x128_S4x8192x16x67_0_0_0_0 := by decide
  bcast_S_S4x8192x16x67 := by decide
  slices_S4x8192x16x128_S4x8192x16x1_0_0_0_64 := by decide
  shapeCasts_S4x8192x16x1_S4x8192x16 := by decide
  bcast_S_S4x8192x16 := by decide

theorem pinf : Ideal.ofBits .f32 0x7F800000#32 = ⊤ := by
  simp [Ideal.ofBits, Ideal.ieee]

theorem one : Ideal.ofBits .f32 0x3F800000#32 = 1 := by
  simp [Ideal.ofBits, Ideal.ieee, -EReal.coe_mul]
  norm_num

theorem zero : Ideal.ofBits .f32 0x00000000#32 = 0 := by
  simp [Ideal.ofBits, Ideal.ieee]

/-- A slab by heads of 128 lanes. -/
def heads (x : Slab) : FVec Ideal S4x8192x16x128 .f32 :=
  shapeCast S4x8192x16x128 (extf .f32 x bitsLt_bf16_f32) shapeCasts_S4x8192x2048_S4x8192x16x128

theorem heads_at (x : Slab) (b : Fin 4) (i : Fin 8192) (h : Fin 16) (d : Fin 128) :
    (heads x (ix4 b i h d) : EReal) = x (ix3 b i ⟨128 * h.val + d.val, by omega⟩) := by
  pointwise [heads]
  exact congrArg (fun e => x (ix3 b i e)) (Fin.ext (by simp only []; omega))

theorem ofBool_one {p : Bool} (h : BitVec.ofBool p = 1#1) : p = true := by
  cases p
  · exact absurd h (by decide)
  · rfl

/-- Between the infinities is real. -/
theorem between {x : EReal} (h : IntOp.andi (Ideal.cmp .olt x (Ideal.ofBits .f32 0x7F800000#32)) (Ideal.cmp .ogt x (Ideal.ofBits .f32 0xFF800000#32)) = 1#1) :
    ∃ r : ℝ, x = r := by
  rw [pinf, ninf] at h
  have ht : x ≠ ⊤ := by
    rintro rfl
    exact absurd h (by simp [Ideal.cmp, IntOp.andi])
  have hb : x ≠ ⊥ := by
    rintro rfl
    exact absurd h (by simp [Ideal.cmp, IntOp.andi])
  exact ⟨x.toReal, (EReal.coe_toReal ht hb).symm⟩

/-- Compared equal is equal. -/
theorem equal {x y : EReal} (h : Ideal.cmp .oeq x y = 1#1) : x = y := of_decide_eq_true (ofBool_one h)

variable (q k v : Slab)

theorem real_q (b : Fin 4) (i : Fin 8192) (h : Fin 16) (d : Fin 64) (e : (fn (F := Ideal) q k v).1 (ix4 b i h d) = 1#1) :
    ∃ x : ℝ, (q (ix3 b i ⟨128 * h.val + d.val, by omega⟩) : EReal) = x := by
  refine between ?_
  rw [← e, ← heads_at q b i h ⟨d.val, by omega⟩]
  pointwise [fn, fn_part1, heads]

theorem one_q (b : Fin 4) (i : Fin 8192) (h : Fin 16) (d : Fin 3) (e : (fn (F := Ideal) q k v).2.1 (ix4 b i h d) = 1#1) :
    (q (ix3 b i ⟨128 * h.val + (64 + d.val), by omega⟩) : EReal) = 1 := by
  rw [← one]
  refine equal ?_
  rw [← e, ← heads_at q b i h ⟨64 + d.val, by omega⟩]
  pointwise [fn, fn_part1, heads]

theorem zero_q (b : Fin 4) (i : Fin 8192) (h : Fin 16) (d : Fin 61) (e : (fn (F := Ideal) q k v).2.2.1 (ix4 b i h d) = 1#1) :
    (q (ix3 b i ⟨128 * h.val + (67 + d.val), by omega⟩) : EReal) = 0 := by
  rw [← zero]
  refine equal ?_
  rw [← e, ← heads_at q b i h ⟨67 + d.val, by omega⟩]
  pointwise [fn, fn_part1, heads]

theorem real_k (b : Fin 4) (i : Fin 8192) (h : Fin 16) (d : Fin 67) (e : (fn (F := Ideal) q k v).2.2.2.1 (ix4 b i h d) = 1#1) :
    ∃ x : ℝ, (k (ix3 b i ⟨128 * h.val + d.val, by omega⟩) : EReal) = x := by
  refine between ?_
  rw [← e, ← heads_at k b i h ⟨d.val, by omega⟩]
  pointwise [fn, fn_part1, heads]

theorem one_v (b : Fin 4) (i : Fin 8192) (h : Fin 16) (e : (fn (F := Ideal) q k v).2.2.2.2 (ix3 b i h) = 1#1) :
    (v (ix3 b i ⟨128 * h.val + 64, by omega⟩) : EReal) = 1 := by
  rw [← one]
  refine equal ?_
  rw [← e, ← heads_at v b i h ⟨64, by omega⟩]
  pointwise [fn, fn_part1, heads]

variable {q k v}

/-- The precondition gives every lane's content. -/
theorem lanes (e : (fn (F := Ideal) q k v).1 = (fun _ => 1#1) ∧ (fn (F := Ideal) q k v).2.1 = (fun _ => 1#1) ∧ (fn (F := Ideal) q k v).2.2.1 = (fun _ => 1#1)
    ∧ (fn (F := Ideal) q k v).2.2.2.1 = (fun _ => 1#1) ∧ (fn (F := Ideal) q k v).2.2.2.2 = (fun _ => 1#1)) : Lanes q k v where
  qdata b i h d := real_q q k v b i h d (congrFun e.1 _)
  qone b i h d := one_q q k v b i h d (congrFun e.2.1 _)
  qzero b i h d := zero_q q k v b i h d (congrFun e.2.2.1 _)
  kdata b i h d := real_k q k v b i h d (congrFun e.2.2.2.1 _)
  vone b i h := one_v q k v b i h (congrFun e.2.2.2.2 _)

end Cert.Proof.AttnPre

end
-- ==== Proof.AttnStep.lean ====
/-
  The steps of the attention kernel as invariants of its two scratch arrays: after a step over a block of keys every row
  holds its running maximum and, in every lane, the running sum of the weights times the values of that lane.
-/
module

public import proofs.«01_k».proof.Proof.AttnPay

@[expose] public section

set_option maxRecDepth 16384

noncomputable section

open Idealize.ShloMosaic Idealize.ShloMosaic.TcCoe

namespace Cert.Proof.AttnStep

open Cert.AttnIdeal Cert.AttnIdeal.Gen Cert.Attend Cert.Proof.AttnPay

/-- Either nothing has been seen yet, or the pair of running maximum and running sum holds `N`. -/
def Upto (m a N : EReal) : Prop := (m = ⊥ ∧ a = 0 ∧ N = 0) ∨ Holds m a N

/-- One more block of scores, of which none is plus infinity and not all are minus infinity. -/
theorem step {n : ℕ} {m a N : EReal} {s : Fin n → EReal} (hN : Upto m a N) (hs : ∀ j, Score (s j)) (h : ∃ j, s j ≠ ⊥) (v : Fin n → EReal) :
    Holds (newMax m s) (newAcc m a s v) (N + ∑ j, wt (s j) * v j) := by
  rcases hN with ⟨rfl, rfl, rfl⟩ | hN
  · rw [zero_add]; exact holds_first hs h v
  · exact holds_step hN hs v

/-- The scratch arrays hold `N` in every row and lane, or nothing has been seen yet. -/
def Good (M : FVec Ideal S512x1 .f32) (A : FVec Ideal S512x128 .f32) (N : Fin 512 → Fin 128 → EReal) : Prop :=
  ∀ r l, Upto (M (ix2 r 0)) (A (ix2 r l)) (N r l)

variable (q : FVec Ideal S1x512x128 .bf16) (K V : FVec Ideal S1x256x128 .bf16)

/-- What a whole block of keys adds to a row's sum in a lane. -/
def blk (r : Fin 512) (l : Fin 128) : EReal := ∑ j, wt (score q K r j) * (V (ix3 0 j l) : EReal)

/-- What a block of keys adds to a row's sum where only the keys up to `n` count. -/
def blkTo (n : ℕ) (r : Fin 512) (l : Fin 128) : EReal := ∑ j, wt (masked n (score q K r) j) * (V (ix3 0 j l) : EReal)

/-- No score of the block is infinite. -/
def Fin' : Prop := ∀ r j, score q K r j ≠ ⊤ ∧ score q K r j ≠ ⊥

variable {q K}

theorem score_masked (h : Fin' q K) (n : ℕ) (r : Fin 512) (j : Fin 256) : Score (masked n (score q K r) j) := by
  unfold masked; split
  · exact (h r j).1
  · exact bot_ne_top

theorem masked_some (h : Fin' q K) (n : ℕ) (r : Fin 512) : ∃ j, masked n (score q K r) j ≠ ⊥ :=
  ⟨0, by unfold masked; rw [if_pos (show ((0 : Fin 256) : ℕ) ≤ n from Nat.zero_le _)]; exact (h r 0).2⟩

variable {M : FVec Ideal S512x1 .f32} {A : FVec Ideal S512x128 .f32} {N : Fin 512 → Fin 128 → EReal}

theorem good_first : Good k0_pay4 k0_pay5 (fun _ _ => 0) := fun r l => Or.inl ⟨max_first r, acc_first r l, rfl⟩

theorem good_first' : Good k0_pay29 k0_pay30 (fun _ _ => 0) := good_first

/-- A step of the loop over the blocks before the diagonal. -/
theorem good_main (h : Fin' q K) (g : Good M A N) :
    Good (k0_pay9 q K M) (k0_pay8 q K V M A) (fun r l => N r l + blk q K V r l) := fun r l => Or.inr (by
  rw [max_main, acc_main]
  exact step (g r l) (fun j => (h r j).1) ⟨0, (h r 0).2⟩ _)

theorem good_main' (h : Fin' q K) (g : Good M A N) :
    Good (k0_pay34 (k0_pay28 q) K M) (k0_pay33 (k0_pay28 q) K V M A) (fun r l => N r l + blk q K V r l) := good_main V h g

/-- The step over the diagonal's first block: row `r` sees the keys up to `r`. -/
theorem good_diag (h : Fin' q K) (g : Good M A N) (r : Fin 512) (l : Fin 128) :
    Holds (k0_pay21 (F := Ideal) (k0_pay15 q K) k0_pay16 k0_pay17 M (ix2 r 0))
      (k0_pay20 (F := Ideal) (k0_pay14 V) (k0_pay15 q K) k0_pay16 k0_pay17 M A (ix2 r l)) (N r l + blkTo q K V r.val r l) := by
  rw [max_diag, acc_diag]
  exact step (g r l) (score_masked h r.val r) (masked_some h r.val r) _

theorem good_diag' (h : Fin' q K) (g : Good M A N) (r : Fin 512) (l : Fin 128) :
    Holds (k0_pay43 (F := Ideal) (k0_pay40 (k0_pay28 q) K M) (ix2 r 0))
      (k0_pay42 (F := Ideal) (k0_pay41 (k0_pay28 q) K V M A) (ix2 r l)) (N r l + blkTo q K V r.val r l) := good_diag V h g r l

/-- The step over the diagonal's second block, for the rows from 256 on: row `256 + r` sees the keys up to `r`. -/
theorem good_half (h : Fin' q K) {m : FVec Ideal S256x1 .f32} {a : FVec Ideal S256x128 .f32} {r : Fin 256} {R : Fin 512} (hR : R.val = 256 + r.val) (l : Fin 128)
    {n μ α : EReal} (hm : m (ix2 r 0) = μ) (ha : a (ix2 r l) = α) (g : Holds μ α n) :
    Holds (newMax μ (masked r.val (score q K R)))
      (k0_pay25 (F := Ideal) (k0_pay22 V) (k0_pay23 (k0_pay3 q) K) m a (ix2 r l)) (n + blkTo q K V r.val R l) := by
  have hR' : R = ⟨256 + r.val, by clear hR; have := r.isLt; omega⟩ := Fin.ext hR
  clear hR; subst hR'
  subst hm ha
  rw [acc_half]
  exact step (Or.inr g) (score_masked h r.val _) (masked_some h r.val _) _

theorem good_half' (h : Fin' q K) {m : FVec Ideal S256x1 .f32} {a : FVec Ideal S256x128 .f32} {r : Fin 256} {R : Fin 512} (hR : R.val = 256 + r.val) (l : Fin 128)
    {n μ α : EReal} (hm : m (ix2 r 0) = μ) (ha : a (ix2 r l) = α) (g : Holds μ α n) :
    Holds (newMax μ (masked r.val (score q K R)))
      (k0_pay46 (F := Ideal) (k0_pay28 q) K V m a (ix2 r l)) (n + blkTo q K V r.val R l) := good_half V h hR l hm ha g

end Cert.Proof.AttnStep
-- ==== Proof.AttnLoop.lean ====
/-
  The two loops of the attention kernel over the key blocks before the diagonal, one for each head of a pair: after `n`
  trips the scratch arrays hold the sums over the first `n` blocks.
-/
module

public import proofs.«01_k».proof.Proof.AttnStep
public import proofs.«01_k».proof.Proof.Gen.AttnIdeal.Loops
public import Idealize.ShloMosaic.Lib.VecWindow

@[expose] public section

set_option maxRecDepth 16384

noncomputable section

open Idealize.ShloMosaic Idealize.ShloMosaic.TcCoe

namespace Cert.Proof.AttnLoop

open Cert.AttnIdeal Cert.AttnIdeal.Gen Cert.Attend Cert.Proof.AttnPay Cert.Proof.AttnStep

/-- The `n`-th block of 256 rows of a key or value slab, at head `h` of the pair. -/
def kblk (x : FVec Ideal S1x8192x256 .bf16) (h : Fin 2) (n : ℕ) : FVec Ideal S1x256x128 .bf16 := fun y =>
  x (ix3 0 ⟨(256 * n + (y 1).val) % 8192, Nat.mod_lt _ (by omega)⟩ ⟨128 * h.val + (y 2).val, by have : (y 2).val < 128 := (y 2).isLt; omega⟩)

/-- The queries of head `h` of the pair. -/
def qblk (x : FVec Ideal S1x512x256 .bf16) (h : Fin 2) : FVec Ideal S1x512x128 .bf16 := fun y =>
  x (ix3 0 (y 1) ⟨128 * h.val + (y 2).val, by have : (y 2).val < 128 := (y 2).isLt; omega⟩)

/-- A load of 256 rows of a slab reads a block of it. -/
theorem read_kblk (arg : Memref sig .tc .vmem S1x8192x256 .bf16) (harg : arg.IsWhole) (x : FVec Ideal S1x8192x256 .bf16) (h : Fin 2) (n : ℕ) (hn : n < 32)
    {off : Fin 3 → ℕ} (inb : ∀ a, off a + ![1, 256, 128] a ≤ S1x8192x256.size a) (e : off = ![0, 256 * n, 128 * h.val]) :
    View.readAt (Elt Ideal) arg.view (Rect.unit off ![1, 256, 128] inb).toLoadRect (harg.unread x) = kblk x h n := by
  subst e
  funext y
  show View.read (Elt Ideal) arg.view (harg.unread x) _ = _
  rw [harg.read_unread]
  refine congrArg x (funext fun a => Fin.ext ?_)
  have h0 : (y 0).val < 1 := (y 0).isLt
  have h1 : (y 1).val < 256 := (y 1).isLt
  fin_cases a
  · show 0 + 1 * (y 0).val = 0; omega
  · show 256 * n + 1 * (y 1).val = (256 * n + (y 1).val) % 8192; omega
  · show 128 * h.val + 1 * (y 2).val = 128 * h.val + (y 2).val; omega

/-- The load of a head's queries. -/
theorem read_qblk (arg : Memref sig .tc .vmem S1x512x256 .bf16) (harg : arg.IsWhole) (x : FVec Ideal S1x512x256 .bf16) (h : Fin 2)
    {off : Fin 3 → ℕ} (inb : ∀ a, off a + ![1, 512, 128] a ≤ S1x512x256.size a) (e : off = ![0, 0, 128 * h.val]) :
    View.readAt (Elt Ideal) arg.view (Rect.unit off ![1, 512, 128] inb).toLoadRect (harg.unread x) = qblk x h := by
  subst e
  funext y
  show View.read (Elt Ideal) arg.view (harg.unread x) _ = _
  rw [harg.read_unread]
  refine congrArg x (funext fun a => Fin.ext ?_)
  have h0 : (y 0).val < 1 := (y 0).isLt
  fin_cases a
  · show 0 + 1 * (y 0).val = 0; omega
  · show 0 + 1 * (y 1).val = (y 1).val; omega
  · show 128 * h.val + 1 * (y 2).val = 128 * h.val + (y 2).val; omega

/-- A store of a whole scratch array is read back. -/
theorem full7 (v : View sig .tc .vmem S512x1 .f32) (f : BufTy.Contents (Elt Ideal) v.ty) (inb : ∀ a, ![0, 0] a + ![512, 1] a ≤ S512x1.size a)
    (w : FVec Ideal S512x1 .f32) (L : List (View.Piece (Elt Ideal) S512x1 .f32)) :
    v.read (Elt Ideal) (v.writes (Elt Ideal) f (⟨Rect.unit ![0, 0] ![512, 1] inb, w⟩ :: L)) = w :=
  View.read_writes_full v f (off := ![0, 0]) inb w L

theorem full8 (v : View sig .tc .vmem S512x128 .f32) (f : BufTy.Contents (Elt Ideal) v.ty) (inb : ∀ a, ![0, 0] a + ![512, 128] a ≤ S512x128.size a)
    (w : FVec Ideal S512x128 .f32) (L : List (View.Piece (Elt Ideal) S512x128 .f32)) :
    v.read (Elt Ideal) (v.writes (Elt Ideal) f (⟨Rect.unit ![0, 0] ![512, 128] inb, w⟩ :: L)) = w :=
  View.read_writes_full v f (off := ![0, 0]) inb w L

/-- A load of a whole scratch array. -/
theorem at7 (v : View sig .tc .vmem S512x1 .f32) (f : BufTy.Contents (Elt Ideal) v.ty) (inb : ∀ a, ![0, 0] a + ![512, 1] a ≤ S512x1.size a) :
    v.readAt (Elt Ideal) (Rect.unit ![0, 0] ![512, 1] inb).toLoadRect f = v.read (Elt Ideal) f := View.readAt_full v f (off := ![0, 0]) inb

theorem at8 (v : View sig .tc .vmem S512x128 .f32) (f : BufTy.Contents (Elt Ideal) v.ty) (inb : ∀ a, ![0, 0] a + ![512, 128] a ≤ S512x128.size a) :
    v.readAt (Elt Ideal) (Rect.unit ![0, 0] ![512, 128] inb).toLoadRect f = v.read (Elt Ideal) f := View.readAt_full v f (off := ![0, 0]) inb

/-- The sums over the first `n` blocks of keys. -/
def before (q : FVec Ideal S1x512x128 .bf16) (xk xv : FVec Ideal S1x8192x256 .bf16) (h : Fin 2) (n : ℕ) (r : Fin 512) (l : Fin 128) : EReal :=
  ∑ b ∈ Finset.range n, blk q (kblk xk h b) (kblk xv h b) r l

variable (𝒱 : Variants) (c : Dev nD) (bd : Option 𝒱.V) (i : grid0.Coords)
  (arg3 : Memref sig .tc .vmem S1x512x256 .bf16) (harg3 : arg3.IsWhole)
  (arg4 : Memref sig .tc .vmem S1x8192x256 .bf16) (harg4 : arg4.IsWhole)
  (arg5 : Memref sig .tc .vmem S1x8192x256 .bf16) (harg5 : arg5.IsWhole)
  (arg6 : Memref sig .tc .vmem S1x512x128 .bf16) (harg6 : arg6.IsWhole)
  (arg7 : Memref sig .tc .vmem S512x1 .f32) (harg7 : arg7.IsWhole)
  (arg8 : Memref sig .tc .vmem S512x128 .f32) (harg8 : arg8.IsWhole)
  (q : FVec Ideal S1x512x128 .bf16) (xk xv : FVec Ideal S1x8192x256 .bf16)
  (G7 : BufTy.Contents (Elt Ideal) arg7.view.ty) (G8 : BufTy.Contents (Elt Ideal) arg8.view.ty)

/-- The first head's loop. -/
theorem loop0 (hf : ∀ n, Fin' q (kblk xk 0 n)) (hg : Good (arg7.view.read (Elt Ideal) G7) (arg8.view.read (Elt Ideal) G8) (fun _ _ => 0)) :
    ∀ n, n ≤ (k0_t1_loop i).trips →
      Good (arg7.view.read (Elt Ideal) (arg7.view.writes (Elt Ideal) G7 (pb_k0_t1 (F := Ideal) 𝒱 c bd i arg3 harg3 arg4 harg4 arg5 harg5 arg6 harg6 arg7 harg7 arg8 harg8 q (harg4.unread xk) (harg5.unread xv) G7 G8 n).1))
        (arg8.view.read (Elt Ideal) (arg8.view.writes (Elt Ideal) G8 (pb_k0_t1 (F := Ideal) 𝒱 c bd i arg3 harg3 arg4 harg4 arg5 harg5 arg6 harg6 arg7 harg7 arg8 harg8 q (harg4.unread xk) (harg5.unread xv) G7 G8 n).2))
        (before q xk xv 0 n)
  | 0, _ => by
    have : before q xk xv 0 0 = fun _ _ => 0 := by funext r l; exact Finset.sum_range_zero _
    rw [this]; exact hg
  | n + 1, hn => by
    have ih := loop0 hf hg n (by omega)
    have ht : n < 32 := by have := (k0_t1_abs i).2.1; omega
    have e : before q xk xv 0 (n + 1) = fun r l => before q xk xv 0 n r l + blk q (kblk xk 0 n) (kblk xv 0 n) r l := by
      funext r l; exact Finset.sum_range_succ _ _
    have p := pb_k0_t1_succ (F := Ideal) 𝒱 c bd i arg3 harg3 arg4 harg4 arg5 harg5 arg6 harg6 arg7 harg7 arg8 harg8 q (harg4.unread xk) (harg5.unread xv) G7 G8 ⟨n, hn⟩
    rw [e, p]
    unfold tripL_k0_t1 trip_k0_t1
    dsimp only [List.cons_append, List.nil_append]
    rw [full7, full8, at7, at8,
      read_kblk arg4 harg4 xk 0 n ht _ (k0_off1_eq i ⟨n, hn⟩), read_kblk arg5 harg5 xv 0 n ht _ (k0_off1_eq i ⟨n, hn⟩)]
    exact good_main _ (hf n) ih

/-- The second head's loop. -/
theorem loop1 (w w' : BitVec 32) (hf : ∀ n, Fin' q (kblk xk 1 n)) (hg : Good (arg7.view.read (Elt Ideal) G7) (arg8.view.read (Elt Ideal) G8) (fun _ _ => 0)) :
    ∀ n, n ≤ (k0_t3_loop i).trips →
      Good (arg7.view.read (Elt Ideal) (arg7.view.writes (Elt Ideal) G7 (pb_k0_t3 (F := Ideal) 𝒱 c bd i arg3 harg3 arg4 harg4 arg5 harg5 arg6 harg6 arg7 harg7 arg8 harg8 w (k0_pay28 q) w' (harg4.unread xk) (harg5.unread xv) G7 G8 n).1))
        (arg8.view.read (Elt Ideal) (arg8.view.writes (Elt Ideal) G8 (pb_k0_t3 (F := Ideal) 𝒱 c bd i arg3 harg3 arg4 harg4 arg5 harg5 arg6 harg6 arg7 harg7 arg8 harg8 w (k0_pay28 q) w' (harg4.unread xk) (harg5.unread xv) G7 G8 n).2))
        (before q xk xv 1 n)
  | 0, _ => by
    have : before q xk xv 1 0 = fun _ _ => 0 := by funext r l; exact Finset.sum_range_zero _
    rw [this]; exact hg
  | n + 1, hn => by
    have ih := loop1 w w' hf hg n (by omega)
    have ht : n < 32 := by have := (k0_t3_abs i).2.1; omega
    have e : before q xk xv 1 (n + 1) = fun r l => before q xk xv 1 n r l + blk q (kblk xk 1 n) (kblk xv 1 n) r l := by
      funext r l; exact Finset.sum_range_succ _ _
    have p := pb_k0_t3_succ (F := Ideal) 𝒱 c bd i arg3 harg3 arg4 harg4 arg5 harg5 arg6 harg6 arg7 harg7 arg8 harg8 w (k0_pay28 q) w' (harg4.unread xk) (harg5.unread xv) G7 G8 ⟨n, hn⟩
    rw [e, p]
    unfold tripL_k0_t3 trip_k0_t3
    dsimp only [List.cons_append, List.nil_append]
    rw [full7, full8, at7, at8,
      read_kblk arg4 harg4 xk 1 n ht _ (k0_off4_eq i ⟨n, hn⟩), read_kblk arg5 harg5 xv 1 n ht _ (k0_off4_eq i ⟨n, hn⟩)]
    exact good_main' _ (hf n) ih

end Cert.Proof.AttnLoop
-- ==== Proof.AttnRead.lean ====
/-
  Loads and stores of the attention kernel's scratch arrays and slabs, and how often its loops run.
-/
module

public import proofs.«01_k».proof.Proof.AttnLoop

@[expose] public section

set_option maxRecDepth 16384

noncomputable section

open Idealize.ShloMosaic Idealize.ShloMosaic.TcCoe

namespace Cert.Proof.AttnRead

open Cert.AttnIdeal Cert.AttnIdeal.Gen Cert.Attend Cert.Proof.AttnPay Cert.Proof.AttnStep Cert.Proof.AttnLoop

/-! Reading the scratch arrays back. -/

theorem cov7 (v : View sig .tc .vmem S512x1 .f32) (inb : ∀ a, ![0, 0] a + S512x1.size a ≤ S512x1.size a) (L : List (View.Piece (Elt Ideal) S512x1 .f32)) :
    v.readCov L (Rect.unit ![0, 0] S512x1.size inb).toLoadRect = v.read (Elt Ideal) (v.writes (Elt Ideal) v.junk L) := View.readAt_full v _ (off := ![0, 0]) inb

theorem cov8 (v : View sig .tc .vmem S512x128 .f32) (inb : ∀ a, ![0, 0] a + S512x128.size a ≤ S512x128.size a) (L : List (View.Piece (Elt Ideal) S512x128 .f32)) :
    v.readCov L (Rect.unit ![0, 0] S512x128.size inb).toLoadRect = v.read (Elt Ideal) (v.writes (Elt Ideal) v.junk L) := View.readAt_full v _ (off := ![0, 0]) inb

theorem cov8' (v : View sig .tc .vmem S512x128 .f32) (inb : ∀ a, ![0, 0] a + ![512, 128] a ≤ S512x128.size a) (L : List (View.Piece (Elt Ideal) S512x128 .f32)) :
    v.readCov L (Rect.unit (s := S512x128) ![0, 0] ![512, 128] inb).toLoadRect = v.read (Elt Ideal) (v.writes (Elt Ideal) v.junk L) := View.readAt_full v _ (off := ![0, 0]) inb

/-- The lower half of a scratch array after a store of the whole. -/
theorem half7 (v : View sig .tc .vmem S512x1 .f32) (inb : ∀ a, ![0, 0] a + S512x1.size a ≤ S512x1.size a) (inb' : ∀ a, ![256, 0] a + S256x1.size a ≤ S512x1.size a)
    (w : FVec Ideal S512x1 .f32) (L : List (View.Piece (Elt Ideal) S512x1 .f32)) (r : Fin 256) (R : Fin 512) (hR : R.val = 256 + r.val) :
    v.readCov (⟨Rect.unit ![0, 0] S512x1.size inb, w⟩ :: L) (Rect.unit (s := S512x1) ![256, 0] S256x1.size inb').toLoadRect (ix2 r 0) = w (ix2 R 0) := by
  show v.read (Elt Ideal) (v.writes (Elt Ideal) v.junk (⟨Rect.unit ![0, 0] S512x1.size inb, w⟩ :: L)) _ = _
  rw [View.read_writes_full v _ (off := ![0, 0]) inb w L]
  refine congrArg w (funext fun a => Fin.ext ?_)
  fin_cases a
  · show 256 + 1 * r.val = R.val; omega
  · rfl

theorem half8 (v : View sig .tc .vmem S512x128 .f32) (inb : ∀ a, ![0, 0] a + S512x128.size a ≤ S512x128.size a) (inb' : ∀ a, ![256, 0] a + S256x128.size a ≤ S512x128.size a)
    (w : FVec Ideal S512x128 .f32) (L : List (View.Piece (Elt Ideal) S512x128 .f32)) (r : Fin 256) (R : Fin 512) (hR : R.val = 256 + r.val) (l : Fin 128) :
    v.readCov (⟨Rect.unit ![0, 0] S512x128.size inb, w⟩ :: L) (Rect.unit (s := S512x128) ![256, 0] S256x128.size inb').toLoadRect (ix2 r l) = w (ix2 R l) := by
  show v.read (Elt Ideal) (v.writes (Elt Ideal) v.junk (⟨Rect.unit ![0, 0] S512x128.size inb, w⟩ :: L)) _ = _
  rw [View.read_writes_full v _ (off := ![0, 0]) inb w L]
  refine congrArg w (funext fun a => Fin.ext ?_)
  fin_cases a
  · show 256 + 1 * r.val = R.val; omega
  · show 0 + 1 * l.val = l.val; omega

/-- A store of the lower half over a store of the whole leaves the upper half. -/
theorem upper8 (v : View sig .tc .vmem S512x128 .f32) (f : BufTy.Contents (Elt Ideal) v.ty) (inb : ∀ a, ![0, 0] a + S512x128.size a ≤ S512x128.size a) (inb' : ∀ a, ![256, 0] a + S256x128.size a ≤ S512x128.size a)
    (w : FVec Ideal S512x128 .f32) (u : FVec Ideal S256x128 .f32) (L : List (View.Piece (Elt Ideal) S512x128 .f32)) (r : Fin 512) (hr : r.val < 256) (l : Fin 128) :
    v.read (Elt Ideal) (v.writes (Elt Ideal) f (⟨Rect.unit (s := S512x128) ![256, 0] S256x128.size inb', u⟩ :: ⟨Rect.unit ![0, 0] S512x128.size inb, w⟩ :: L)) (ix2 r l) = w (ix2 r l) :=
  (View.read_writes_cons_rows_of_not_mem v f inb' u _ (ix2 r l) (o := 256) (W := 256) rfl rfl (Or.inl hr)).trans
    (congrFun (View.read_writes_full v f (off := ![0, 0]) inb w L) _)

/-- The lower half reads back as stored. -/
theorem lower8 (v : View sig .tc .vmem S512x128 .f32) (f : BufTy.Contents (Elt Ideal) v.ty) (inb' : ∀ a, ![256, 0] a + S256x128.size a ≤ S512x128.size a)
    (u : FVec Ideal S256x128 .f32) (L : List (View.Piece (Elt Ideal) S512x128 .f32)) (r : Fin 256) (R : Fin 512) (hR : R.val = 256 + r.val) (l : Fin 128) :
    v.read (Elt Ideal) (v.writes (Elt Ideal) f (⟨Rect.unit (s := S512x128) ![256, 0] S256x128.size inb', u⟩ :: L)) (ix2 R l) = u (ix2 r l) :=
  View.read_writes_cons_rows_of_mem v f inb' u L (ix2 R l) (ix2 r l) rfl hR rfl

/-! The loads of the queries and of the diagonal's blocks. -/

theorem rq (arg : Memref sig .tc .vmem S1x512x256 .bf16) (harg : arg.IsWhole) (x : FVec Ideal S1x512x256 .bf16) (h : Fin 2)
    {off : Fin 3 → ℕ} (inb : ∀ a, off a + S1x512x128.size a ≤ S1x512x256.size a) (e : off = ![0, 0, 128 * h.val]) :
    View.readAt (Elt Ideal) arg.view (Rect.unit (s := S1x512x256) off S1x512x128.size inb).toLoadRect (harg.unread x) = qblk x h := read_qblk arg harg x h inb e

theorem rk (arg : Memref sig .tc .vmem S1x8192x256 .bf16) (harg : arg.IsWhole) (x : FVec Ideal S1x8192x256 .bf16) (h : Fin 2) (n : ℕ) (hn : n < 32)
    {off : Fin 3 → ℕ} (inb : ∀ a, off a + S1x256x128.size a ≤ S1x8192x256.size a) (e : off = ![0, 256 * n, 128 * h.val]) :
    View.readAt (Elt Ideal) arg.view (Rect.unit (s := S1x8192x256) off S1x256x128.size inb).toLoadRect (harg.unread x) = kblk x h n := read_kblk arg harg x h n hn inb e

/-! The numbers of trips. -/

theorem trips_all : ∀ w : Fin 16, Scf.trips (0#32) (Scalar.addi 0#32 (Scalar.muli (Scalar.divsi (Scalar.subi (Scalar.muli (BitVec.ofNat 32 w.val) 2#32) 0#32) 1#32) 1#32)) 1#32 = 2 * w.val := by
  decide +kernel

theorem trips1 (i : grid0.Coords) : (k0_t1_loop i).trips = 2 * (i 2).val := trips_all (i 2)

theorem trips3 (i : grid0.Coords) : (k0_t3_loop i).trips = 2 * (i 2).val := trips_all (i 2)

theorem trips2 (i : grid0.Coords) : Scf.trips (k0_t2_loop i).lb (k0_t2_loop i).ub (k0_t2_loop i).st = 0 := Nat.le_zero.1 (k0_t2_abs i).2.1

theorem trips4 (i : grid0.Coords) : Scf.trips (k0_t4_loop i).lb (k0_t4_loop i).ub (k0_t4_loop i).st = 0 := Nat.le_zero.1 (k0_t4_abs i).2.1

end Cert.Proof.AttnRead
-- ==== Proof.AttnHead.lean ====
/-
  What the two heads' scratch arrays hold when the attention kernel divides: in every row and lane the sum, over all the
  keys the row sees, of their weights times the values of that lane, relative to one maximum for the row.
-/
module

public import proofs.«01_k».proof.Proof.AttnRead
public import proofs.«01_k».proof.Proof.Gen.AttnIdeal.Value

@[expose] public section

set_option maxRecDepth 16384

noncomputable section

open Idealize.ShloMosaic Idealize.ShloMosaic.TcCoe

namespace Cert.Proof.AttnHead

open Cert.AttnIdeal Cert.AttnIdeal.Gen Cert.Attend Cert.Proof.AttnPay Cert.Proof.AttnStep Cert.Proof.AttnLoop Cert.Proof.AttnRead

/-- Row `r`'s sum over all the keys it sees, in query tile `n`: the blocks before the diagonal, the diagonal's first block
    and, for the rows from 256 on, its second. -/
def total (q : FVec Ideal S1x512x128 .bf16) (xk xv : FVec Ideal S1x8192x256 .bf16) (h : Fin 2) (n : ℕ) (r : Fin 512) (l : Fin 128) : EReal :=
  before q xk xv h (2 * n) r l + blkTo q (kblk xk h (2 * n)) (kblk xv h (2 * n)) r.val r l
    + if r.val < 256 then 0 else blkTo q (kblk xk h (2 * n + 1)) (kblk xv h (2 * n + 1)) (r.val - 256) r l

variable (c : Dev nD) (i : grid0.Coords)
  (arg3 : Memref sig .tc .vmem S1x512x256 .bf16) (harg3 : arg3.IsWhole)
  (arg4 : Memref sig .tc .vmem S1x8192x256 .bf16) (harg4 : arg4.IsWhole)
  (arg5 : Memref sig .tc .vmem S1x8192x256 .bf16) (harg5 : arg5.IsWhole)
  (arg6 : Memref sig .tc .vmem S1x512x128 .bf16) (harg6 : arg6.IsWhole)
  (arg7 : Memref sig .tc .vmem S512x1 .f32) (harg7 : arg7.IsWhole)
  (arg8 : Memref sig .tc .vmem S512x128 .f32) (harg8 : arg8.IsWhole)
  (x0 : FVec Ideal S1x512x256 .bf16) (x1 x2 : FVec Ideal S1x8192x256 .bf16)

open kernelRun0_A in
/-- The first head's scratch arrays after its loops. -/
theorem start0 (hf : ∀ n, Fin' (qblk x0 0) (kblk x1 0 n)) :
    Good (sl.v31 (F := Ideal) c i arg3 harg3 arg4 harg4 arg5 harg5 arg6 harg6 arg7 harg7 arg8 harg8 x0 x1 x2)
      (sl.v40 (F := Ideal) c i arg3 harg3 arg4 harg4 arg5 harg5 arg6 harg6 arg7 harg7 arg8 harg8 x0 x1 x2)
      (before (qblk x0 0) x1 x2 0 (2 * (i 2).val)) := by
  unfold sl.v31 sl.v40
  rw [cov7, cov8, trips2, pb_k0_t2.eq_1, List.nil_append, List.nil_append, View.writes_append, View.writes_append, rq arg3 harg3 x0 0 inb_S1x512x256_S1x512x128_0_0_0 rfl]
  have h := loop0 .none c none i arg3 harg3 arg4 harg4 arg5 harg5 arg6 harg6 arg7 harg7 arg8 harg8 (qblk x0 0) x1 x2
    (arg7.view.writes (Elt Ideal) arg7.view.junk sl.HS0_1) (arg8.view.writes (Elt Ideal) arg8.view.junk sl.HS1_1) hf
    (by
      unfold sl.HS0_1 sl.HS1_1
      rw [View.read_writes_full arg7.view _ (off := ![0, 0]), View.read_writes_full arg8.view _ (off := ![0, 0])]
      exact good_first) _ le_rfl
  rw [trips1] at h
  rw [show Scf.trips (k0_t1_loop i).lb (k0_t1_loop i).ub (k0_t1_loop i).st = 2 * (i 2).val from trips1 i]
  exact h

open kernelRun0_A in
/-- The second head's scratch arrays after its loops. -/
theorem start1 (hf : ∀ n, Fin' (qblk x0 1) (kblk x1 1 n)) :
    Good (sl.v124 (F := Ideal) c i arg3 harg3 arg4 harg4 arg5 harg5 arg6 harg6 arg7 harg7 arg8 harg8 x0 x1 x2)
      (sl.v133 (F := Ideal) c i arg3 harg3 arg4 harg4 arg5 harg5 arg6 harg6 arg7 harg7 arg8 harg8 x0 x1 x2)
      (before (qblk x0 1) x1 x2 1 (2 * (i 2).val)) := by
  unfold sl.v124 sl.v133 sl.r_6
  rw [cov7, cov8, trips4, pb_k0_t4.eq_1, List.nil_append, List.nil_append, View.writes_append, View.writes_append, rq arg3 harg3 x0 1 inb_S1x512x256_S1x512x128_0_0_128 rfl]
  have h := fun G7 G8 g => loop1 .none c none i arg3 harg3 arg4 harg4 arg5 harg5 arg6 harg6 arg7 harg7 arg8 harg8 (qblk x0 1) x1 x2
    G7 G8 (BitVec.ofNat 32 (i 2).val) (sl.v103 i) hf g _ le_rfl
  rw [trips3] at h
  rw [show Scf.trips (k0_t3_loop i).lb (k0_t3_loop i).ub (k0_t3_loop i).st = 2 * (i 2).val from trips3 i]
  refine h _ _ ?_
  rw [View.read_writes_full arg7.view _ (off := ![0, 0]), View.read_writes_full arg8.view _ (off := ![0, 0])]
  exact good_first'

/-- A row from 256 on, as a row of the lower half. -/
theorem row_half (r : Fin 512) (h : ¬ r.val < 256) : r.val = 256 + (⟨r.val - 256, by have := r.isLt; omega⟩ : Fin 256).val := by
  show r.val = 256 + (r.val - 256); omega

open kernelRun0_A in
/-- What the first head divides. -/
theorem final0 (hf : ∀ n, Fin' (qblk x0 0) (kblk x1 0 n)) (r : Fin 512) :
    ∃ M : EReal, ∀ l, Holds M (sl.v89 (F := Ideal) c i arg3 harg3 arg4 harg4 arg5 harg5 arg6 harg6 arg7 harg7 arg8 harg8 x0 x1 x2 (ix2 r l))
      (total (qblk x0 0) x1 x2 0 (i 2).val r l) := by
  have hi : (i 2).val < 16 := (i 2).isLt
  have g := start0 c i arg3 harg3 arg4 harg4 arg5 harg5 arg6 harg6 arg7 harg7 arg8 harg8 x0 x1 x2 hf
  have o0 : k0_off3 i 0#32 = ![0, 256 * (2 * (i 2).val), 128 * ((0 : Fin 2) : ℕ)] := by
    refine (k0_off3_eq i ⟨0, by decide⟩).trans ?_
    show ![0, 512 * (i 2).val + 256 * 0, 0] = ![0, 256 * (2 * (i 2).val), 0]
    congr 2; omega
  have o1 : k0_off3 i 256#32 = ![0, 256 * (2 * (i 2).val + 1), 128 * ((0 : Fin 2) : ℕ)] := by
    refine (k0_off3_eq i ⟨1, by decide⟩).trans ?_
    show ![0, 512 * (i 2).val + 256 * 1, 0] = ![0, 256 * (2 * (i 2).val + 1), 0]
    congr 2; omega
  unfold sl.v89 sl.HS1_2 sl.r_3 sl.r_4 sl.r sl.v68 sl.v77 sl.HS1_1_1 sl.HS0_1_1 sl.r_1 sl.r_2
  rw [cov8, rq arg3 harg3 x0 0 inb_S1x512x256_S1x512x128_0_0_0 rfl, rk arg4 harg4 x1 0 (2 * (i 2).val) (by omega) _ o0,
    rk arg5 harg5 x2 0 (2 * (i 2).val) (by omega) _ o0, rk arg4 harg4 x1 0 (2 * (i 2).val + 1) (by omega) _ o1,
    rk arg5 harg5 x2 0 (2 * (i 2).val + 1) (by omega) _ o1]
  generalize sl.v31 (F := Ideal) c i arg3 harg3 arg4 harg4 arg5 harg5 arg6 harg6 arg7 harg7 arg8 harg8 x0 x1 x2 = M at g ⊢
  generalize sl.v40 (F := Ideal) c i arg3 harg3 arg4 harg4 arg5 harg5 arg6 harg6 arg7 harg7 arg8 harg8 x0 x1 x2 = A at g ⊢
  have d := fun l => good_diag (kblk x2 0 (2 * (i 2).val)) (hf (2 * (i 2).val)) g r l
  by_cases hr : r.val < 256
  · refine ⟨k0_pay21 (F := Ideal) (k0_pay15 (qblk x0 0) (kblk x1 0 (2 * (i 2).val))) k0_pay16 k0_pay17 M (ix2 r 0), fun l => ?_⟩
    rw [upper8 _ _ _ _ _ _ _ r hr l, total, if_pos hr, add_zero]
    exact d l
  · refine ⟨newMax (k0_pay21 (F := Ideal) (k0_pay15 (qblk x0 0) (kblk x1 0 (2 * (i 2).val))) k0_pay16 k0_pay17 M (ix2 r 0)) (masked (r.val - 256) (score (qblk x0 0) (kblk x1 0 (2 * (i 2).val + 1)) r)), fun l => ?_⟩
    rw [lower8 _ _ _ _ _ ⟨r.val - 256, by have := r.isLt; omega⟩ r (row_half r hr) l, total, if_neg hr]
    exact good_half (kblk x2 0 (2 * (i 2).val + 1)) (hf _) (row_half r hr) l (half7 _ _ _ _ _ _ r (row_half r hr)) (half8 _ _ _ _ _ _ r (row_half r hr) l) (d l)

open kernelRun0_A in
/-- What the second head divides. -/
theorem final1 (hf : ∀ n, Fin' (qblk x0 1) (kblk x1 1 n)) (r : Fin 512) :
    ∃ M : EReal, ∀ l, Holds M (sl.v182 (F := Ideal) c i arg3 harg3 arg4 harg4 arg5 harg5 arg6 harg6 arg7 harg7 arg8 harg8 x0 x1 x2 (ix2 r l))
      (total (qblk x0 1) x1 x2 1 (i 2).val r l) := by
  have hi : (i 2).val < 16 := (i 2).isLt
  have g := start1 c i arg3 harg3 arg4 harg4 arg5 harg5 arg6 harg6 arg7 harg7 arg8 harg8 x0 x1 x2 hf
  have o0 : k0_off6 i 0#32 = ![0, 256 * (2 * (i 2).val), 128 * ((1 : Fin 2) : ℕ)] := by
    refine (k0_off6_eq i ⟨0, by decide⟩).trans ?_
    show ![0, 512 * (i 2).val + 256 * 0, 128] = ![0, 256 * (2 * (i 2).val), 128]
    congr 2; omega
  have o1 : k0_off6 i 256#32 = ![0, 256 * (2 * (i 2).val + 1), 128 * ((1 : Fin 2) : ℕ)] := by
    refine (k0_off6_eq i ⟨1, by decide⟩).trans ?_
    show ![0, 512 * (i 2).val + 256 * 1, 128] = ![0, 256 * (2 * (i 2).val + 1), 128]
    congr 2; omega
  unfold sl.v182 sl.HS1_2_1 sl.v161 sl.v170 sl.HS1_1_2 sl.HS0_1_2 sl.r_7 sl.r_8 sl.r_6
  rw [cov8', rq arg3 harg3 x0 1 inb_S1x512x256_S1x512x128_0_0_128 rfl, rk arg4 harg4 x1 1 (2 * (i 2).val) (by omega) _ o0,
    rk arg5 harg5 x2 1 (2 * (i 2).val) (by omega) _ o0, rk arg4 harg4 x1 1 (2 * (i 2).val + 1) (by omega) _ o1,
    rk arg5 harg5 x2 1 (2 * (i 2).val + 1) (by omega) _ o1]
  generalize sl.v124 (F := Ideal) c i arg3 harg3 arg4 harg4 arg5 harg5 arg6 harg6 arg7 harg7 arg8 harg8 x0 x1 x2 = M at g ⊢
  generalize sl.v133 (F := Ideal) c i arg3 harg3 arg4 harg4 arg5 harg5 arg6 harg6 arg7 harg7 arg8 harg8 x0 x1 x2 = A at g ⊢
  have d := fun l => good_diag' (kblk x2 1 (2 * (i 2).val)) (hf (2 * (i 2).val)) g r l
  by_cases hr : r.val < 256
  · refine ⟨k0_pay43 (F := Ideal) (k0_pay40 (k0_pay28 (qblk x0 1)) (kblk x1 1 (2 * (i 2).val)) M) (ix2 r 0), fun l => ?_⟩
    rw [upper8 _ _ _ _ _ _ _ r hr l, total, if_pos hr, add_zero]
    exact d l
  · refine ⟨newMax (k0_pay43 (F := Ideal) (k0_pay40 (k0_pay28 (qblk x0 1)) (kblk x1 1 (2 * (i 2).val)) M) (ix2 r 0)) (masked (r.val - 256) (score (qblk x0 1) (kblk x1 1 (2 * (i 2).val + 1)) r)), fun l => ?_⟩
    rw [lower8 _ _ _ _ _ ⟨r.val - 256, by have := r.isLt; omega⟩ r (row_half r hr) l, total, if_neg hr]
    exact good_half' (kblk x2 1 (2 * (i 2).val + 1)) (hf _) (row_half r hr) l (half7 _ _ _ _ _ _ r (row_half r hr)) (half8 _ _ _ _ _ _ r (row_half r hr) l) (d l)

end Cert.Proof.AttnHead
-- ==== Proof.AttnSum.lean ====
/-
  The attention kernel's blockwise sums as one sum over all the keys, masked beyond the row.
-/
module

public import proofs.«01_k».proof.Proof.AttnHead

@[expose] public section

set_option maxRecDepth 16384

noncomputable section

open Idealize.ShloMosaic Idealize.ShloMosaic.TcCoe

namespace Cert.Proof.AttnSum

open Cert.AttnIdeal Cert.AttnIdeal.Gen Cert.Attend Cert.Proof.AttnPay Cert.Proof.AttnStep Cert.Proof.AttnLoop Cert.Proof.AttnHead

/-- A sum over blocks of 256 is a sum over all. -/
theorem sum_blocks (f : ℕ → EReal) : ∀ n, ∑ k ∈ Finset.range (256 * n), f k = ∑ b ∈ Finset.range n, ∑ j : Fin 256, f (256 * b + j.val)
  | 0 => rfl
  | n + 1 => by
    rw [show 256 * (n + 1) = 256 * n + 256 from rfl, Finset.sum_range_add, sum_blocks f n, Finset.sum_range_succ _ n, Finset.sum_range (n := 256)]

variable (q : FVec Ideal S1x512x128 .bf16) (xk xv : FVec Ideal S1x8192x256 .bf16) (h : Fin 2)

/-- The score of query row `r` with key `k` of the slab. -/
def key (r : Fin 512) (k : Fin 8192) : EReal :=
  ∑ d : Fin 128, (q (ix3 0 r d) : EReal) * (xk (ix3 0 k ⟨128 * h.val + d.val, by omega⟩) : EReal)

/-- The score with a masked key beyond row `i`. -/
def keyTo (i : ℕ) (r : Fin 512) (k : Fin 8192) : EReal := if k.val ≤ i then key q xk h r k else ⊥

/-- The value of key `k` in a lane. -/
def val (l : Fin 128) (k : Fin 8192) : EReal := xv (ix3 0 k ⟨128 * h.val + l.val, by omega⟩)

/-- A key's number, wrapped into the slab. -/
def wrap (k : ℕ) : Fin 8192 := ⟨k % 8192, Nat.mod_lt _ (by omega)⟩

theorem score_key (b : ℕ) (r : Fin 512) (j : Fin 256) : score q (kblk xk h b) r j = key q xk h r (wrap (256 * b + j.val)) := rfl

/-- The sum the kernel's row holds is the sum over all the keys, those beyond the row masked. -/
theorem total_eq (n : ℕ) (hn : n < 16) (r : Fin 512) (l : Fin 128) :
    total q xk xv h n r l = ∑ k, wt (keyTo q xk h (512 * n + r.val) r k) * val xv h l k := by
  have hr := r.isLt
  let f : ℕ → EReal := fun k => wt (if k ≤ 512 * n + r.val then key q xk h r (wrap k) else ⊥) * val xv h l (wrap k)
  have e : ∑ k, wt (keyTo q xk h (512 * n + r.val) r k) * val xv h l k = ∑ k ∈ Finset.range 8192, f k := by
    rw [Finset.sum_range]
    refine Finset.sum_congr rfl fun k _ => ?_
    have hk : wrap k.val = k := Fin.ext (Nat.mod_eq_of_lt k.isLt)
    show _ = wt (if k.val ≤ 512 * n + r.val then key q xk h r (wrap k.val) else ⊥) * val xv h l (wrap k.val)
    rw [hk]; rfl
  have z : ∀ k, 512 * n + r.val < k → f k = 0 := fun k hk => by
    show wt (if k ≤ 512 * n + r.val then _ else ⊥) * _ = 0
    rw [if_neg (by omega), wt, exp_bot, zero_mul]
  have e2 : ∑ k ∈ Finset.range 8192, f k = ∑ k ∈ Finset.range (256 * (2 * n + 2)), f k := by
    refine (Finset.sum_subset (fun k hk => Finset.mem_range.2 ?_) fun k _ hk => z k ?_).symm
    · have := Finset.mem_range.1 hk; omega
    · have := Nat.not_lt.1 fun h => hk (Finset.mem_range.2 h); omega
  have p : ∀ k, k ≤ 512 * n + r.val → f k = wt (key q xk h r (wrap k)) * val xv h l (wrap k) := fun k hk => by
    show wt (if k ≤ 512 * n + r.val then _ else ⊥) * _ = _
    rw [if_pos hk]
  have zz : ∀ x : EReal, wt ⊥ * x = 0 := fun x => by rw [wt, exp_bot, zero_mul]
  have b1 : before q xk xv h (2 * n) r l = ∑ b ∈ Finset.range (2 * n), ∑ j : Fin 256, f (256 * b + j.val) :=
    Finset.sum_congr rfl fun b hb => Finset.sum_congr rfl fun j _ => by
      have := Finset.mem_range.1 hb
      have := j.isLt
      rw [p _ (by omega), score_key]; rfl
  have b2 : blkTo q (kblk xk h (2 * n)) (kblk xv h (2 * n)) r.val r l = ∑ j : Fin 256, f (256 * (2 * n) + j.val) :=
    Finset.sum_congr rfl fun j _ => by
      unfold masked
      by_cases hj : j.val ≤ r.val
      · rw [if_pos hj, p _ (by omega), score_key]; rfl
      · rw [if_neg hj, z _ (by omega), zz]
  have b3 : (if r.val < 256 then 0 else blkTo q (kblk xk h (2 * n + 1)) (kblk xv h (2 * n + 1)) (r.val - 256) r l)
      = ∑ j : Fin 256, f (256 * (2 * n + 1) + j.val) := by
    by_cases h2 : r.val < 256
    · rw [if_pos h2]
      exact (Finset.sum_eq_zero fun j _ => z _ (by omega)).symm
    · rw [if_neg h2]
      refine Finset.sum_congr rfl fun j _ => ?_
      unfold masked
      by_cases hj : j.val ≤ r.val - 256
      · rw [if_pos hj, p _ (by omega), score_key]; rfl
      · rw [if_neg hj, z _ (by omega), zz]
  rw [e, e2, sum_blocks, Finset.sum_range_succ _ (2 * n + 1), Finset.sum_range_succ _ (2 * n), ← b1, ← b2, ← b3]
  rfl

/-- With ones in lane 64 of the values, that lane's sum is the sum of the weights. -/
theorem total_one (n : ℕ) (hn : n < 16) (r : Fin 512) (h1 : ∀ k, val xv h 64 k = 1) :
    total q xk xv h n r 64 = ∑ k, wt (keyTo q xk h (512 * n + r.val) r k) := by
  rw [total_eq q xk xv h n hn]
  exact Finset.sum_congr rfl fun k _ => by rw [h1, mul_one]

end Cert.Proof.AttnSum
-- ==== Proof.AttnOut.lean ====
/-
  What one step of the attention kernel stores: for each row and each head of its pair the mean of the values over the
  keys up to the row, weighted by the exponentials of the scores.
-/
module

public import proofs.«01_k».proof.Proof.AttnSum

@[expose] public section

set_option maxRecDepth 16384

noncomputable section

open Idealize.ShloMosaic Idealize.ShloMosaic.TcCoe

namespace Cert.Proof.AttnOut

open Cert.AttnIdeal Cert.AttnIdeal.Gen Cert.Attend Cert.Proof.AttnPay Cert.Proof.AttnStep Cert.Proof.AttnLoop Cert.Proof.AttnRead Cert.Proof.AttnHead
  Cert.Proof.AttnSum

/-- No score is infinite. -/
def Keys (q : FVec Ideal S1x512x128 .bf16) (xk : FVec Ideal S1x8192x256 .bf16) (h : Fin 2) : Prop :=
  ∀ r k, key q xk h r k ≠ ⊤ ∧ key q xk h r k ≠ ⊥

theorem keys_fin {q : FVec Ideal S1x512x128 .bf16} {xk : FVec Ideal S1x8192x256 .bf16} {h : Fin 2} (H : Keys q xk h) (n : ℕ) : Fin' q (kblk xk h n) :=
  fun r j => by rw [score_key]; exact H r _

/-- The quotient of a lane's sum and the sum of the weights is the weighted mean. -/
theorem quotient {q : FVec Ideal S1x512x128 .bf16} {xk xv : FVec Ideal S1x8192x256 .bf16} {h : Fin 2} (H : Keys q xk h) (h1 : ∀ k, val xv h 64 k = 1)
    (n : ℕ) (hn : n < 16) (r : Fin 512) (l : Fin 128) {A : FVec Ideal S512x128 .f32}
    (g : ∃ M : EReal, ∀ l, Holds M (A (ix2 r l)) (total q xk xv h n r l)) :
    Ideal.div (A (ix2 r l)) (A (ix2 r 64)) = mean (keyTo q xk h (512 * n + r.val) r) (val xv h l) := by
  obtain ⟨M, g⟩ := g
  have hs : ∀ k, Score (keyTo q xk h (512 * n + r.val) r k) := fun k => by
    unfold keyTo; split
    · exact (H r k).1
    · exact bot_ne_top
  obtain ⟨d, -, e, hp⟩ := sum_wt_real Finset.univ hs
  have e1 := total_one q xk xv h n hn r h1
  have hd : 0 < d := hp ⟨0, Finset.mem_univ _, by unfold keyTo; rw [if_pos (show ((0 : Fin 8192) : ℕ) ≤ _ from Nat.zero_le _)]; exact (H r 0).2⟩
  rw [holds_div (g l) (g 64) ⟨d, hd, e1.trans e⟩, e1, total_eq q xk xv h n hn]
  rfl

variable (c : Dev nD) (i : grid0.Coords)
  (arg3 : Memref sig .tc .vmem S1x512x256 .bf16) (harg3 : arg3.IsWhole)
  (arg4 : Memref sig .tc .vmem S1x8192x256 .bf16) (harg4 : arg4.IsWhole)
  (arg5 : Memref sig .tc .vmem S1x8192x256 .bf16) (harg5 : arg5.IsWhole)
  (arg6 : Memref sig .tc .vmem S1x512x128 .bf16) (harg6 : arg6.IsWhole)
  (arg7 : Memref sig .tc .vmem S512x1 .f32) (harg7 : arg7.IsWhole)
  (arg8 : Memref sig .tc .vmem S512x128 .f32) (harg8 : arg8.IsWhole)
  (x0 : FVec Ideal S1x512x256 .bf16) (x1 x2 : FVec Ideal S1x8192x256 .bf16)

theorem lane (l : Fin 128) (h : ¬ l.val < 64) : (l.val + 128 - 64) % 128 = l.val - 64 := by
  have := l.isLt
  omega

/-- The block stored, at a row and lane. -/
theorem out_eq (H0 : Keys (qblk x0 0) x1 0) (H1 : Keys (qblk x0 1) x1 1) (h0 : ∀ k, val x2 0 64 k = 1) (h1 : ∀ k, val x2 1 64 k = 1)
    (r : Fin 512) (l : Fin 128) :
    (out0_A_3 (F := Ideal) c i arg3 harg3 arg4 harg4 arg5 harg5 arg6 harg6 arg7 harg7 arg8 harg8 x0 x1 x2 (ix3 0 r l) : EReal) =
      if l.val < 64 then mean (keyTo (qblk x0 0) x1 0 (512 * (i 2).val + r.val) r) (val x2 0 l)
      else mean (keyTo (qblk x0 1) x1 1 (512 * (i 2).val + r.val) r) (val x2 1 ⟨(l.val + 128 - 64) % 128, Nat.mod_lt _ (by omega)⟩) := by
  have hi : (i 2).val < 16 := (i 2).isLt
  unfold out0_A_3 kernelRun0_A
  dsimp only
  have w := View.read_writes_full (Val := Elt Ideal) (VO0_3) VO0_3.junk (off := ![0, 0, 0]) inb_S1x512x128_S1x512x128_0_0_0
    (k0_pay2 (F := Ideal) (kernelRun0_A.sl.r_5 c i arg3 harg3 arg4 harg4 arg5 harg5 arg6 harg6 arg7 harg7 arg8 harg8 x0 x1 x2)
      (kernelRun0_A.sl.v182 c i arg3 harg3 arg4 harg4 arg5 harg5 arg6 harg6 arg7 harg7 arg8 harg8 x0 x1 x2)) []
  refine (congrFun w _).trans ?_
  unfold kernelRun0_A.sl.r_5
  refine (out_at _ _ r l).trans ?_
  by_cases hl : l.val < 64
  · rw [if_pos hl, if_pos hl]
    exact quotient H0 h0 _ hi r l (final0 c i arg3 harg3 arg4 harg4 arg5 harg5 arg6 harg6 arg7 harg7 arg8 harg8 x0 x1 x2 (keys_fin H0) r)
  · rw [if_neg hl, if_neg hl]
    exact quotient H1 h1 _ hi r _ (final1 c i arg3 harg3 arg4 harg4 arg5 harg5 arg6 harg6 arg7 harg7 arg8 harg8 x0 x1 x2 (keys_fin H1) r)

end Cert.Proof.AttnOut
-- ==== Proof.AttnValue.lean ====
/-
  What the attention kernel leaves in its result array: the weighted means of AttnMean.lean.
-/
module

public import proofs.«01_k».proof.Proof.AttnOut
public import proofs.«01_k».proof.Proof.AttnMean
public import proofs.«01_k».proof.Proof.Gen.AttnIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.AttnValue

open Cert.AttnIdeal Cert.AttnIdeal.Gen Cert.Attend Cert.Proof.AttnLoop Cert.Proof.AttnSum Cert.Proof.AttnMean

variable (m : (ℓ : Loc nD τ sig) → Buf (Elt Ideal) ℓ) (c : Dev nD) (t : Fin cfg0.N)

/-- The windows' block indices: batch, tile of rows and pair of heads. -/
theorem idx : ∀ t : Fin cfg0.N, win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

/-- The queries, keys and values. -/
abbrev Q : Slab := m ((c : Thread nD τ).loc main_arg0)
abbrev K : Slab := m ((c : Thread nD τ).loc main_arg1)
abbrev V' : Slab := m ((c : Thread nD τ).loc main_arg2)

/-- The batch, the head, and the row of a grid point. -/
def batch : Fin 4 := ⟨(grid0.coords t 0).val, (grid0.coords t 0).isLt⟩
def head (h : Fin 2) : Fin 16 := ⟨2 * (grid0.coords t 1).val + h.val, by have : (grid0.coords t 1).val < 8 := (grid0.coords t 1).isLt; omega⟩
def row (r : Fin 512) : Fin 8192 := ⟨512 * (grid0.coords t 2).val + r.val, by have : (grid0.coords t 2).val < 16 := (grid0.coords t 2).isLt; omega⟩

theorem q_at (h : Fin 2) (r : Fin 512) (d : Fin 128) : (qblk (iblk m c 0 t) h (ix3 0 r d) : EReal)
    = Q m c (ix3 (batch t) (row t r) ⟨128 * (head t h).val + d.val, by have := (head t h).isLt; omega⟩) := by
  unfold qblk batch row head
  blk_ext [iblk, V, idx t]

theorem k_at (h : Fin 2) (j : Fin 8192) (d : Fin 128) : ((iblk m c 1 t : FVec Ideal S1x8192x256 .bf16) (ix3 0 j ⟨128 * h.val + d.val, by omega⟩) : EReal)
    = K m c (ix3 (batch t) j ⟨128 * (head t h).val + d.val, by have := (head t h).isLt; omega⟩) := by
  unfold batch head
  blk_ext [iblk, V, idx t]

theorem v_at (h : Fin 2) (j : Fin 8192) (d : Fin 128) : ((iblk m c 2 t : FVec Ideal S1x8192x256 .bf16) (ix3 0 j ⟨128 * h.val + d.val, by omega⟩) : EReal)
    = V' m c (ix3 (batch t) j ⟨128 * (head t h).val + d.val, by have := (head t h).isLt; omega⟩) := by
  unfold batch head
  blk_ext [iblk, V, idx t]

variable {m c}

/-- The slabs' block score is the score. -/
theorem key_at (h : Fin 2) (r : Fin 512) (j : Fin 8192) : key (qblk (iblk m c 0 t) h) (iblk m c 1 t) h r j
    = score (Q m c) (K m c) (batch t) (head t h) (row t r) j :=
  Finset.sum_congr rfl fun d _ => by
    rw [q_at m c t h r d]
    exact congrArg (_ * ·) (k_at m c t h j d)

theorem keys (H : Lanes (Q m c) (K m c) (V' m c)) (h : Fin 2) : AttnOut.Keys (qblk (iblk m c 0 t) h) (iblk m c 1 t) h := fun r j => by
  obtain ⟨x, hx⟩ := score_real H (batch t) (head t h) (row t r) j
  rw [key_at, hx]
  exact ⟨EReal.coe_ne_top x, EReal.coe_ne_bot x⟩

theorem ones (H : Lanes (Q m c) (K m c) (V' m c)) (h : Fin 2) (j : Fin 8192) : val (iblk m c 2 t) h 64 j = 1 :=
  (v_at m c t h j 64).trans (H.vone (batch t) j (head t h))

/-- A row's mean in the block is the row's mean in the slabs. -/
theorem mean_at (h : Fin 2) (r : Fin 512) (l : Fin 128) :
    mean (keyTo (qblk (iblk m c 0 t) h) (iblk m c 1 t) h (512 * (grid0.coords t 2).val + r.val) r) (val (iblk m c 2 t) h l)
      = attend (Q m c) (K m c) (V' m c) (batch t) (head t h) (row t r) l := by
  have e1 : keyTo (qblk (iblk m c 0 t) h) (iblk m c 1 t) h (512 * (grid0.coords t 2).val + r.val) r = seen (Q m c) (K m c) (batch t) (head t h) (row t r) :=
    funext fun j => by
      unfold keyTo seen
      rw [key_at]
      rfl
  have e2 : val (iblk m c 2 t) h l = fun j => V' m c (ix3 (batch t) j ⟨128 * (head t h).val + l.val, by have := (head t h).isLt; omega⟩) :=
    funext fun j => v_at m c t h j l
  rw [e1, e2]
  rfl

/-- The block stored at a grid point is the result array's block. -/
theorem point (H : Lanes (Q m c) (K m c) (V' m c)) (y : S1x512x128.Idx) :
    (out0_A_3 (F := Ideal) c (grid0.coords t) (ms0_0 t) (hs0_0 t) (ms0_1 t) (hs0_1 t) (ms0_2 t) (hs0_2 t) (ms0_3 t) (hs0_3 t) scM0_0 (Memref.isWhole_whole _)
        scM0_1 (Memref.isWhole_whole _) (iblk m c 0 t) (iblk m c 1 t) (iblk m c 2 t) y : EReal)
    = result (Q m c) (K m c) (V' m c) (((cfg0.win 3).blk t).view.emb y) := by
  obtain ⟨u, r, l, rfl⟩ : ∃ u r l, y = ix3 u r l := ⟨y 0, y 1, y 2, eq_ix3 y⟩
  obtain rfl : u = 0 := Subsingleton.elim _ _
  rw [AttnOut.out_eq c (grid0.coords t) _ _ _ _ _ _ _ _ _ _ _ _ _ _ _ (keys t H 0) (keys t H 1) (ones t H 0) (ones t H 1) r l, mean_at, mean_at]
  have hl := l.isLt
  have hp : (grid0.coords t 1).val < 8 := (grid0.coords t 1).isLt
  have h0 : ((((cfg0.win 3).blk t).view.emb (ix3 0 r l)) 0).val = (grid0.coords t 0).val := by blk_simp [idx t]; rfl
  have h1 : ((((cfg0.win 3).blk t).view.emb (ix3 0 r l)) 1).val = 512 * (grid0.coords t 2).val + r.val := by blk_simp [idx t]; omega
  have h2 : ((((cfg0.win 3).blk t).view.emb (ix3 0 r l)) 2).val = 128 * (grid0.coords t 1).val + l.val := by blk_simp [idx t]; omega
  split
  · refine (result_at _ _ _ _ _ _ _ _ ‹_› h0 h1 (h2.trans ?_)).symm
    show 128 * (grid0.coords t 1).val + l.val = 64 * (2 * (grid0.coords t 1).val + 0) + l.val
    omega
  · refine (result_at _ _ _ _ _ _ _ _ ?_ h0 h1 (h2.trans ?_)).symm
    · show (l.val + 128 - 64) % 128 < 64
      omega
    · show 128 * (grid0.coords t 1).val + l.val = 64 * (2 * (grid0.coords t 1).val + 1) + (l.val + 128 - 64) % 128
      omega

/-- The result array after the run. -/
theorem final (H : Lanes (Q m c) (K m c) (V' m c)) : (dats m 0 c).arrAt 3 (cfgs 0).N = result (Q m c) (K m c) (V' m c) := by
  refine (dats m 0 c).arrAt_eq_of_covers 3 _ (by decide +kernel) fun t _ y => ?_
  blk_simp
  rw [after0_3]
  unfold outsAt0
  exact point t H y

end Cert.Proof.AttnValue

end
-- ==== Proof.FoxRef.lean ====
/-
  What the reference attention computes: its composed term split into the scores, the softmax's numerators and the
  weighted sum.
-/
module

public import proofs.«01_k».proof.Proof.AttnRow
public import proofs.«01_k».proof.Proof.Gen.FoxIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.StableHlo

namespace Cert.Proof.FoxRef

open Cert.FoxIdeal Cert.FoxIdeal.Gen Cert.Attend

/-- A slab by heads of 128 lanes. -/
def heads (x : FVec Ideal S4x8192x2048 .bf16) : FVec Ideal S4x8192x16x128 .f32 :=
  shapeCast S4x8192x16x128 (extf .f32 x bitsLt_bf16_f32) shapeCasts_S4x8192x2048_S4x8192x16x128

/-- The first 64 lanes of every head. -/
def data (x : FVec Ideal S4x8192x2048 .bf16) : FVec Ideal S4x8192x16x64 .f32 :=
  extractStridedSlice S4x8192x16x64 ![0, 0, 0, 0] (heads x) slices_S4x8192x16x128_S4x8192x16x64_0_0_0_0

/-- The running sum of the log-forget gates, from the three pieces of its negation in lanes 64 to 66. -/
def gates (k : FVec Ideal S4x8192x2048 .bf16) : FVec Ideal S4x16x8192 .f32 :=
  Host.negf (transpose S4x16x8192 [0, 2, 1] (Host.reduceAdd (extractStridedSlice S4x8192x16x3 ![0, 0, 0, 64] (heads k) slices_S4x8192x16x128_S4x8192x16x3_0_0_0_64)
    (constant S_ .f32 0x00000000#32) reducesTo_S4x8192x16x3_S4x8192x16_d3 h_S_) transposes_S4x8192x16_S4x16x8192_0_2_1)

/-- Which keys a row sees. -/
def below : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The scores before the mask. -/
def open' (q k : FVec Ideal S4x8192x2048 .bf16) : FVec Ideal S4x16x8192x8192 .f32 :=
  subf (addf (Host.dotGeneral dot_S4x8192x16x64_S4x8192x16x64_S4x16x8192x8192_3_3_1_1_02_02 none (data q) (data k))
      (broadcastInDim S4x16x8192x8192 ![0, 1, 2, 3] bcast_S4x16x8192x1_S4x16x8192x8192_0_1_2_3 (broadcastInDim S4x16x8192x1 ![0, 1, 2] bcast_S4x16x8192_S4x16x8192x1_0_1_2 (gates k))))
    (broadcastInDim S4x16x8192x8192 ![0, 1, 2, 3] bcast_S4x16x1x8192_S4x16x8192x8192_0_1_2_3 (broadcastInDim S4x16x1x8192 ![0, 1, 3] bcast_S4x16x8192_S4x16x1x8192_0_1_3 (gates k)))

/-- The masked scores. -/
def scores (q k : FVec Ideal S4x8192x2048 .bf16) : FVec Ideal S4x16x8192x8192 .f32 :=
  select (broadcastInDim S4x16x8192x8192 ![2, 3] bcast_S8192x8192_S4x16x8192x8192_2_3 below) (open' q k)
    (broadcastInDim S4x16x8192x8192 ![] bcast_S_S4x16x8192x8192 (id (constant S_ .f32 0xFF800000#32)))

/-- The largest score of every row. -/
def most (s : FVec Ideal S4x16x8192x8192 .f32) : FVec Ideal S4x16x8192 .f32 :=
  maximumf (broadcastInDim S4x16x8192 ![] bcast_S_S4x16x8192 (constant S_ .f32 0xFF800000#32))
    (Host.reduce FloatOps.maximumf s (constant S_ .f32 0xFF800000#32) reducesTo_S4x16x8192x8192_S4x16x8192_d3 h_S_)

/-- The exponentials of the scores less their row's largest. -/
def numer (s : FVec Ideal S4x16x8192x8192 .f32) : FVec Ideal S4x16x8192x8192 .f32 :=
  Host.exp (subf s (broadcastInDim S4x16x8192x8192 ![0, 1, 2, 3] bcast_S4x16x8192x1_S4x16x8192x8192_0_1_2_3 (broadcastInDim S4x16x8192x1 ![0, 1, 2] bcast_S4x16x8192_S4x16x8192x1_0_1_2 (most s))))

/-- The softmax of every row. -/
def soft (s : FVec Ideal S4x16x8192x8192 .f32) : FVec Ideal S4x16x8192x8192 .f32 :=
  Host.divf (numer s) (broadcastInDim S4x16x8192x8192 ![0, 1, 2, 3] bcast_S4x16x8192x1_S4x16x8192x8192_0_1_2_3 (broadcastInDim S4x16x8192x1 ![0, 1, 2] bcast_S4x16x8192_S4x16x8192x1_0_1_2
    (Host.reduceAdd (numer s) (constant S_ .f32 0x00000000#32) reducesTo_S4x16x8192x8192_S4x16x8192_d3 h_S_)))

/-- The values summed by a matrix of weights. -/
def mix (p : FVec Ideal S4x16x8192x8192 .f32) (v : FVec Ideal S4x8192x2048 .bf16) : FVec Ideal S4x16x64x8192 .f32 :=
  Host.dotGeneral dot_S4x8192x16x64_S4x16x8192x8192_S4x16x64x8192_1_3_3_2_02_01 none (data v) p

/-- The whole reference over its arguments. -/
def term (q k v : FVec Ideal S4x8192x2048 .bf16) : FVec Ideal S4x8192x1024 .bf16 :=
  truncf .bf16 (shapeCast S4x8192x1024 (transpose S4x8192x16x64 [0, 3, 1, 2] (mix (soft (scores q k)) v) transposes_S4x16x64x8192_S4x8192x16x64_0_3_1_2)
    shapeCasts_S4x8192x16x64_S4x8192x1024) bitsLt_bf16_f32

theorem res_eq (m : (ℓ : Loc nD τ sig) → Buf (Elt Ideal) ℓ) (c : Dev nD) :
    Cert.FoxIdeal.Value.res_main_v43 (F := Ideal) m c = term (m ((c.tc : Thread nD τ).loc main_arg0)) (m ((c.tc : Thread nD τ).loc main_arg1)) (m ((c.tc : Thread nD τ).loc main_arg2)) := by
  unfold Cert.FoxIdeal.Value.res_main_v43
  rfl

end Cert.Proof.FoxRef
-- ==== Proof.FoxRead.lean ====
/-
  The parts of the reference attention read at an index.
-/
module

public import proofs.«01_k».proof.Proof.AttnPay
public import proofs.«01_k».proof.Proof.FoxRef
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.StableHlo

namespace Cert.Proof.FoxRead

open Cert.FoxIdeal Cert.FoxIdeal.Gen Cert.Proof.FoxRef Cert.Proof.AttnPay

/-- The larger of two arrays' elements. -/
theorem max_read {t : Shape} (x y : FVec Ideal t .f32) (j : t.Idx) : maximumf x y j = max (α := EReal) (x j) (y j) := rfl

/-- A constant array's element. -/
theorem const_read {t : Shape} (w : BitVec 32) (hb : S_.BroadcastsInDim t (![] : Fin 0 → Fin t.rank)) (j : t.Idx) :
    broadcastInDim t ![] hb (constant (F := Ideal) S_ .f32 w) j = Ideal.ofBits .f32 w := rfl

/-- The maximum over one axis, from minus infinity, no less than minus infinity. -/
theorem fold_read {s t : Shape} {a : Fin s.rank} (x : FVec Ideal s .f32) (h' : s.ReducesTo [a] t) (hr : s.Reduces [a] t)
    (hb : S_.BroadcastsInDim t (![] : Fin 0 → Fin t.rank)) (hu : 0 < S_.numel) (j : t.Idx) :
    maximumf (broadcastInDim t ![] hb (constant (F := Ideal) S_ .f32 0xFF800000#32))
        (Host.reduce FloatOps.maximumf x (constant (F := Ideal) S_ .f32 0xFF800000#32) h' hu) j
      = (Finset.univ : Finset (Fin (s.size a))).fold (max (α := EReal)) ⊥ fun k => x (hr.lift j k) := by
  rw [max_read, const_read, Host.reduce_eq_fold_single FloatOps.maximumf x _ h' hr hu j, ninf, max_eq_right bot_le]
  exact congrArg (fun e => (Finset.univ : Finset (Fin (s.size a))).fold (max (α := EReal)) e (x ∘ hr.lift j)) ninf

/-- The place of a row's key. -/
theorem lift_eq (hr : S4x16x8192x8192.Reduces [3] S4x16x8192) (b : Fin 4) (h : Fin 16) (i k : Fin 8192) :
    hr.lift (ix3 b h i) k = ix4 b h i k :=
  funext fun c => Fin.ext (by
    match c with
    | 0 => rfl
    | 1 => rfl
    | 2 => rfl
    | 3 => rfl)

theorem most_at (b : Fin 4) (h : Fin 16) (i : Fin 8192) (s : FVec Ideal S4x16x8192x8192 .f32) :
    (most s (ix3 b h i) : EReal) = Finset.univ.fold max ⊥ fun j : Fin 8192 => (s (ix4 b h i j) : EReal) := by
  have hr : S4x16x8192x8192.Reduces [3] S4x16x8192 := by decide
  refine (fold_read s reducesTo_S4x16x8192x8192_S4x16x8192_d3 hr bcast_S_S4x16x8192 h_S_ (ix3 b h i)).trans ?_
  exact congrArg (fun f : Fin 8192 → EReal => Finset.univ.fold max ⊥ f) (funext fun k => congrArg s (lift_eq hr b h i k))

variable (q k v : FVec Ideal S4x8192x2048 .bf16) (b : Fin 4) (h : Fin 16) (i j : Fin 8192)

theorem heads_at (x : FVec Ideal S4x8192x2048 .bf16) (d : Fin 128) :
    (heads x (ix4 b i h d) : EReal) = x (ix3 b i ⟨128 * h.val + d.val, by omega⟩) := by
  pointwise [heads]
  exact congrArg (fun e => x (ix3 b i e)) (Fin.ext (by simp only []; omega))

theorem data_at (x : FVec Ideal S4x8192x2048 .bf16) (d : Fin 64) :
    (data x (ix4 b i h d) : EReal) = x (ix3 b i ⟨128 * h.val + d.val, by omega⟩) := by
  pointwise [data, heads_at]

theorem gates_at : (gates k (ix3 b h i) : EReal) = -∑ d : Fin 3, (k (ix3 b i ⟨128 * h.val + 64 + d.val, by omega⟩) : EReal) := by
  pointwise [gates, heads_at]
  refine congrArg Neg.neg (Finset.sum_congr rfl fun d _ => congrArg (fun e => k (ix3 b i e)) (Fin.ext (by simp only []; omega)))

theorem open_at : (open' q k (ix4 b h i j) : EReal) =
    ∑ d : Fin 64, (q (ix3 b i ⟨128 * h.val + d.val, by omega⟩) : EReal) * (k (ix3 b j ⟨128 * h.val + d.val, by omega⟩) : EReal)
      + (gates k (ix3 b h i) : EReal) - (gates k (ix3 b h j) : EReal) := by
  pointwise [open', data_at]

theorem scores_at : (scores q k (ix4 b h i j) : EReal) = if j.val ≤ i.val then (open' q k (ix4 b h i j) : EReal) else ⊥ := by
  pointwise [scores, below]
  rw [sel_le (by omega) (by omega)]
  exact congrArg (ite _ _) ninf

theorem numer_at (s : FVec Ideal S4x16x8192x8192 .f32) : (numer s (ix4 b h i j) : EReal) = Ideal.exp ((s (ix4 b h i j) : EReal) - (most s (ix3 b h i) : EReal)) := by
  pointwise [numer]

theorem soft_at (s : FVec Ideal S4x16x8192x8192 .f32) : (soft s (ix4 b h i j) : EReal) = Ideal.div (numer s (ix4 b h i j)) (∑ j, (numer s (ix4 b h i j) : EReal)) := by
  pointwise [soft]

theorem mix_at (p : FVec Ideal S4x16x8192x8192 .f32) (l : Fin 64) : (mix p v (ix4 b h l i) : EReal) =
    ∑ j, (v (ix3 b j ⟨128 * h.val + l.val, by omega⟩) : EReal) * (p (ix4 b h i j) : EReal) := by
  pointwise [mix, data_at]

end Cert.Proof.FoxRead
-- ==== Proof.FoxValue.lean ====
/-
  What the reference attention computes: the weighted mean of AttnMean.lean.
-/
module

public import proofs.«01_k».proof.Proof.FoxRead
public import proofs.«01_k».proof.Proof.AttnMean

@[expose] public section

set_option maxRecDepth 16384

noncomputable section

open Idealize.ShloMosaic Idealize.ShloMosaic.TcCoe Idealize.SL.Sem Idealize.ShloMosaic.StableHlo

namespace Cert.Proof.FoxValue

open Cert.FoxIdeal Cert.FoxIdeal.Gen Cert.Attend Cert.Proof.FoxRef Cert.Proof.FoxRead Cert.Proof.AttnMean

theorem term_at (q k v : Slab) (b : Fin 4) (i : Fin 8192) (c : Fin 1024) : (term q k v (ix3 b i c) : EReal) =
    mix (soft (scores q k)) v (ix4 b ⟨c.val / 64, by omega⟩ ⟨c.val % 64, by omega⟩ i) := by
  pointwise [term]

variable {q k v : Slab}

/-- The reference's scores are the kernel's less the row's own gate. -/
theorem scores_shift (H : Lanes q k v) (b : Fin 4) (h : Fin 16) (i : Fin 8192) : ∃ g : ℝ, ∀ j, (scores q k (ix4 b h i j) : EReal) = seen q k b h i j - (g : EReal) := by
  obtain ⟨g, hg⟩ := gate_real H b h i
  have gate_at : ∀ j, (gates k (ix3 b h j) : EReal) = -gate k b h j := fun j => by
    rw [gates_at]
    refine congrArg Neg.neg (Finset.sum_congr rfl fun d _ => congrArg (fun e => k (ix3 b j e)) (Fin.ext ?_))
    exact Nat.add_assoc _ _ _
  refine ⟨g, fun j => ?_⟩
  rw [scores_at, seen]
  split
  · obtain ⟨x, hx⟩ := dots_real H b h i j
    obtain ⟨y, hy⟩ := gate_real H b h j
    rw [open_at, gate_at, gate_at, score_eq H, hg, hy, hx]
    rw [show ∑ d : Fin 64, (q (ix3 b i ⟨128 * h.val + d.val, by omega⟩) : EReal) * (k (ix3 b j ⟨128 * h.val + d.val, by omega⟩) : EReal) = (x : EReal) from hx]
    norm_cast
    ring
  · exact (EReal.bot_sub _).symm

theorem seen_score (H : Lanes q k v) (b : Fin 4) (h : Fin 16) (i j : Fin 8192) : Score (seen q k b h i j) := by
  unfold seen; split
  · obtain ⟨x, hx⟩ := score_real H b h i j
    rw [hx]; exact EReal.coe_ne_top x
  · exact bot_ne_top

theorem seen_some (H : Lanes q k v) (b : Fin 4) (h : Fin 16) (i : Fin 8192) : ∃ j, seen q k b h i j ≠ ⊥ :=
  ⟨i, by
    obtain ⟨x, hx⟩ := score_real H b h i i
    rw [seen, if_pos (le_refl _), hx]; exact EReal.coe_ne_bot x⟩

/-- A score less a real number is real where the score is. -/
theorem sub_sub_real {s : EReal} (hs : Score s) (g μ : ℝ) : s - (g : EReal) - (μ : EReal) = s - ((g + μ : ℝ) : EReal) := by
  rcases eq_or_ne s ⊥ with rfl | h
  · rw [EReal.bot_sub, EReal.bot_sub, EReal.bot_sub]
  · rw [← EReal.coe_toReal hs h]
    norm_cast
    ring

/-- The largest score of a row is real. -/
theorem most_real (H : Lanes q k v) (b : Fin 4) (h : Fin 16) (i : Fin 8192) : ∃ μ : ℝ, (most (scores q k) (ix3 b h i) : EReal) = μ := by
  obtain ⟨g, hg⟩ := scores_shift H b h i
  have e : (most (scores q k) (ix3 b h i) : EReal) = newMax ⊥ fun j => seen q k b h i j - (g : EReal) := by
    rw [most_at, newMax, max_eq_right bot_le]
    exact congrArg (fun f : Fin 8192 → EReal => Finset.univ.fold max ⊥ f) (funext hg)
  rw [e]
  refine newMax_real bot_ne_top (fun j => ?_) (Or.inr ?_)
  · rcases eq_or_ne (seen q k b h i j) ⊥ with h' | h'
    · rw [h', EReal.bot_sub]; exact bot_ne_top
    · rw [← EReal.coe_toReal (seen_score H b h i j) h', ← EReal.coe_sub]; exact EReal.coe_ne_top _
  · obtain ⟨j, h'⟩ := seen_some H b h i
    refine ⟨j, ?_⟩
    rw [← EReal.coe_toReal (seen_score H b h i j) h', ← EReal.coe_sub]; exact EReal.coe_ne_bot _

/-- The reference's weighted sum is the weighted mean. -/
theorem mix_eq (H : Lanes q k v) (b : Fin 4) (h : Fin 16) (i : Fin 8192) (l : Fin 64) :
    (mix (soft (scores q k)) v (ix4 b h l i) : EReal) = attend q k v b h i ⟨l.val, by omega⟩ := by
  obtain ⟨g, hg⟩ := scores_shift H b h i
  obtain ⟨μ, hμ⟩ := most_real H b h i
  have e : ∀ j, (numer (scores q k) (ix4 b h i j) : EReal) = Ideal.exp (seen q k b h i j - ((g + μ : ℝ) : EReal)) := fun j => by
    rw [numer_at, hg, hμ, sub_sub_real (seen_score H b h i j)]
  rw [mix_at]
  simp only [soft_at, e]
  exact softmax_eq (seen_score H b h i) (seen_some H b h i) _ _

/-- The reference's term is the array of weighted means. -/
theorem term_eq (H : Lanes q k v) : term q k v = result q k v := funext fun y => by
  obtain ⟨b, i, c, rfl⟩ : ∃ b i c, y = ix3 b i c := ⟨y 0, y 1, y 2, eq_ix3 y⟩
  exact (term_at q k v b i c).trans (mix_eq H _ _ _ _)

end Cert.Proof.FoxValue

end
-- ==== Proof.AttnEq.lean ====
/-
  The attention: on slabs that hold what the precondition says, the kernel's run and the reference's run leave the same
  array.
-/
module

public import proofs.«01_k».proof.Defs
public import proofs.«01_k».proof.Proof.AttnPre
public import proofs.«01_k».proof.Proof.AttnValue
public import proofs.«01_k».proof.Proof.FoxValue
public import proofs.«01_k».proof.Proof.Gen.AttnIdeal.Frame
public import proofs.«01_k».proof.Proof.Gen.FoxIdeal.Run

@[expose] public section

noncomputable section

open Idealize.ShloMosaic Idealize.ShloMosaic.TcCoe Idealize.SL.Sem

namespace Cert.Proof.AttnEq

/-- From memories agreeing on slabs of the precondition, the kernel and its reference end with equal results. -/
theorem algebraic : Cert.algebraic_AttnIdeal_FoxIdeal_pre_slabs := by
  intro m ρ m' ρ' hpre hag
  have H := fun c => AttnPre.lanes (hpre c)
  refine ⟨fun c => AttnMean.result (m ((c.tc : Thread Cert.AttnIdeal.nD Cert.AttnIdeal.τ).loc Cert.AttnIdeal.main_arg0)) (m ((c.tc : Thread Cert.AttnIdeal.nD Cert.AttnIdeal.τ).loc Cert.AttnIdeal.main_arg1))
    (m ((c.tc : Thread Cert.AttnIdeal.nD Cert.AttnIdeal.τ).loc Cert.AttnIdeal.main_arg2)), ?_, ?_⟩
  · exact (θ_run _ _ _).mono (fun _ h c => ⟨(h c).1.trans (AttnValue.final (H c)), (h c).2⟩) (Cert.AttnIdeal.Value.run_blocks m ρ)
  · refine (θ_run _ _ _).mono (fun _ h c => ⟨(h c).1.trans ?_, (h c).2⟩) (Cert.FoxIdeal.Value.run m' ρ')
    obtain ⟨h0, h1, h2⟩ := hag c
    beta_reduce
    refine (FoxRef.res_eq m' c).trans ?_
    rw [h0, h1, h2]
    exact FoxValue.term_eq (H c)

end Cert.Proof.AttnEq

end
-- ==== Proof.SampleRows.lean ====
/-
  The pooling mixer's row arithmetic for one decoding step over the extended reals: a new row, the fifteen rows before it
  and, for each group of lanes, the mean of the window that ends at the new row less the new row, projected.
-/
module

public import proofs.«01_k».proof.Proof.PoolRows

@[expose] public section

noncomputable section

open Idealize.ShloMosaic

namespace Cert.SampleRows

/-- The sum of the last `n` of the fifteen rows before the new one, latest first. -/
def hist (n : ℕ) (u : Fin 15 → EReal) : EReal := ∑ j ∈ Finset.range n, u ⟨14 - j, by omega⟩

/-- The same sum, earliest first. -/
theorem hist_eq (n : ℕ) (hn : n ≤ 15) (u : Fin 15 → EReal) : (∑ k : Fin n, u ⟨15 - n + k.val, by omega⟩) = hist n u := by
  unfold hist
  rw [Finset.sum_range, ← Equiv.sum_comp Fin.revPerm]
  refine Finset.sum_congr rfl fun k _ => ?_
  congr 1
  apply Fin.ext
  show 15 - n + (n - (k.val + 1)) = 14 - k.val
  omega

/-- The window's size by group, as an extended real. -/
def size (g : Fin 4) : EReal := ((Rows.wide g : ℕ) : ℝ)

/-- Dividing by a positive real is multiplying by its inverse. -/
theorem mul_inv (s : EReal) (a b : ℝ) (ha : a ≠ 0) (hb : b = 1 / a) : s * (b : EReal) = Ideal.div s (a : EReal) := by
  subst hb
  unfold Ideal.div
  rw [if_neg (by exact_mod_cast ha), ← EReal.coe_inv, one_div]

theorem size0 : (Ideal.ofBits .f32 0x40000000#32 : EReal) = size 0 := by
  unfold size Rows.wide
  simp [Ideal.ofBits, Ideal.ieee, -EReal.coe_mul]; norm_num

theorem size1 : (Ideal.ofBits .f32 0x40800000#32 : EReal) = size 1 := by
  unfold size Rows.wide
  simp [Ideal.ofBits, Ideal.ieee, -EReal.coe_mul]; norm_num

theorem size2 : (Ideal.ofBits .f32 0x41000000#32 : EReal) = size 2 := by
  unfold size Rows.wide
  simp [Ideal.ofBits, Ideal.ieee, -EReal.coe_mul]; norm_num

theorem size3 : (Ideal.ofBits .f32 0x41800000#32 : EReal) = size 3 := by
  unfold size Rows.wide
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem quarter : Ideal.ofBits .f32 0x3E800000#32 = ((1 / 4 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

/-- A window's sum times the constant the kernel prints is the sum divided by the window's size, group by group. -/
theorem mean0 (s : EReal) : s * Ideal.ofBits .f32 0x3F000000#32 = Ideal.div s (size 0) := by
  rw [half, mul_inv s 2 (1 / 2) (by norm_num) rfl]
  unfold size Rows.wide
  norm_num

theorem mean1 (s : EReal) : s * Ideal.ofBits .f32 0x3E800000#32 = Ideal.div s (size 1) := by
  rw [quarter, mul_inv s 4 (1 / 4) (by norm_num) rfl]
  unfold size Rows.wide
  norm_num

theorem mean2 (s : EReal) : s * Ideal.ofBits .f32 0x3E000000#32 = Ideal.div s (size 2) := by
  rw [eighth, mul_inv s 8 (1 / 8) (by norm_num) rfl]
  unfold size Rows.wide
  norm_num

theorem mean3 (s : EReal) : s * Ideal.ofBits .f32 0x3D800000#32 = Ideal.div s (size 3) := by
  rw [sixteenth, mul_inv s 16 (1 / 16) (by norm_num) rfl]
  unfold size Rows.wide
  norm_num

/-- A lane of a group. -/
abbrev lane (g : Fin 4) (k : Fin 256) : Fin 1024 := ⟨256 * g.val + k.val, by omega⟩

/-- The window's mean less the new row `h`, at a lane of a group; `st` holds the fifteen rows before it. -/
def excess (h : Fin 1024 → EReal) (st : Fin 15 → Fin 1024 → EReal) (g : Fin 4) (k : Fin 256) : EReal :=
  Ideal.div (h (lane g k) + hist (Rows.wide g - 1) (fun q => st q (lane g k))) (size g) - h (lane g k)

/-- The mixer's output at a lane of a group. -/
def mixAt (h : Fin 1024 → EReal) (st : Fin 15 → Fin 1024 → EReal) (pw : Fin 4 → Fin 256 → Fin 256 → EReal) (g : Fin 4)
    (j : Fin 256) : EReal := ∑ k, excess h st g k * pw g k j

/-- The mixer's output at a lane. -/
def mix (h : Fin 1024 → EReal) (st : Fin 15 → Fin 1024 → EReal) (pw : Fin 4 → Fin 256 → Fin 256 → EReal) (l : Fin 1024) : EReal :=
  mixAt h st pw ⟨l.val / 256, by omega⟩ ⟨l.val % 256, Nat.mod_lt _ (by omega)⟩

theorem mix_eq (h : Fin 1024 → EReal) (st : Fin 15 → Fin 1024 → EReal) (pw : Fin 4 → Fin 256 → Fin 256 → EReal) (l : Fin 1024)
    (g : Fin 4) (j : Fin 256) (e : l.val = 256 * g.val + j.val) : mix h st pw l = mixAt h st pw g j := by
  unfold mix
  congr 1 <;> apply Fin.ext <;> dsimp only <;> omega

/-- The row after the mixer: the row plus the scaled and shifted mixer's output. -/
def mixed (x : Fin 1024 → EReal) (st : Fin 15 → Fin 1024 → EReal) (nm pb ps : Fin 1024 → EReal)
    (pw : Fin 4 → Fin 256 → Fin 256 → EReal) (l : Fin 1024) : EReal := x l + (mix (Rows.rms x nm) st pw l + pb l) * ps l

/-- The whole first layer on one new row. -/
def layer (x : Fin 1024 → EReal) (st : Fin 15 → Fin 1024 → EReal) (nm nf pb ps : Fin 1024 → EReal)
    (pw : Fin 4 → Fin 256 → Fin 256 → EReal) (wgu : Fin 1024 → Fin 5632 → EReal) (wd : Fin 2816 → Fin 1024 → EReal)
    (l : Fin 1024) : EReal := mixed x st nm pb ps pw l + Rows.ffn (Rows.rms (mixed x st nm pb ps pw) nf) wgu wd l

end Cert.SampleRows

end
-- ==== Proof.SamplePay.lean ====
/-
  The decoding step's block read down to the row arithmetic of SampleRows.lean: the mixer by group of lanes, the residual,
  the feed-forward and the projections.
-/
module

public import proofs.«01_k».proof.Proof.SampleRows
public import proofs.«01_k».proof.Proof.Gen.SampleIdeal.Skeleton

@[expose] public section

set_option maxRecDepth 16384

noncomputable section

open Idealize.ShloMosaic Idealize.ShloMosaic.TcCoe Idealize.SL.Sem

namespace Cert.Proof.SamplePay

open Cert.SampleIdeal Cert.SampleIdeal.Gen

/-- Row `q` of the state, on group `g` of the lanes. -/
def past (S : FVec Ideal S15x32x1024 .f32) (q : Fin 15) (g : Fin 4) : FVec Ideal S1x32x256 .f32 :=
  fun y => S (ix3 q (y 1) ⟨256 * g.val + (y 2).val, by have : (y 2).val < 256 := (y 2).isLt; omega⟩)

/-- Matrix `g` of the mixer. -/
def matrix (P : FVec Ideal S4x256x256 .bf16) (g : Fin 4) : FVec Ideal S1x256x256 .bf16 := fun y => P (ix3 g (y 1) (y 2))

/-- One state row as a block of rows. -/
abbrev flat (v : FVec Ideal S1x32x256 .f32) : FVec Ideal S32x256 .f32 := shapeCast S32x256 v shapeCasts_S1x32x256_S32x256

theorem flat_at (S : FVec Ideal S15x32x1024 .f32) (q : Fin 15) (g : Fin 4) (r : Fin 32) (k : Fin 256) :
    (flat (past S q g) (ix2 r k) : EReal) = S (ix3 q r (SampleRows.lane g k)) := by
  have e : ∀ v : FVec Ideal S1x32x256 .f32, (flat v (ix2 r k) : EReal) = v (ix3 0 r k) := by
    intro v
    pointwise [flat]
  rw [e]
  rfl

/-- A window's sum times a constant, less the row, projected. -/
def group (s u : FVec Ideal S32x256 .f32) (w : BitVec 32) (p : FVec Ideal S1x256x256 .bf16) : FVec Ideal S32x256 .f32 :=
  matmul dot_S32x256_S256x256_S32x256_1_0_0_1_n_n none
    (truncf .bf16 (subf (mulf s (broadcast S32x256 (Scalar.ofBits .f32 w : Ideal .f32))) u) bitsLt_bf16_f32)
    (shapeCast S256x256 p shapeCasts_S1x256x256_S256x256) (constant S32x256 .f32 0x00000000#32)

theorem group_at (g : Fin 4) (h : Fin 1024 → EReal) (st : Fin 15 → Fin 1024 → EReal) (P : FVec Ideal S4x256x256 .bf16)
    (s u : FVec Ideal S32x256 .f32) (w : BitVec 32) (r : Fin 32) (l : Fin 256)
    (hw : ∀ y : EReal, y * Ideal.ofBits .f32 w = Ideal.div y (SampleRows.size g))
    (hs : ∀ k : Fin 256, (s (ix2 r k) : EReal)
      = h (SampleRows.lane g k) + SampleRows.hist (Rows.wide g - 1) (fun q => st q (SampleRows.lane g k)))
    (hu : ∀ k : Fin 256, (u (ix2 r k) : EReal) = h (SampleRows.lane g k)) :
    (group s u w (matrix P g) (ix2 r l) : EReal) = SampleRows.mixAt h st (fun g k l => P (ix3 g k l)) g l := by
  have e : ∀ p : FVec Ideal S1x256x256 .bf16, (group s u w p (ix2 r l) : EReal)
      = ∑ k : Fin 256, (s (ix2 r k) * Ideal.ofBits .f32 w - u (ix2 r k)) * p (ix3 0 k l) := by
    intro p
    pointwise [group]
  rw [e]
  unfold SampleRows.mixAt SampleRows.excess
  refine Finset.sum_congr rfl fun k _ => ?_
  rw [hw, hu, hs]
  rfl

/-- The RMS norm of the rows. -/
def norm (x : FVec Ideal S32x1024 .f32) (g : FVec Ideal S1x1024 .f32) : FVec Ideal S32x1024 .f32 :=
  mulf (mulf x (broadcastTo S32x1024 (rsqrt (addf (divf (shapeCast S32x1
      (multiReduction .add [1] S32 (mulf x x) 0x00000000#32 reduces_S32x1024_S32 (.inl rfl) rfl) shapeCasts_S32_S32x1)
      (broadcast S32x1 (Scalar.ofBits .f32 0x44800000#32))) (broadcast S32x1 (Scalar.ofBits .f32 0x358637BD#32))))
      broadcasts_S32x1_S32x1024)) (broadcastTo S32x1024 g broadcasts_S1x1024_S32x1024)

theorem norm_at (x g) (r : Fin 32) (l : Fin 1024) : norm x g (ix2 r l)
    = Rows.rms (fun k => x (ix2 r k)) (fun k => g (ix2 0 k)) l := by
  pointwise [norm, Rows.rms]

variable (wgu : FVec Ideal S1024x5632 .bf16) (wd : FVec Ideal S2816x1024 .bf16)

/-- The normed rows times the gate and value weights. -/
def gu (h : FVec Ideal S32x1024 .f32) : FVec Ideal S32x5632 .f32 :=
  matmul dot_S32x1024_S1024x5632_S32x5632_1_0_0_1_n_n none (truncf .bf16 h bitsLt_bf16_f32) wgu
    (constant S32x5632 .f32 0x00000000#32)

/-- The gate columns of `gu`. -/
def gate (h : FVec Ideal S32x1024 .f32) : FVec Ideal S32x2816 .f32 :=
  extractStridedSlice S32x2816 ![0, 0] (gu wgu h) slices_S32x5632_o0_0_S32x2816

/-- The feed-forward of the rows. -/
def ffn (h : FVec Ideal S32x1024 .f32) : FVec Ideal S32x1024 .f32 :=
  matmul dot_S32x2816_S2816x1024_S32x1024_1_0_0_1_n_n none
    (truncf .bf16 (mulf (mulf (gate wgu h) (logistic (gate wgu h)))
      (extractStridedSlice S32x2816 ![0, 2816] (gu wgu h) slices_S32x5632_o0_2816_S32x2816)) bitsLt_bf16_f32) wd
    (constant S32x1024 .f32 0x00000000#32)

theorem gu_at (h) (r : Fin 32) (l : Fin 5632) : gu wgu h (ix2 r l)
    = Rows.dot (fun k => h (ix2 r k)) (fun k l => wgu (ix2 k l)) l := by
  pointwise [gu, Rows.dot]

theorem ffn_at (h) (r : Fin 32) (l : Fin 1024) : ffn wgu wd h (ix2 r l)
    = Rows.ffn (fun k => h (ix2 r k)) (fun k l => wgu (ix2 k l)) (fun k l => wd (ix2 k l)) l := by
  pointwise [ffn, gate, Rows.ffn, gu_at]

theorem pay2_eq (x g) : k0_pay2 (F := Ideal) x g = norm x g := rfl

theorem pay27_eq (y nf) : k0_pay27 (F := Ideal) y nf wgu wd = addf y (ffn wgu wd (norm y nf)) := rfl

theorem pay28_eq (y nf nkv) : k0_pay28 (F := Ideal) y nf wgu wd nkv
    = truncf .bf16 (norm (k0_pay27 y nf wgu wd) nkv) bitsLt_bf16_f32 := rfl

theorem pay32_eq (y g) : k0_pay32 (F := Ideal) y g = truncf .bf16 (norm y g) bitsLt_bf16_f32 := rfl

/-- Four groups side by side, shifted, scaled and added to the rows. -/
def join (x : FVec Ideal S32x1024 .f32) (a b c d : FVec Ideal S32x256 .f32) (pb ps : FVec Ideal S1x1024 .f32) : FVec Ideal S32x1024 .f32 :=
  addf x (mulf (addf (concatenate S32x1024 1 [⟨S32x256, a⟩, ⟨S32x256, b⟩, ⟨S32x256, c⟩, ⟨S32x256, d⟩]
    concatenates_S32x256_S32x256_S32x256_S32x256_S32x1024_d1) (broadcastTo S32x1024 pb broadcasts_S1x1024_S32x1024))
    (broadcastTo S32x1024 ps broadcasts_S1x1024_S32x1024))

theorem join_at (x pb ps) (h : Fin 1024 → EReal) (st : Fin 15 → Fin 1024 → EReal) (pw : Fin 4 → Fin 256 → Fin 256 → EReal)
    (r : Fin 32) (a b c d : FVec Ideal S32x256 .f32) (ha : ∀ l, (a (ix2 r l) : EReal) = SampleRows.mixAt h st pw 0 l)
    (hb : ∀ l, (b (ix2 r l) : EReal) = SampleRows.mixAt h st pw 1 l) (hc : ∀ l, (c (ix2 r l) : EReal) = SampleRows.mixAt h st pw 2 l)
    (hd : ∀ l, (d (ix2 r l) : EReal) = SampleRows.mixAt h st pw 3 l) (l : Fin 1024) :
    (join x a b c d pb ps (ix2 r l) : EReal) = x (ix2 r l) + (SampleRows.mix h st pw l + pb (ix2 0 l)) * ps (ix2 0 l) := by
  pointwise [join]
  congr 3
  split
  · rw [ha]
    exact (SampleRows.mix_eq h st pw l 0 _ (by simp)).symm
  · split
    · rw [hb]
      exact (SampleRows.mix_eq h st pw l 1 _ (by simp; omega)).symm
    · split
      · rw [hc]
        exact (SampleRows.mix_eq h st pw l 2 _ (by simp; omega)).symm
      · rw [hd]
        exact (SampleRows.mix_eq h st pw l 3 _ (by simp; omega)).symm

variable (n : FVec Ideal S32x1024 .f32) (S : FVec Ideal S15x32x1024 .f32) (P : FVec Ideal S4x256x256 .bf16)

/-- The normed rows' lanes of a group as the kernel slices them. -/
def part0 : FVec Ideal S32x256 .f32 := extractStridedSlice S32x256 ![0, 0] n slices_S32x1024_o0_0_S32x256
def part1 : FVec Ideal S32x256 .f32 := extractStridedSlice S32x256 ![0, 256] n slices_S32x1024_o0_256_S32x256
def part2 : FVec Ideal S32x256 .f32 := extractStridedSlice S32x256 ![0, 512] n slices_S32x1024_o0_512_S32x256
def part3 : FVec Ideal S32x256 .f32 := extractStridedSlice S32x256 ![0, 768] n slices_S32x1024_o0_768_S32x256

/-- The window sums as the kernel adds them up. -/
def sum0 : FVec Ideal S32x256 .f32 := addf (part0 n) (flat (past S 14 0))
def sum1 : FVec Ideal S32x256 .f32 := addf (addf (addf (part1 n) (flat (past S 14 1))) (flat (past S 13 1))) (flat (past S 12 1))
def sum2 : FVec Ideal S32x256 .f32 :=
  addf (addf (addf (addf (addf (addf (addf (part2 n) (flat (past S 14 2))) (flat (past S 13 2))) (flat (past S 12 2))) (flat (past S 11 2)))
    (flat (past S 10 2))) (flat (past S 9 2))) (flat (past S 8 2))
def sum3 : FVec Ideal S32x256 .f32 :=
  addf (addf (addf (addf (addf (addf (addf (addf (addf (addf (addf (addf (addf (addf (addf (part3 n) (flat (past S 14 3))) (flat (past S 13 3)))
    (flat (past S 12 3))) (flat (past S 11 3))) (flat (past S 10 3))) (flat (past S 9 3))) (flat (past S 8 3))) (flat (past S 7 3)))
    (flat (past S 6 3))) (flat (past S 5 3))) (flat (past S 4 3))) (flat (past S 3 3))) (flat (past S 2 3))) (flat (past S 1 3))) (flat (past S 0 3))

section
variable (r : Fin 32) (k : Fin 256)

theorem part0_at : (part0 n (ix2 r k) : EReal) = n (ix2 r (SampleRows.lane 0 k)) := by pointwise [part0, SampleRows.lane]
theorem part1_at : (part1 n (ix2 r k) : EReal) = n (ix2 r (SampleRows.lane 1 k)) := by pointwise [part1, SampleRows.lane]
theorem part2_at : (part2 n (ix2 r k) : EReal) = n (ix2 r (SampleRows.lane 2 k)) := by pointwise [part2, SampleRows.lane]
theorem part3_at : (part3 n (ix2 r k) : EReal) = n (ix2 r (SampleRows.lane 3 k)) := by pointwise [part3, SampleRows.lane]

theorem sum0_at : (sum0 n S (ix2 r k) : EReal) = n (ix2 r (SampleRows.lane 0 k))
    + SampleRows.hist (Rows.wide 0 - 1) (fun q => S (ix3 q r (SampleRows.lane 0 k))) := by
  show (part0 n (ix2 r k) : EReal) + flat (past S 14 0) (ix2 r k) = _
  simp only [part0_at, flat_at]
  unfold SampleRows.hist
  rw [show Rows.wide 0 - 1 = 1 from rfl]
  simp only [Finset.sum_range_succ, Finset.sum_range_zero, zero_add]
  rfl

theorem sum1_at : (sum1 n S (ix2 r k) : EReal) = n (ix2 r (SampleRows.lane 1 k))
    + SampleRows.hist (Rows.wide 1 - 1) (fun q => S (ix3 q r (SampleRows.lane 1 k))) := by
  show (part1 n (ix2 r k) : EReal) + flat (past S 14 1) (ix2 r k) + flat (past S 13 1) (ix2 r k) + flat (past S 12 1) (ix2 r k) = _
  simp only [part1_at, flat_at]
  unfold SampleRows.hist
  rw [show Rows.wide 1 - 1 = 3 from rfl]
  simp only [Finset.sum_range_succ, Finset.sum_range_zero, zero_add, ← add_assoc]
  rfl

theorem sum2_at : (sum2 n S (ix2 r k) : EReal) = n (ix2 r (SampleRows.lane 2 k))
    + SampleRows.hist (Rows.wide 2 - 1) (fun q => S (ix3 q r (SampleRows.lane 2 k))) := by
  show (part2 n (ix2 r k) : EReal) + flat (past S 14 2) (ix2 r k) + flat (past S 13 2) (ix2 r k) + flat (past S 12 2) (ix2 r k)
    + flat (past S 11 2) (ix2 r k) + flat (past S 10 2) (ix2 r k) + flat (past S 9 2) (ix2 r k) + flat (past S 8 2) (ix2 r k) = _
  simp only [part2_at, flat_at]
  unfold SampleRows.hist
  rw [show Rows.wide 2 - 1 = 7 from rfl]
  simp only [Finset.sum_range_succ, Finset.sum_range_zero, zero_add, ← add_assoc]
  rfl

theorem sum3_at : (sum3 n S (ix2 r k) : EReal) = n (ix2 r (SampleRows.lane 3 k))
    + SampleRows.hist (Rows.wide 3 - 1) (fun q => S (ix3 q r (SampleRows.lane 3 k))) := by
  show (part3 n (ix2 r k) : EReal) + flat (past S 14 3) (ix2 r k) + flat (past S 13 3) (ix2 r k) + flat (past S 12 3) (ix2 r k)
    + flat (past S 11 3) (ix2 r k) + flat (past S 10 3) (ix2 r k) + flat (past S 9 3) (ix2 r k) + flat (past S 8 3) (ix2 r k)
    + flat (past S 7 3) (ix2 r k) + flat (past S 6 3) (ix2 r k) + flat (past S 5 3) (ix2 r k) + flat (past S 4 3) (ix2 r k)
    + flat (past S 3 3) (ix2 r k) + flat (past S 2 3) (ix2 r k) + flat (past S 1 3) (ix2 r k) + flat (past S 0 3) (ix2 r k) = _
  simp only [part3_at, flat_at]
  unfold SampleRows.hist
  rw [show Rows.wide 3 - 1 = 15 from rfl]
  simp only [Finset.sum_range_succ, Finset.sum_range_zero, zero_add, ← add_assoc]
  rfl
end

/-- The rows after the mixer, as the kernel composes them. -/
def mixed (x : FVec Ideal S32x1024 .f32) (pb ps : FVec Ideal S1x1024 .f32) : FVec Ideal S32x1024 .f32 :=
  k0_pay26 x (k0_pay18 n (past S 14 0) (matrix P 0))
    (k0_pay20 (k0_pay19 n (past S 14 1) (past S 13 1) (past S 12 1)) (matrix P 1))
    (k0_pay23 (k0_pay21 n (past S 14 2) (past S 13 2) (past S 12 2) (past S 11 2) (past S 10 2) (past S 9 2) (past S 8 2))
      (k0_pay22 (matrix P 2))) (k0_pay24 n)
    (k0_pay25 n (past S 14 3) (past S 13 3) (past S 12 3) (past S 11 3) (past S 10 3) (past S 9 3) (past S 8 3) (past S 7 3) (past S 6 3))
    (past S 5 3) (past S 4 3) (past S 3 3) (past S 2 3) (past S 1 3) (past S 0 3) (matrix P 3) pb ps

theorem mixed_eq (x pb ps) : mixed n S P x pb ps
    = join x (group (sum0 n S) (part0 n) 0x3F000000#32 (matrix P 0)) (group (sum1 n S) (part1 n) 0x3E800000#32 (matrix P 1))
        (group (sum2 n S) (part2 n) 0x3E000000#32 (matrix P 2)) (group (sum3 n S) (part3 n) 0x3D800000#32 (matrix P 3)) pb ps := rfl

/-- The rows after the mixer, at an index: the row arithmetic. -/
theorem mixed_at (x nm pb ps) (r : Fin 32) (l : Fin 1024) : (mixed (norm x nm) S P x pb ps (ix2 r l) : EReal)
    = SampleRows.mixed (fun k => x (ix2 r k)) (fun q k => S (ix3 q r k)) (fun k => nm (ix2 0 k)) (fun k => pb (ix2 0 k))
        (fun k => ps (ix2 0 k)) (fun g k l => P (ix3 g k l)) l := by
  rw [mixed_eq]
  refine (join_at x pb ps (fun k => norm x nm (ix2 r k)) (fun q k => S (ix3 q r k)) (fun g k l => P (ix3 g k l)) r _ _ _ _
    (fun l => ?_) (fun l => ?_) (fun l => ?_) (fun l => ?_) l).trans ?_
  · exact group_at 0 _ _ P _ _ _ r l SampleRows.mean0 (fun k => sum0_at _ S r k) (fun k => part0_at _ r k)
  · exact group_at 1 _ _ P _ _ _ r l SampleRows.mean1 (fun k => sum1_at _ S r k) (fun k => part1_at _ r k)
  · exact group_at 2 _ _ P _ _ _ r l SampleRows.mean2 (fun k => sum2_at _ S r k) (fun k => part2_at _ r k)
  · exact group_at 3 _ _ P _ _ _ r l SampleRows.mean3 (fun k => sum3_at _ S r k) (fun k => part3_at _ r k)
  · unfold SampleRows.mixed
    simp only [norm_at]

/-- The stored rows of the stream. -/
theorem stream_at (x nm nf pb ps) (r : Fin 32) (l : Fin 1024) :
    (k0_pay27 (F := Ideal) (mixed (norm x nm) S P x pb ps) nf wgu wd (ix2 r l) : EReal)
    = SampleRows.layer (fun k => x (ix2 r k)) (fun q k => S (ix3 q r k)) (fun k => nm (ix2 0 k)) (fun k => nf (ix2 0 k))
        (fun k => pb (ix2 0 k)) (fun k => ps (ix2 0 k)) (fun g k l => P (ix3 g k l)) (fun k l => wgu (ix2 k l))
        (fun k l => wd (ix2 k l)) l := by
  rw [pay27_eq]
  show (mixed (norm x nm) S P x pb ps (ix2 r l) : EReal) + ffn wgu wd (norm (mixed (norm x nm) S P x pb ps) nf) (ix2 r l) = _
  rw [ffn_at, mixed_at]
  simp only [norm_at _ nf, mixed_at]
  rfl

/-- Rows normed, rounded and projected. -/
theorem key_at (y g) (w : FVec Ideal S1024x1024 .bf16) (r : Fin 32) (l : Fin 1024) :
    (k0_pay29 (F := Ideal) (truncf .bf16 (norm y g) bitsLt_bf16_f32) w (constant S32x1024 .f32 0x00000000#32) (ix2 r l) : EReal)
    = Rows.dot (Rows.rms (fun k => y (ix2 r k)) (fun k => g (ix2 0 k))) (fun k l => w (ix2 k l)) l := by
  pointwise [k0_pay29, Rows.dot, norm_at]

theorem val_at (y g) (w : FVec Ideal S1024x1024 .bf16) (r : Fin 32) (l : Fin 1024) :
    (k0_pay30 (F := Ideal) (truncf .bf16 (norm y g) bitsLt_bf16_f32) w (ix2 r l) : EReal)
    = Rows.dot (Rows.rms (fun k => y (ix2 r k)) (fun k => g (ix2 0 k))) (fun k l => w (ix2 k l)) l := by
  pointwise [k0_pay30, Rows.dot, norm_at]

theorem query_at (y g) (w : FVec Ideal S1024x1024 .bf16) (r : Fin 32) (l : Fin 1024) :
    (k0_pay1 (F := Ideal) (truncf .bf16 (norm y g) bitsLt_bf16_f32) w (ix2 r l) : EReal)
    = Rows.dot (Rows.rms (fun k => y (ix2 r k)) (fun k => g (ix2 0 k))) (fun k l => w (ix2 k l)) l := by
  pointwise [k0_pay1, Rows.dot, norm_at]

theorem gate_at (y g) (w : FVec Ideal S1024x128 .bf16) (d : FVec Ideal S1x128 .f32) (r : Fin 32) (l : Fin 128) :
    (k0_pay31 (F := Ideal) (truncf .bf16 (norm y g) bitsLt_bf16_f32) w d (ix2 r l) : EReal)
    = Rows.logsig (Rows.dot (Rows.rms (fun k => y (ix2 r k)) (fun k => g (ix2 0 k))) (fun k l => w (ix2 k l)) l + d (ix2 0 l)) := by
  pointwise [k0_pay31, Rows.dot, norm_at, Rows.logsig]
  rw [zero_sub]
  rfl

end Cert.Proof.SamplePay

end
-- ==== Proof.SampleRef.lean ====
/-
  What the reference of the decoding step computes: its composed term split into the norm, the pooling mixer by group of
  lanes, the feed-forward, the projections and the shifted state, each read at an index as the row arithmetic of
  SampleRows.lean.
-/
module

public import proofs.«01_k».proof.Proof.SampleRows
public import proofs.«01_k».proof.Proof.Gen.SampleRefIdeal.Run

@[expose] public section

set_option maxRecDepth 16384

noncomputable section

open Idealize.ShloMosaic Idealize.ShloMosaic.TcCoe Idealize.SL.Sem Idealize.ShloMosaic.StableHlo

namespace Cert.Proof.SampleRef

open Cert.SampleRefIdeal Cert.SampleRefIdeal.Gen

/-- A vector of one row laid along every row. -/
def rows (g : FVec Ideal S1x1024 .f32) : FVec Ideal S32x1024 .f32 :=
  broadcastInDim S32x1024 ![0, 1] bcast_S1x1024_S32x1024_0_1
    (broadcastInDim S1x1024 ![1] bcast_S1024_S1x1024_1 (shapeCast S1024 g shapeCasts_S1x1024_S1024))

/-- The RMS norm of every row. -/
def norm (x : FVec Ideal S32x1024 .f32) (g : FVec Ideal S1x1024 .f32) : FVec Ideal S32x1024 .f32 :=
  mulf (mulf x (broadcastInDim S32x1024 ![0, 1] bcast_S32x1_S32x1024_0_1
      (Host.rsqrt (addf (Host.divf (broadcastInDim S32x1 ![0] bcast_S32_S32x1_0
          (Host.reduceAdd (mulf x x) (constant S_ .f32 0x00000000#32) reducesTo_S32x1024_S32_d1 h_S_))
        (broadcastInDim S32x1 ![] bcast_S_S32x1 (constant S_ .f32 0x44800000#32)))
        (broadcastInDim S32x1 ![] bcast_S_S32x1 (constant S_ .f32 0x358637BD#32))))))
    (rows g)

/-- One group: the window's sum over its size, less the rows, projected. -/
def group (u s : FVec Ideal S32x256 .f32) (w : BitVec 32) (p : FVec Ideal S256x256 .f32) : FVec Ideal S32x256 .f32 :=
  Host.dotGeneral dot_S32x256_S256x256_S32x256_1_0_0_1_n_n none
    (subf (Host.divf (addf u s) (broadcastInDim S32x256 ![] bcast_S_S32x256 (constant S_ .f32 w))) u) p

/-- The projection matrices of the mixer. -/
def pool (pw : FVec Ideal S4x256x256 .bf16) : FVec Ideal S4x256x256 .f32 := extf .f32 pw bitsLt_bf16_f32

section
variable (S : FVec Ideal S15x32x1024 .f32)

/-- The sum over the window of the rows before the new one, by group. -/
def past0 : FVec Ideal S32x256 .f32 := Host.reduceAdd (extractStridedSlice S1x32x256 ![14, 0, 0] S slices_S15x32x1024_S1x32x256_14_0_0)
  (constant S_ .f32 0x00000000#32) reducesTo_S1x32x256_S32x256_d0 h_S_
def past1 : FVec Ideal S32x256 .f32 := Host.reduceAdd (extractStridedSlice S3x32x256 ![12, 0, 256] S slices_S15x32x1024_S3x32x256_12_0_256)
  (constant S_ .f32 0x00000000#32) reducesTo_S3x32x256_S32x256_d0 h_S_
def past2 : FVec Ideal S32x256 .f32 := Host.reduceAdd (extractStridedSlice S7x32x256 ![8, 0, 512] S slices_S15x32x1024_S7x32x256_8_0_512)
  (constant S_ .f32 0x00000000#32) reducesTo_S7x32x256_S32x256_d0 h_S_
def past3 : FVec Ideal S32x256 .f32 := Host.reduceAdd (extractStridedSlice S15x32x256 ![0, 0, 768] S slices_S15x32x1024_S15x32x256_0_0_768)
  (constant S_ .f32 0x00000000#32) reducesTo_S15x32x256_S32x256_d0 h_S_

theorem past0_at (r : Fin 32) (k : Fin 256) : (past0 S (ix2 r k) : EReal)
    = SampleRows.hist (Rows.wide 0 - 1) (fun q => S (ix3 q r (SampleRows.lane 0 k))) := by
  rw [show Rows.wide 0 - 1 = 1 from rfl, ← SampleRows.hist_eq 1 (by omega)]
  pointwise [past0, SampleRows.lane]

theorem past1_at (r : Fin 32) (k : Fin 256) : (past1 S (ix2 r k) : EReal)
    = SampleRows.hist (Rows.wide 1 - 1) (fun q => S (ix3 q r (SampleRows.lane 1 k))) := by
  rw [show Rows.wide 1 - 1 = 3 from rfl, ← SampleRows.hist_eq 3 (by omega)]
  pointwise [past1, SampleRows.lane]

theorem past2_at (r : Fin 32) (k : Fin 256) : (past2 S (ix2 r k) : EReal)
    = SampleRows.hist (Rows.wide 2 - 1) (fun q => S (ix3 q r (SampleRows.lane 2 k))) := by
  rw [show Rows.wide 2 - 1 = 7 from rfl, ← SampleRows.hist_eq 7 (by omega)]
  pointwise [past2, SampleRows.lane]

theorem past3_at (r : Fin 32) (k : Fin 256) : (past3 S (ix2 r k) : EReal)
    = SampleRows.hist (Rows.wide 3 - 1) (fun q => S (ix3 q r (SampleRows.lane 3 k))) := by
  rw [show Rows.wide 3 - 1 = 15 from rfl, ← SampleRows.hist_eq 15 (by omega)]
  pointwise [past3, SampleRows.lane]
end

/-- The mixer's output, its four groups side by side. -/
def mix (h : FVec Ideal S32x1024 .f32) (S : FVec Ideal S15x32x1024 .f32) (pw : FVec Ideal S4x256x256 .bf16) : FVec Ideal S32x1024 .f32 :=
  concatenate S32x1024 1
    [⟨S32x256, group (extractStridedSlice S32x256 ![0, 0] h slices_S32x1024_S32x256_0_0) (past0 S) 0x40000000#32
        (shapeCast S256x256 (extractStridedSlice S1x256x256 ![0, 0, 0] (pool pw) slices_S4x256x256_S1x256x256_0_0_0) shapeCasts_S1x256x256_S256x256)⟩,
      ⟨S32x256, group (extractStridedSlice S32x256 ![0, 256] h slices_S32x1024_S32x256_0_256) (past1 S) 0x40800000#32
        (shapeCast S256x256 (extractStridedSlice S1x256x256 ![1, 0, 0] (pool pw) slices_S4x256x256_S1x256x256_1_0_0) shapeCasts_S1x256x256_S256x256)⟩,
      ⟨S32x256, group (extractStridedSlice S32x256 ![0, 512] h slices_S32x1024_S32x256_0_512) (past2 S) 0x41000000#32
        (shapeCast S256x256 (extractStridedSlice S1x256x256 ![2, 0, 0] (pool pw) slices_S4x256x256_S1x256x256_2_0_0) shapeCasts_S1x256x256_S256x256)⟩,
      ⟨S32x256, group (extractStridedSlice S32x256 ![0, 768] h slices_S32x1024_S32x256_0_768) (past3 S) 0x41800000#32
        (shapeCast S256x256 (extractStridedSlice S1x256x256 ![3, 0, 0] (pool pw) slices_S4x256x256_S1x256x256_3_0_0) shapeCasts_S1x256x256_S256x256)⟩]
    concatenates_S32x256_S32x256_S32x256_S32x256_S32x1024_d1

/-- The rows after the mixer. -/
def mixed (x : FVec Ideal S32x1024 .f32) (S : FVec Ideal S15x32x1024 .f32) (nm pb ps : FVec Ideal S1x1024 .f32)
    (pw : FVec Ideal S4x256x256 .bf16) : FVec Ideal S32x1024 .f32 := addf x (mulf (addf (mix (norm x nm) S pw) (rows pb)) (rows ps))

/-- A normed row times the gate and value weights. -/
def gu (h : FVec Ideal S32x1024 .f32) (w : FVec Ideal S1024x5632 .bf16) : FVec Ideal S32x5632 .f32 :=
  Host.dotGeneral dot_S32x1024_S1024x5632_S32x5632_1_0_0_1_n_n none h (extf .f32 w bitsLt_bf16_f32)

/-- The gate columns of `gu`. -/
def gate (h : FVec Ideal S32x1024 .f32) (w : FVec Ideal S1024x5632 .bf16) : FVec Ideal S32x2816 .f32 :=
  extractStridedSlice S32x2816 ![0, 0] (gu h w) slices_S32x5632_S32x2816_0_0

/-- The feed-forward of every row. -/
def ffn (h : FVec Ideal S32x1024 .f32) (w : FVec Ideal S1024x5632 .bf16) (wd : FVec Ideal S2816x1024 .bf16) : FVec Ideal S32x1024 .f32 :=
  Host.dotGeneral dot_S32x2816_S2816x1024_S32x1024_1_0_0_1_n_n none
    (mulf (mulf (gate h w) (Host.divf (broadcastInDim S32x2816 ![] bcast_S_S32x2816 (constant S_ .f32 0x3F800000#32))
        (addf (broadcastInDim S32x2816 ![] bcast_S_S32x2816 (constant S_ .f32 0x3F800000#32)) (Host.exp (Host.negf (gate h w))))))
      (extractStridedSlice S32x2816 ![0, 2816] (gu h w) slices_S32x5632_S32x2816_0_2816))
    (extf .f32 wd bitsLt_bf16_f32)

/-- The stream's reference over its arguments. -/
def term (x : FVec Ideal S32x1024 .f32) (S : FVec Ideal S15x32x1024 .f32) (nm nf pb ps : FVec Ideal S1x1024 .f32)
    (pw : FVec Ideal S4x256x256 .bf16) (w : FVec Ideal S1024x5632 .bf16) (wd : FVec Ideal S2816x1024 .bf16) : FVec Ideal S32x1024 .f32 :=
  addf (mixed x S nm pb ps pw) (ffn (norm (mixed x S nm pb ps pw) nf) w wd)

/-- The pool state's reference: the last fourteen of the old rows and the new one. -/
def state (x : FVec Ideal S32x1024 .f32) (S : FVec Ideal S15x32x1024 .f32) (nm : FVec Ideal S1x1024 .f32) : FVec Ideal S15x32x1024 .f32 :=
  concatenate S15x32x1024 0 [⟨S14x32x1024, extractStridedSlice S14x32x1024 ![1, 0, 0] S slices_S15x32x1024_S14x32x1024_1_0_0⟩,
    ⟨S1x32x1024, broadcastInDim S1x32x1024 ![1, 2] bcast_S32x1024_S1x32x1024_1_2 (norm x nm)⟩] concatenates_S14x32x1024_S1x32x1024_S15x32x1024_d0

/-- The normed rows times a projection: the keys, the values and the queries. -/
def proj (y : FVec Ideal S32x1024 .f32) (g : FVec Ideal S1x1024 .f32) (w : FVec Ideal S1024x1024 .bf16) : FVec Ideal S32x1024 .f32 :=
  Host.dotGeneral dot_S32x1024_S1024x1024_S32x1024_1_0_0_1_n_n none (norm y g) (extf .f32 w bitsLt_bf16_f32)

/-- The gates before the log-sigmoid. -/
def pre (y : FVec Ideal S32x1024 .f32) (g : FVec Ideal S1x1024 .f32) (d : FVec Ideal S1x128 .f32) (w : FVec Ideal S1024x128 .bf16) :
    FVec Ideal S32x128 .f32 :=
  addf (Host.dotGeneral dot_S32x1024_S1024x128_S32x128_1_0_0_1_n_n none (norm y g) (extf .f32 w bitsLt_bf16_f32))
    (broadcastInDim S32x128 ![0, 1] bcast_S1x128_S32x128_0_1
      (broadcastInDim S1x128 ![1] bcast_S128_S1x128_1 (shapeCast S128 d shapeCasts_S1x128_S128)))

/-- Zero at every gate. -/
def zero : FVec Ideal S32x128 .f32 := broadcastInDim S32x128 ![] bcast_S_S32x128 (constant S_ .f32 0x00000000#32)

/-- The log-sigmoid, as minus the soft maximum of minus the argument and zero. -/
def logsig (z : FVec Ideal S32x128 .f32) : FVec Ideal S32x128 .f32 :=
  Host.negf (select (cmpf .une (subf (Host.negf z) zero) (subf (Host.negf z) zero)) (addf (Host.negf z) zero)
    (addf (maximumf (Host.negf z) zero) (Host.log1p (Host.exp (Host.negf (Host.absf (subf (Host.negf z) zero)))))))

section
variable (V : Valuation τ sig (Elt Ideal))

theorem norm_eq : Value.res_main_v20 V = norm (V (Proc.devRef .tc main_arg0)) (V (Proc.devRef .tc main_arg2)) := rfl

theorem mixed_eq : Value.res_main_v74 V = mixed (V (Proc.devRef .tc main_arg0)) (V (Proc.devRef .tc main_arg1))
    (V (Proc.devRef .tc main_arg2)) (V (Proc.devRef .tc main_arg4)) (V (Proc.devRef .tc main_arg5)) (V (Proc.devRef .tc main_arg6)) := by
  unfold Value.res_main_v74
  rw [norm_eq]
  rfl

theorem gu_eq : Value.res_main_v89 V = gu (norm (Value.res_main_v74 V) (V (Proc.devRef .tc main_arg3))) (V (Proc.devRef .tc main_arg7)) := rfl

theorem gate_eq : Value.res_main_v90 V
    = gate (norm (Value.res_main_v74 V) (V (Proc.devRef .tc main_arg3))) (V (Proc.devRef .tc main_arg7)) := by
  unfold Value.res_main_v90
  rw [gu_eq]
  rfl

theorem term_eq : Value.res_main_v95 V = term (V (Proc.devRef .tc main_arg0)) (V (Proc.devRef .tc main_arg1))
    (V (Proc.devRef .tc main_arg2)) (V (Proc.devRef .tc main_arg3)) (V (Proc.devRef .tc main_arg4)) (V (Proc.devRef .tc main_arg5))
    (V (Proc.devRef .tc main_arg6)) (V (Proc.devRef .tc main_arg7)) (V (Proc.devRef .tc main_arg8)) := by
  unfold Value.res_main_v95
  rw [gate_eq, gu_eq, mixed_eq]
  rfl

theorem kept_eq : Value.res_main_v109 V = norm (Value.res_main_v95 V) (V (Proc.devRef .tc main_arg9)) := rfl

theorem pre_eq : Value.res_main_call1_v0 V
    = Host.negf (pre (Value.res_main_v95 V) (V (Proc.devRef .tc main_arg9)) (V (Proc.devRef .tc main_arg11)) (V (Proc.devRef .tc main_arg14))) := by
  unfold Value.res_main_call1_v0
  rw [kept_eq]
  rfl
end

theorem norm_at (x g) (r : Fin 32) (l : Fin 1024) : norm x g (ix2 r l)
    = Rows.rms (fun k => x (ix2 r k)) (fun k => g (ix2 0 k)) l := by
  pointwise [norm, rows, Rows.rms]

theorem gu_at (h w) (r : Fin 32) (l : Fin 5632) : gu h w (ix2 r l) = Rows.dot (fun k => h (ix2 r k)) (fun k l => w (ix2 k l)) l := by
  pointwise [gu, Rows.dot]

theorem ffn_at (h w wd) (r : Fin 32) (l : Fin 1024) : ffn h w wd (ix2 r l)
    = Rows.ffn (fun k => h (ix2 r k)) (fun k l => w (ix2 k l)) (fun k l => wd (ix2 k l)) l := by
  pointwise [ffn, gate, Rows.ffn, gu_at]
  rfl

/-- A group of the mixer: lanes `256 g ..` of the normed rows and the rows before them, projected by matrix `g`. -/
theorem group_mix (h : FVec Ideal S32x1024 .f32) (S : FVec Ideal S15x32x1024 .f32) (pw : FVec Ideal S4x256x256 .bf16)
    (u s : FVec Ideal S32x256 .f32) (p : FVec Ideal S256x256 .f32) (g : Fin 4) (w : BitVec 32)
    (hw : (Ideal.ofBits .f32 w : EReal) = SampleRows.size g) (r : Fin 32)
    (hu : ∀ k : Fin 256, (u (ix2 r k) : EReal) = h (ix2 r (SampleRows.lane g k)))
    (hs : ∀ k : Fin 256, (s (ix2 r k) : EReal) = SampleRows.hist (Rows.wide g - 1) (fun q => S (ix3 q r (SampleRows.lane g k))))
    (hp : ∀ k l, (p (ix2 k l) : EReal) = pw (ix3 g k l)) (l : Fin 256) : (group u s w p (ix2 r l) : EReal)
    = SampleRows.mixAt (fun k => h (ix2 r k)) (fun q k => S (ix3 q r k)) (fun g k l => pw (ix3 g k l)) g l := by
  have e : (group u s w p (ix2 r l) : EReal)
      = ∑ k : Fin 256, (Ideal.div (u (ix2 r k) + s (ix2 r k)) (Ideal.ofBits .f32 w) - u (ix2 r k)) * p (ix2 k l) := by
    pointwise [group]
  rw [e]
  unfold SampleRows.mixAt SampleRows.excess
  refine Finset.sum_congr rfl fun k _ => ?_
  rw [hp, hu, hs, hw]

theorem mix_at (h S pw) (r : Fin 32) (l : Fin 1024) : (mix h S pw (ix2 r l) : EReal)
    = SampleRows.mix (fun k => h (ix2 r k)) (fun q k => S (ix3 q r k)) (fun g k l => pw (ix3 g k l)) l := by
  have hg : ∀ (g : Fin 4) (j : Fin 256), l.val = 256 * g.val + j.val →
      SampleRows.mixAt (fun k => h (ix2 r k)) (fun q k => S (ix3 q r k)) (fun g k l => (pw (ix3 g k l) : EReal)) g j
        = SampleRows.mix (fun k => h (ix2 r k)) (fun q k => S (ix3 q r k)) (fun g k l => (pw (ix3 g k l) : EReal)) l :=
    fun g j e => (SampleRows.mix_eq _ _ _ l g j e).symm
  pointwise [mix]
  split
  · exact (group_mix h S pw _ _ _ 0 _ SampleRows.size0 r (by intros; pointwise [SampleRows.lane]) (past0_at S r)
      (by intros; pointwise [pool]) _).trans (hg 0 _ (by simp))
  · split
    · exact (group_mix h S pw _ _ _ 1 _ SampleRows.size1 r (by intros; pointwise [SampleRows.lane]) (past1_at S r)
        (by intros; pointwise [pool]) _).trans (hg 1 _ (by simp; omega))
    · split
      · exact (group_mix h S pw _ _ _ 2 _ SampleRows.size2 r (by intros; pointwise [SampleRows.lane]) (past2_at S r)
          (by intros; pointwise [pool]) _).trans (hg 2 _ (by simp; omega))
      · exact (group_mix h S pw _ _ _ 3 _ SampleRows.size3 r (by intros; pointwise [SampleRows.lane]) (past3_at S r)
          (by intros; pointwise [pool]) _).trans (hg 3 _ (by simp; omega))

theorem mixed_at (x S nm pb ps pw) (r : Fin 32) (l : Fin 1024) : (mixed x S nm pb ps pw (ix2 r l) : EReal)
    = SampleRows.mixed (fun k => x (ix2 r k)) (fun q k => S (ix3 q r k)) (fun k => nm (ix2 0 k)) (fun k => pb (ix2 0 k))
        (fun k => ps (ix2 0 k)) (fun g k l => pw (ix3 g k l)) l := by
  have e : ∀ g, rows g (ix2 r l) = g (ix2 0 l) := by
    intro g
    pointwise [rows]
  show x (ix2 r l) + (mix (norm x nm) S pw (ix2 r l) + rows pb (ix2 r l)) * rows ps (ix2 r l) = _
  rw [mix_at, e, e]
  unfold SampleRows.mixed
  simp only [norm_at]

/-- The stream's reference at an index: the row arithmetic of the rows of its arguments. -/
theorem term_at (x S nm nf pb ps pw w wd) (r : Fin 32) (l : Fin 1024) : (term x S nm nf pb ps pw w wd (ix2 r l) : EReal)
    = SampleRows.layer (fun k => x (ix2 r k)) (fun q k => S (ix3 q r k)) (fun k => nm (ix2 0 k)) (fun k => nf (ix2 0 k))
        (fun k => pb (ix2 0 k)) (fun k => ps (ix2 0 k)) (fun g k l => pw (ix3 g k l)) (fun k l => w (ix2 k l))
        (fun k l => wd (ix2 k l)) l := by
  show mixed x S nm pb ps pw (ix2 r l) + ffn (norm (mixed x S nm pb ps pw) nf) w wd (ix2 r l) = _
  rw [ffn_at, mixed_at]
  simp only [norm_at, mixed_at]
  rfl

/-- The pool state at an index: an old row, one place later, or the new normed row. -/
theorem state_at (x S nm) (q : Fin 15) (r : Fin 32) (l : Fin 1024) : (state x S nm (ix3 q r l) : EReal)
    = if h : q.val < 14 then S (ix3 ⟨1 + q.val, by omega⟩ r l) else norm x nm (ix2 r l) := by
  pointwise [state]

theorem proj_at (y g w) (r : Fin 32) (l : Fin 1024) : proj y g w (ix2 r l)
    = Rows.dot (Rows.rms (fun k => y (ix2 r k)) (fun k => g (ix2 0 k))) (fun k l => w (ix2 k l)) l := by
  pointwise [proj, Rows.dot, norm_at]

theorem pre_at (y g d w) (r : Fin 32) (l : Fin 128) : pre y g d w (ix2 r l)
    = Rows.dot (Rows.rms (fun k => y (ix2 r k)) (fun k => g (ix2 0 k))) (fun k l => w (ix2 k l)) l + d (ix2 0 l) := by
  pointwise [pre, Rows.dot, norm_at]

theorem logsig_at (z) (r : Fin 32) (l : Fin 128) : logsig z (ix2 r l) = Rows.logsig (z (ix2 r l)) := by
  pointwise [logsig, zero]
  rw [if_neg (fun h => h rfl)]
  exact Rows.logsig_neg _

end Cert.Proof.SampleRef

end
-- ==== Proof.SampleValue.lean ====
/-
  The decoding step's six results, each the reference's term of the same arguments: the loads, the stored state row by row,
  and the projections.
-/
module

public import proofs.«01_k».proof.Proof.SamplePay
public import proofs.«01_k».proof.Proof.SampleRef
public import proofs.«01_k».proof.Proof.Gen.SampleIdeal.Value

@[expose] public section

set_option maxRecDepth 16384

noncomputable section

open Idealize.ShloMosaic Idealize.ShloMosaic.TcCoe Idealize.SL.Sem

namespace Cert.Proof.SampleValue

open Cert.SampleIdeal Cert.SampleIdeal.Gen Cert.SampleIdeal.Value SamplePay

/-- The load of a state row's group of lanes. -/
theorem past_ld (S : FVec Ideal S15x32x1024 .f32) (q : Fin 15) (g : Fin 4) (inb) :
    View.ld (Val := Elt Ideal) (e' := .f32) S (Rect.unit (s := S15x32x1024) ![q.val, 0, 256 * g.val] S1x32x256.size inb) = past S q g := by
  funext y
  show S ((Rect.unit (s := S15x32x1024) ![q.val, 0, 256 * g.val] S1x32x256.size inb).emb y) = S (ix3 q (y 1) ⟨256 * g.val + (y 2).val, _⟩)
  congr 1
  have h0 : (y 0).val < 1 := (y 0).isLt
  funext a
  apply Fin.ext
  fin_cases a
  · show q.val + 1 * (y 0).val = q.val
    omega
  · show 0 + 1 * (y 1).val = (y 1).val
    omega
  · show 256 * g.val + 1 * (y 2).val = 256 * g.val + (y 2).val
    omega

/-- The load of a mixer's matrix. -/
theorem matrix_ld (P : FVec Ideal S4x256x256 .bf16) (g : Fin 4) (inb) :
    View.ld (Val := Elt Ideal) (e' := .bf16) P (Rect.unit (s := S4x256x256) ![g.val, 0, 0] S1x256x256.size inb) = matrix P g := by
  funext y
  show P ((Rect.unit (s := S4x256x256) ![g.val, 0, 0] S1x256x256.size inb).emb y) = P (ix3 g (y 1) (y 2))
  congr 1
  have h0 : (y 0).val < 1 := (y 0).isLt
  funext a
  apply Fin.ext
  fin_cases a
  · show g.val + 1 * (y 0).val = g.val
    omega
  · show 0 + 1 * (y 1).val = (y 1).val
    omega
  · show 0 + 1 * (y 2).val = (y 2).val
    omega

theorem zero2 : (![0, 0] : Fin 2 → ℕ) = fun _ => 0 := by
  funext a
  fin_cases a <;> rfl

/-- Where a row of the state lies. -/
theorem row_emb (q : ℕ) (hq : q < 15) (inb) (x : S1x32x1024.Idx) :
    (Rect.unit (s := S15x32x1024) ![q, 0, 0] S1x32x1024.size inb).emb x = ix3 ⟨q, hq⟩ (x 1) (x 2) := by
  have h0 : (x 0).val < 1 := (x 0).isLt
  funext a
  apply Fin.ext
  fin_cases a
  · show q + 1 * (x 0).val = q
    omega
  · show 0 + 1 * (x 1).val = (x 1).val
    omega
  · show 0 + 1 * (x 2).val = (x 2).val
    omega

/-- A state index lies in its row. -/
theorem in_row (q : ℕ) (inb) (y : S15x32x1024.Idx) (hq : (y 0).val = q) :
    y ∈ (Rect.unit (s := S15x32x1024) ![q, 0, 0] S1x32x1024.size inb).set := by
  rw [Rect.mem_set_unit]
  intro a
  fin_cases a
  · show q ≤ (y 0).val ∧ (y 0).val < q + 1
    omega
  · show 0 ≤ (y 1).val ∧ (y 1).val < 0 + 32
    have : (y 1).val < 32 := (y 1).isLt
    omega
  · show 0 ≤ (y 2).val ∧ (y 2).val < 0 + 1024
    have : (y 2).val < 1024 := (y 2).isLt
    omega

/-- Every index of a row is named by its row and lane. -/
theorem eq_ix (x : S1x32x1024.Idx) : x = ix3 0 (x 1) (x 2) := by
  have h0 : (x 0).val < 1 := (x 0).isLt
  funext a
  apply Fin.ext
  fin_cases a
  · show (x 0).val = 0
    omega
  · rfl
  · rfl

theorem there_back (v : FVec Ideal S1x32x1024 .f32) (x : S1x32x1024.Idx) : (k0_pay3 (F := Ideal) v x : EReal) = v x := by
  rw [eq_ix x]
  pointwise [k0_pay3]

theorem norm_same (x g) : SamplePay.norm x g = SampleRef.norm x g := by
  funext y
  obtain ⟨r, l, rfl⟩ : ∃ r l, y = ix2 r l := ⟨y 0, y 1, by funext a; fin_cases a <;> rfl⟩
  exact (SamplePay.norm_at x g r l).trans (SampleRef.norm_at x g r l).symm

/-- An old row, stored one place earlier. -/
theorem moved_at (a0 : FVec Ideal S32x1024 .f32) (a1 : FVec Ideal S15x32x1024 .f32) (a2 : FVec Ideal S1x1024 .f32) (q : ℕ) (hq : q < 14)
    (inb inb') (x : S1x32x1024.Idx) :
    (k0_pay3 (F := Ideal) (View.ld (Val := Elt Ideal) (e' := .f32) a1 (Rect.unit (s := S15x32x1024) ![1 + q, 0, 0] S1x32x1024.size inb)) x : EReal)
      = SampleRef.state a0 a1 a2 ((Rect.unit (s := S15x32x1024) ![q, 0, 0] S1x32x1024.size inb').emb x) := by
  rw [row_emb q (by omega) inb' x]
  refine Eq.trans ?_ (SampleRef.state_at a0 a1 a2 ⟨q, by omega⟩ (x 1) (x 2)).symm
  rw [dif_pos hq, there_back]
  show a1 ((Rect.unit (s := S15x32x1024) ![1 + q, 0, 0] S1x32x1024.size inb).emb x) = _
  rw [row_emb (1 + q) (by omega) inb x]
  rfl

/-- The new normed row, stored last. -/
theorem new_at (a0 : FVec Ideal S32x1024 .f32) (a1 : FVec Ideal S15x32x1024 .f32) (a2 : FVec Ideal S1x1024 .f32) (inb) (x : S1x32x1024.Idx) :
    (k0_pay17 (F := Ideal) (SamplePay.norm a0 a2) x : EReal)
      = SampleRef.state a0 a1 a2 ((Rect.unit (s := S15x32x1024) ![14, 0, 0] S1x32x1024.size inb).emb x) := by
  rw [row_emb 14 (by omega) inb x]
  refine Eq.trans ?_ (SampleRef.state_at a0 a1 a2 ⟨14, by omega⟩ (x 1) (x 2)).symm
  rw [dif_neg (by simp), ← norm_same]
  generalize SamplePay.norm a0 a2 = v
  conv_lhs => rw [eq_ix x]
  pointwise [k0_pay17]

section
variable (a0 : FVec Ideal S32x1024 .f32) (a1 : FVec Ideal S15x32x1024 .f32) (a2 a3 a4 a5 : FVec Ideal S1x1024 .f32) (a6 : FVec Ideal S4x256x256 .bf16)
  (a7 : FVec Ideal S1024x5632 .bf16) (a8 : FVec Ideal S2816x1024 .bf16) (a9 a10 : FVec Ideal S1x1024 .f32) (a11 : FVec Ideal S1x128 .f32)
  (a12 a13 : FVec Ideal S1024x1024 .bf16) (a14 : FVec Ideal S1024x128 .bf16) (a15 : FVec Ideal S1024x1024 .bf16)

theorem normed : k0_pay33 (F := Ideal) a0 a1 a2 a3 a4 a5 a6 a7 a8 a9 a10 a11 a12 a13 a14 a15 = SamplePay.norm a0 a2 := by
  unfold k0_pay33
  rw [show View.ld (Val := Elt Ideal) (e' := .f32) a0 r0_0 = a0 from View.ld_unit_zero (Val := Elt Ideal) (e := .f32) (S := S32x1024) zero2 _ a0, show View.ld (Val := Elt Ideal) (e' := .f32) a2 r0_1 = a2 from View.ld_unit_zero (Val := Elt Ideal) (e := .f32) (S := S1x1024) zero2 _ a2]
  rfl

theorem mixed_eq : k0_pay34 (F := Ideal) a0 a1 a2 a3 a4 a5 a6 a7 a8 a9 a10 a11 a12 a13 a14 a15 = SamplePay.mixed (SamplePay.norm a0 a2) a1 a6 a0 a4 a5 := by
  unfold k0_pay34
  rw [normed, show View.ld (Val := Elt Ideal) (e' := .f32) a0 r0_0 = a0 from View.ld_unit_zero (Val := Elt Ideal) (e := .f32) (S := S32x1024) zero2 _ a0, show View.ld (Val := Elt Ideal) (e' := .f32) a4 r0_1 = a4 from View.ld_unit_zero (Val := Elt Ideal) (e := .f32) (S := S1x1024) zero2 _ a4,
    show View.ld (Val := Elt Ideal) (e' := .f32) a5 r0_1 = a5 from View.ld_unit_zero (Val := Elt Ideal) (e := .f32) (S := S1x1024) zero2 _ a5,
    show View.ld (Val := Elt Ideal) (e' := .f32) a1 r0_17 = past a1 14 0 from past_ld a1 14 0 _,
    show View.ld (Val := Elt Ideal) (e' := .f32) a1 r0_19 = past a1 14 1 from past_ld a1 14 1 _,
    show View.ld (Val := Elt Ideal) (e' := .f32) a1 r0_20 = past a1 13 1 from past_ld a1 13 1 _,
    show View.ld (Val := Elt Ideal) (e' := .f32) a1 r0_21 = past a1 12 1 from past_ld a1 12 1 _,
    show View.ld (Val := Elt Ideal) (e' := .f32) a1 r0_23 = past a1 14 2 from past_ld a1 14 2 _,
    show View.ld (Val := Elt Ideal) (e' := .f32) a1 r0_24 = past a1 13 2 from past_ld a1 13 2 _,
    show View.ld (Val := Elt Ideal) (e' := .f32) a1 r0_25 = past a1 12 2 from past_ld a1 12 2 _,
    show View.ld (Val := Elt Ideal) (e' := .f32) a1 r0_26 = past a1 11 2 from past_ld a1 11 2 _,
    show View.ld (Val := Elt Ideal) (e' := .f32) a1 r0_27 = past a1 10 2 from past_ld a1 10 2 _,
    show View.ld (Val := Elt Ideal) (e' := .f32) a1 r0_28 = past a1 9 2 from past_ld a1 9 2 _,
    show View.ld (Val := Elt Ideal) (e' := .f32) a1 r0_29 = past a1 8 2 from past_ld a1 8 2 _,
    show View.ld (Val := Elt Ideal) (e' := .f32) a1 r0_31 = past a1 14 3 from past_ld a1 14 3 _,
    show View.ld (Val := Elt Ideal) (e' := .f32) a1 r0_32 = past a1 13 3 from past_ld a1 13 3 _,
    show View.ld (Val := Elt Ideal) (e' := .f32) a1 r0_33 = past a1 12 3 from past_ld a1 12 3 _,
    show View.ld (Val := Elt Ideal) (e' := .f32) a1 r0_34 = past a1 11 3 from past_ld a1 11 3 _,
    show View.ld (Val := Elt Ideal) (e' := .f32) a1 r0_35 = past a1 10 3 from past_ld a1 10 3 _,
    show View.ld (Val := Elt Ideal) (e' := .f32) a1 r0_36 = past a1 9 3 from past_ld a1 9 3 _,
    show View.ld (Val := Elt Ideal) (e' := .f32) a1 r0_37 = past a1 8 3 from past_ld a1 8 3 _,
    show View.ld (Val := Elt Ideal) (e' := .f32) a1 r0_38 = past a1 7 3 from past_ld a1 7 3 _,
    show View.ld (Val := Elt Ideal) (e' := .f32) a1 r0_39 = past a1 6 3 from past_ld a1 6 3 _,
    show View.ld (Val := Elt Ideal) (e' := .f32) a1 r0_40 = past a1 5 3 from past_ld a1 5 3 _,
    show View.ld (Val := Elt Ideal) (e' := .f32) a1 r0_41 = past a1 4 3 from past_ld a1 4 3 _,
    show View.ld (Val := Elt Ideal) (e' := .f32) a1 r0_42 = past a1 3 3 from past_ld a1 3 3 _,
    show View.ld (Val := Elt Ideal) (e' := .f32) a1 r0_43 = past a1 2 3 from past_ld a1 2 3 _,
    show View.ld (Val := Elt Ideal) (e' := .f32) a1 r0_44 = past a1 1 3 from past_ld a1 1 3 _,
    show View.ld (Val := Elt Ideal) (e' := .f32) a1 r0_45 = past a1 0 3 from past_ld a1 0 3 _,
    show View.ld (Val := Elt Ideal) (e' := .bf16) a6 r0_18 = matrix a6 0 from matrix_ld a6 0 _,
    show View.ld (Val := Elt Ideal) (e' := .bf16) a6 r0_22 = matrix a6 1 from matrix_ld a6 1 _,
    show View.ld (Val := Elt Ideal) (e' := .bf16) a6 r0_30 = matrix a6 2 from matrix_ld a6 2 _,
    show View.ld (Val := Elt Ideal) (e' := .bf16) a6 r0_46 = matrix a6 3 from matrix_ld a6 3 _]
  rfl

/-- The stream's rows. -/
theorem stream_eq : k0_pay27 (F := Ideal) (k0_pay34 a0 a1 a2 a3 a4 a5 a6 a7 a8 a9 a10 a11 a12 a13 a14 a15) a3 a7 a8
    = SampleRef.term a0 a1 a2 a3 a4 a5 a6 a7 a8 := by
  rw [mixed_eq]
  funext y
  obtain ⟨r, l, rfl⟩ : ∃ r l, y = ix2 r l := ⟨y 0, y 1, by funext a; fin_cases a <;> rfl⟩
  exact (SamplePay.stream_at a7 a8 a1 a6 a0 a2 a3 a4 a5 r l).trans (SampleRef.term_at a0 a1 a2 a3 a4 a5 a6 a7 a8 r l).symm

/-- The rows the keys, the values and the gates are projected from. -/
theorem kept_eq : k0_pay35 (F := Ideal) a0 a1 a2 a3 a4 a5 a6 a7 a8 a9 a10 a11 a12 a13 a14 a15
    = truncf .bf16 (SamplePay.norm (SampleRef.term a0 a1 a2 a3 a4 a5 a6 a7 a8) a9) bitsLt_bf16_f32 := by
  unfold k0_pay35
  rw [show View.ld (Val := Elt Ideal) (e' := .f32) a3 r0_1 = a3 from View.ld_unit_zero (Val := Elt Ideal) (e := .f32) (S := S1x1024) zero2 _ a3, show View.ld (Val := Elt Ideal) (e' := .bf16) a7 r0_47 = a7 from View.ld_unit_zero (Val := Elt Ideal) (e := .bf16) (S := S1024x5632) zero2 _ a7,
    show View.ld (Val := Elt Ideal) (e' := .bf16) a8 r0_48 = a8 from View.ld_unit_zero (Val := Elt Ideal) (e := .bf16) (S := S2816x1024) zero2 _ a8, show View.ld (Val := Elt Ideal) (e' := .f32) a9 r0_1 = a9 from View.ld_unit_zero (Val := Elt Ideal) (e := .f32) (S := S1x1024) zero2 _ a9, SamplePay.pay28_eq, stream_eq]

theorem out16 : G16 (F := Ideal) a0 a1 a2 a3 a4 a5 a6 a7 a8 a9 a10 a11 a12 a13 a14 a15 = SampleRef.term a0 a1 a2 a3 a4 a5 a6 a7 a8 := stream_eq a0 a1 a2 a3 a4 a5 a6 a7 a8 a9 a10 a11 a12 a13 a14 a15

theorem out17 : G17 (F := Ideal) a0 a1 a2 a3 a4 a5 a6 a7 a8 a9 a10 a11 a12 a13 a14 a15 = SampleRef.state a0 a1 a2 := by
  funext y
  refine View.canon_apply_of_pieces (Val := Elt Ideal) (S := S15x32x1024) (e := .f32) (SampleRef.state a0 a1 a2) _ (fun p hp => ?_) y ?_
  · simp only [List.mem_cons, List.not_mem_nil, or_false] at hp
    rcases hp with rfl | rfl | rfl | rfl | rfl | rfl | rfl | rfl | rfl | rfl | rfl | rfl | rfl | rfl | rfl <;> intro x
    · refine Eq.trans ?_ (new_at a0 a1 a2 inb_S15x32x1024_S1x32x1024_14_0_0 x)
      show (k0_pay17 (F := Ideal) (k0_pay33 a0 a1 a2 a3 a4 a5 a6 a7 a8 a9 a10 a11 a12 a13 a14 a15) x : EReal) = _
      rw [normed]
    · exact moved_at a0 a1 a2 13 (by omega) inb_S15x32x1024_S1x32x1024_14_0_0 inb_S15x32x1024_S1x32x1024_13_0_0 x
    · exact moved_at a0 a1 a2 12 (by omega) inb_S15x32x1024_S1x32x1024_13_0_0 inb_S15x32x1024_S1x32x1024_12_0_0 x
    · exact moved_at a0 a1 a2 11 (by omega) inb_S15x32x1024_S1x32x1024_12_0_0 inb_S15x32x1024_S1x32x1024_11_0_0 x
    · exact moved_at a0 a1 a2 10 (by omega) inb_S15x32x1024_S1x32x1024_11_0_0 inb_S15x32x1024_S1x32x1024_10_0_0 x
    · exact moved_at a0 a1 a2 9 (by omega) inb_S15x32x1024_S1x32x1024_10_0_0 inb_S15x32x1024_S1x32x1024_9_0_0 x
    · exact moved_at a0 a1 a2 8 (by omega) inb_S15x32x1024_S1x32x1024_9_0_0 inb_S15x32x1024_S1x32x1024_8_0_0 x
    · exact moved_at a0 a1 a2 7 (by omega) inb_S15x32x1024_S1x32x1024_8_0_0 inb_S15x32x1024_S1x32x1024_7_0_0 x
    · exact moved_at a0 a1 a2 6 (by omega) inb_S15x32x1024_S1x32x1024_7_0_0 inb_S15x32x1024_S1x32x1024_6_0_0 x
    · exact moved_at a0 a1 a2 5 (by omega) inb_S15x32x1024_S1x32x1024_6_0_0 inb_S15x32x1024_S1x32x1024_5_0_0 x
    · exact moved_at a0 a1 a2 4 (by omega) inb_S15x32x1024_S1x32x1024_5_0_0 inb_S15x32x1024_S1x32x1024_4_0_0 x
    · exact moved_at a0 a1 a2 3 (by omega) inb_S15x32x1024_S1x32x1024_4_0_0 inb_S15x32x1024_S1x32x1024_3_0_0 x
    · exact moved_at a0 a1 a2 2 (by omega) inb_S15x32x1024_S1x32x1024_3_0_0 inb_S15x32x1024_S1x32x1024_2_0_0 x
    · exact moved_at a0 a1 a2 1 (by omega) inb_S15x32x1024_S1x32x1024_2_0_0 inb_S15x32x1024_S1x32x1024_1_0_0 x
    · exact moved_at a0 a1 a2 0 (by omega) inb_S15x32x1024_S1x32x1024_1_0_0 inb_S15x32x1024_S1x32x1024_0_0_0 x
  · have hy : (y 0).val < 15 := (y 0).isLt
    obtain h | h | h | h | h | h | h | h | h | h | h | h | h | h | h : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 := by omega
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), in_row 0 inb_S15x32x1024_S1x32x1024_0_0_0 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), in_row 1 inb_S15x32x1024_S1x32x1024_1_0_0 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), in_row 2 inb_S15x32x1024_S1x32x1024_2_0_0 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), in_row 3 inb_S15x32x1024_S1x32x1024_3_0_0 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), in_row 4 inb_S15x32x1024_S1x32x1024_4_0_0 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), in_row 5 inb_S15x32x1024_S1x32x1024_5_0_0 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), in_row 6 inb_S15x32x1024_S1x32x1024_6_0_0 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), in_row 7 inb_S15x32x1024_S1x32x1024_7_0_0 y h⟩
    · exact ⟨_, List.mem_cons_of_mem _ (List.mem_cons_of_mem _ (List.mem_cons_of_mem _ (List.mem_cons_of_mem _ (List.mem_cons_of_mem _ (List.mem_cons_of_mem _ (List.mem_cons_self)))))), in_row 8 inb_S15x32x1024_S1x32x1024_8_0_0 y h⟩
    · exact ⟨_, List.mem_cons_of_mem _ (List.mem_cons_of_mem _ (List.mem_cons_of_mem _ (List.mem_cons_of_mem _ (List.mem_cons_of_mem _ (List.mem_cons_self))))), in_row 9 inb_S15x32x1024_S1x32x1024_9_0_0 y h⟩
    · exact ⟨_, List.mem_cons_of_mem _ (List.mem_cons_of_mem _ (List.mem_cons_of_mem _ (List.mem_cons_of_mem _ (List.mem_cons_self)))), in_row 10 inb_S15x32x1024_S1x32x1024_10_0_0 y h⟩
    · exact ⟨_, List.mem_cons_of_mem _ (List.mem_cons_of_mem _ (List.mem_cons_of_mem _ (List.mem_cons_self))), in_row 11 inb_S15x32x1024_S1x32x1024_11_0_0 y h⟩
    · exact ⟨_, List.mem_cons_of_mem _ (List.mem_cons_of_mem _ (List.mem_cons_self)), in_row 12 inb_S15x32x1024_S1x32x1024_12_0_0 y h⟩
    · exact ⟨_, List.mem_cons_of_mem _ (List.mem_cons_self), in_row 13 inb_S15x32x1024_S1x32x1024_13_0_0 y h⟩
    · exact ⟨_, List.mem_cons_self, in_row 14 inb_S15x32x1024_S1x32x1024_14_0_0 y h⟩

theorem out18 : G18 (F := Ideal) a0 a1 a2 a3 a4 a5 a6 a7 a8 a9 a10 a11 a12 a13 a14 a15 = SampleRef.proj (SampleRef.term a0 a1 a2 a3 a4 a5 a6 a7 a8) a9 a12 := by
  show k0_pay29 (F := Ideal) (k0_pay35 a0 a1 a2 a3 a4 a5 a6 a7 a8 a9 a10 a11 a12 a13 a14 a15) a12 (constant S32x1024 .f32 0x00000000#32) = _
  rw [kept_eq]
  funext y
  obtain ⟨r, l, rfl⟩ : ∃ r l, y = ix2 r l := ⟨y 0, y 1, by funext a; fin_cases a <;> rfl⟩
  exact (SamplePay.key_at _ a9 a12 r l).trans (SampleRef.proj_at _ a9 a12 r l).symm

theorem out19 : G19 (F := Ideal) a0 a1 a2 a3 a4 a5 a6 a7 a8 a9 a10 a11 a12 a13 a14 a15 = SampleRef.proj (SampleRef.term a0 a1 a2 a3 a4 a5 a6 a7 a8) a9 a13 := by
  show k0_pay30 (F := Ideal) (k0_pay35 a0 a1 a2 a3 a4 a5 a6 a7 a8 a9 a10 a11 a12 a13 a14 a15) a13 = _
  rw [kept_eq]
  funext y
  obtain ⟨r, l, rfl⟩ : ∃ r l, y = ix2 r l := ⟨y 0, y 1, by funext a; fin_cases a <;> rfl⟩
  exact (SamplePay.val_at _ a9 a13 r l).trans (SampleRef.proj_at _ a9 a13 r l).symm

theorem out20 : G20 (F := Ideal) a0 a1 a2 a3 a4 a5 a6 a7 a8 a9 a10 a11 a12 a13 a14 a15
    = SampleRef.logsig (SampleRef.pre (SampleRef.term a0 a1 a2 a3 a4 a5 a6 a7 a8) a9 a11 a14) := by
  show k0_pay31 (F := Ideal) (k0_pay35 a0 a1 a2 a3 a4 a5 a6 a7 a8 a9 a10 a11 a12 a13 a14 a15) a14 a11 = _
  rw [kept_eq]
  funext y
  obtain ⟨r, l, rfl⟩ : ∃ r l, y = ix2 r l := ⟨y 0, y 1, by funext a; fin_cases a <;> rfl⟩
  refine (SamplePay.gate_at _ a9 a14 a11 r l).trans ?_
  rw [← SampleRef.pre_at _ a9 a11 a14 r l]
  exact (SampleRef.logsig_at _ r l).symm

theorem out21 : G21 (F := Ideal) a0 a1 a2 a3 a4 a5 a6 a7 a8 a9 a10 a11 a12 a13 a14 a15 = SampleRef.proj (SampleRef.term a0 a1 a2 a3 a4 a5 a6 a7 a8) a10 a15 := by
  show k0_pay1 (F := Ideal) (k0_pay32 (k0_pay27 (k0_pay34 a0 a1 a2 a3 a4 a5 a6 a7 a8 a9 a10 a11 a12 a13 a14 a15) a3 a7 a8) a10) a15 = _
  rw [stream_eq, SamplePay.pay32_eq]
  funext y
  obtain ⟨r, l, rfl⟩ : ∃ r l, y = ix2 r l := ⟨y 0, y 1, by funext a; fin_cases a <;> rfl⟩
  exact (SamplePay.query_at _ a10 a15 r l).trans (SampleRef.proj_at _ a10 a15 r l).symm
end

end Cert.Proof.SampleValue

end
-- ==== Proof.SampleEq.lean ====
/-
  The decoding step's first call: the kernel's run and the reference's run leave the same six arrays.
-/
module

public import proofs.«01_k».proof.Defs
public import proofs.«01_k».proof.Proof.SampleValue
public import proofs.«01_k».proof.Proof.Gen.SampleIdeal.Frame
public import proofs.«01_k».proof.Proof.Gen.SampleRefIdeal.Run

@[expose] public section

noncomputable section

open Idealize.ShloMosaic Idealize.ShloMosaic.TcCoe Idealize.SL.Sem

namespace Cert.Proof.SampleEq

section
variable (m : (ℓ : Loc Cert.SampleIdeal.nD Cert.SampleIdeal.τ Cert.SampleIdeal.sig) → Buf (Elt Ideal) ℓ) (c : Dev Cert.SampleIdeal.nD)

/-- The stream, from the arguments in memory. -/
def stream : FVec Ideal Cert.SampleRefIdeal.S32x1024 .f32 := SampleRef.term (m ((c.tc : Thread Cert.SampleIdeal.nD Cert.SampleIdeal.τ).loc Cert.SampleIdeal.main_arg0))
  (m ((c.tc : Thread Cert.SampleIdeal.nD Cert.SampleIdeal.τ).loc Cert.SampleIdeal.main_arg1))
  (m ((c.tc : Thread Cert.SampleIdeal.nD Cert.SampleIdeal.τ).loc Cert.SampleIdeal.main_arg2))
  (m ((c.tc : Thread Cert.SampleIdeal.nD Cert.SampleIdeal.τ).loc Cert.SampleIdeal.main_arg3))
  (m ((c.tc : Thread Cert.SampleIdeal.nD Cert.SampleIdeal.τ).loc Cert.SampleIdeal.main_arg4))
  (m ((c.tc : Thread Cert.SampleIdeal.nD Cert.SampleIdeal.τ).loc Cert.SampleIdeal.main_arg5))
  (m ((c.tc : Thread Cert.SampleIdeal.nD Cert.SampleIdeal.τ).loc Cert.SampleIdeal.main_arg6))
  (m ((c.tc : Thread Cert.SampleIdeal.nD Cert.SampleIdeal.τ).loc Cert.SampleIdeal.main_arg7))
  (m ((c.tc : Thread Cert.SampleIdeal.nD Cert.SampleIdeal.τ).loc Cert.SampleIdeal.main_arg8))

/-- The pool state. -/
def state : FVec Ideal Cert.SampleRefIdeal.S15x32x1024 .f32 := SampleRef.state (m ((c.tc : Thread Cert.SampleIdeal.nD Cert.SampleIdeal.τ).loc Cert.SampleIdeal.main_arg0))
  (m ((c.tc : Thread Cert.SampleIdeal.nD Cert.SampleIdeal.τ).loc Cert.SampleIdeal.main_arg1))
  (m ((c.tc : Thread Cert.SampleIdeal.nD Cert.SampleIdeal.τ).loc Cert.SampleIdeal.main_arg2))

/-- The keys. -/
def keys : FVec Ideal Cert.SampleRefIdeal.S32x1024 .f32 := SampleRef.proj (stream m c)
  (m ((c.tc : Thread Cert.SampleIdeal.nD Cert.SampleIdeal.τ).loc Cert.SampleIdeal.main_arg9))
  (m ((c.tc : Thread Cert.SampleIdeal.nD Cert.SampleIdeal.τ).loc Cert.SampleIdeal.main_arg12))

/-- The values. -/
def vals : FVec Ideal Cert.SampleRefIdeal.S32x1024 .f32 := SampleRef.proj (stream m c)
  (m ((c.tc : Thread Cert.SampleIdeal.nD Cert.SampleIdeal.τ).loc Cert.SampleIdeal.main_arg9))
  (m ((c.tc : Thread Cert.SampleIdeal.nD Cert.SampleIdeal.τ).loc Cert.SampleIdeal.main_arg13))

/-- The log-forget gates. -/
def gates : FVec Ideal Cert.SampleRefIdeal.S32x128 .f32 := SampleRef.logsig (SampleRef.pre (stream m c)
  (m ((c.tc : Thread Cert.SampleIdeal.nD Cert.SampleIdeal.τ).loc Cert.SampleIdeal.main_arg9))
  (m ((c.tc : Thread Cert.SampleIdeal.nD Cert.SampleIdeal.τ).loc Cert.SampleIdeal.main_arg11))
  (m ((c.tc : Thread Cert.SampleIdeal.nD Cert.SampleIdeal.τ).loc Cert.SampleIdeal.main_arg14)))

/-- The queries. -/
def queries : FVec Ideal Cert.SampleRefIdeal.S32x1024 .f32 := SampleRef.proj (stream m c)
  (m ((c.tc : Thread Cert.SampleIdeal.nD Cert.SampleIdeal.τ).loc Cert.SampleIdeal.main_arg10))
  (m ((c.tc : Thread Cert.SampleIdeal.nD Cert.SampleIdeal.τ).loc Cert.SampleIdeal.main_arg15))
end

/-- From memories agreeing on the arguments, the kernel and its reference end with equal results. -/
theorem algebraic : Cert.algebraic_SampleIdeal_SampleRefIdeal := by
  intro m ρ m' ρ' _ hag
  refine ⟨stream m, state m, keys m, vals m, gates m, queries m, ?_, ?_⟩
  · refine (θ_run _ _ _).mono (fun _ h c => ?_) (Cert.SampleIdeal.Value.run m ρ)
    obtain ⟨h0, h1, h2, h3, h4, h5, h6⟩ := h c
    exact ⟨h0.trans (SampleValue.out16 _ _ _ _ _ _ _ _ _ _ _ _ _ _ _ _), h1.trans (SampleValue.out17 _ _ _ _ _ _ _ _ _ _ _ _ _ _ _ _),
      h2.trans (SampleValue.out18 _ _ _ _ _ _ _ _ _ _ _ _ _ _ _ _), h3.trans (SampleValue.out19 _ _ _ _ _ _ _ _ _ _ _ _ _ _ _ _),
      h4.trans (SampleValue.out20 _ _ _ _ _ _ _ _ _ _ _ _ _ _ _ _), h5.trans (SampleValue.out21 _ _ _ _ _ _ _ _ _ _ _ _ _ _ _ _), h6⟩
  · refine (θ_run _ _ _).mono (fun _ h c => ?_) (Cert.SampleRefIdeal.Value.run m' ρ')
    obtain ⟨g0, g1, g2, g3, g4, g5, g6⟩ := h c
    obtain ⟨h0, h1, h2, h3, h4, h5, h6, h7, h8, h9, h10, h11, h12, h13, h14, h15⟩ := hag c
    have hs : Cert.SampleRefIdeal.Value.res_main_v95 (F := Ideal) (StableHlo.launchContents m' c) = stream m c := by
      unfold stream
      rw [← h0, ← h1, ← h2, ← h3, ← h4, ← h5, ← h6, ← h7, ← h8]
      exact SampleRef.term_eq (StableHlo.launchContents m' c)
    refine ⟨g0.trans hs, g1.trans ?_, g2.trans ?_, g3.trans ?_, g4.trans ?_, g5.trans ?_, g6⟩
    · unfold state
      rw [← h0, ← h1, ← h2, SampleRef.norm_eq]
      rfl
    · unfold keys
      rw [← h9, ← h12, SampleRef.kept_eq, hs]
      rfl
    · unfold vals
      rw [← h9, ← h13, SampleRef.kept_eq, hs]
      rfl
    · unfold gates Cert.SampleRefIdeal.Value.res_main_call1_call0_v3
      rw [← h9, ← h11, ← h14, SampleRef.pre_eq, hs]
      rfl
    · unfold queries
      rw [← h10, ← h15, hs]
      rfl

end Cert.Proof.SampleEq

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Kvq
public import proofs.«01_k».proof.Proof.Gen.KvqIdeal
public import proofs.«01_k».proof.Proof.Gen.Kvq.Skeleton
public import proofs.«01_k».proof.Proof.Gen.KvqIdeal.Skeleton
public import proofs.«01_k».proof.Proof.Gen.Kvq.Launch
public import proofs.«01_k».proof.Proof.Gen.KvqIdeal.Launch
public import proofs.«01_k».proof.Proof.Gen.Kvq.Points
public import proofs.«01_k».proof.Proof.Gen.KvqIdeal.Points
public import proofs.«01_k».proof.Proof.Gen.Kvq.Frame
public import proofs.«01_k».proof.Proof.Gen.KvqIdeal.Frame
public import proofs.«01_k».proof.Proof.Gen.KvqRefIdeal
public import proofs.«01_k».proof.Proof.Gen.LayerZero
public import proofs.«01_k».proof.Proof.Gen.LayerZeroIdeal
public import proofs.«01_k».proof.Proof.Gen.LayerZero.Skeleton
public import proofs.«01_k».proof.Proof.Gen.LayerZeroIdeal.Skeleton
public import proofs.«01_k».proof.Proof.Gen.LayerZero.Launch
public import proofs.«01_k».proof.Proof.Gen.LayerZeroIdeal.Launch
public import proofs.«01_k».proof.Proof.Gen.LayerZero.Points
public import proofs.«01_k».proof.Proof.Gen.LayerZeroIdeal.Points
public import proofs.«01_k».proof.Proof.Gen.LayerZero.Frame
public import proofs.«01_k».proof.Proof.Gen.LayerZeroIdeal.Frame
public import proofs.«01_k».proof.Proof.Gen.LayerZeroRefIdeal
public import proofs.«01_k».proof.Proof.Gen.LayerZeroIdeal.Value
public import proofs.«01_k».proof.Proof.Gen.LayerZeroRefIdeal.Run
public import proofs.«01_k».proof.Proof.Gen.Sample
public import proofs.«01_k».proof.Proof.Gen.SampleIdeal
public import proofs.«01_k».proof.Proof.Gen.Sample.Skeleton
public import proofs.«01_k».proof.Proof.Gen.SampleIdeal.Skeleton
public import proofs.«01_k».proof.Proof.Gen.Sample.Launch
public import proofs.«01_k».proof.Proof.Gen.SampleIdeal.Launch
public import proofs.«01_k».proof.Proof.Gen.Sample.Points
public import proofs.«01_k».proof.Proof.Gen.SampleIdeal.Points
public import proofs.«01_k».proof.Proof.Gen.Sample.Frame
public import proofs.«01_k».proof.Proof.Gen.SampleIdeal.Frame
public import proofs.«01_k».proof.Proof.Gen.SampleRefIdeal
public import proofs.«01_k».proof.Proof.Gen.SampleIdeal.Value
public import proofs.«01_k».proof.Proof.Gen.SampleRefIdeal.Run
public import proofs.«01_k».proof.Proof.PostEq
public import proofs.«01_k».proof.Proof.LayerZeroEq
public import proofs.«01_k».proof.Proof.KvqEq
public import proofs.«01_k».proof.Proof.AttnEq
public import proofs.«01_k».proof.Proof.SampleEq
public import proofs.«01_k».proof.Proof.Gen.AttnIdeal.Value
public import proofs.«01_k».proof.Proof.Gen.FoxIdeal.Run
public import proofs.«01_k».proof.Proof.Gen.PostIdeal.Value
public import proofs.«01_k».proof.Proof.Gen.KvqIdeal.Value
public import proofs.«01_k».proof.Proof.Gen.KvqRefIdeal.Run
public import proofs.«01_k».proof.Proof.Gen.PostRefIdeal.Run
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The frames are the generated ones, nothing was rewritten, and the value equations are those of the modules imported. -/
theorem claim : Cert.Claim := ⟨Cert.Attn.Gen.facts, Cert.AttnIdeal.Gen.facts, Cert.FoxIdeal.Gen.facts, Cert.Post.Gen.facts, Cert.PostIdeal.Gen.facts, Cert.PostRefIdeal.Gen.facts,
  Cert.LayerZero.Gen.facts, Cert.LayerZeroIdeal.Gen.facts, Cert.LayerZeroRefIdeal.Gen.facts,
  Cert.Kvq.Gen.facts, Cert.KvqIdeal.Gen.facts, Cert.KvqRefIdeal.Gen.facts,
  Cert.Sample.Gen.facts, Cert.SampleIdeal.Gen.facts, Cert.SampleRefIdeal.Gen.facts, AttnPre.facts,
  fun m ρ _ => Cert.Attn.Gen.frame m ρ, fun m ρ _ => Cert.AttnIdeal.Gen.frame m ρ, fun m ρ _ => Cert.AttnIdeal.Gen.frame m ρ,
  fun m ρ _ => (θ_run _ _ _).mono (fun r h => ⟨fun c => (h c).2, sem_eq_zero_of_no_sems rfl r.2⟩) (Cert.FoxIdeal.Value.run m ρ),
  fun m ρ _ => (θ_run _ _ _).mono (fun r h => ⟨fun c => (h c).2, sem_eq_zero_of_no_sems rfl r.2⟩) (Cert.FoxIdeal.Value.run m ρ),
  fun m ρ _ => Cert.Post.Gen.frame m ρ, fun m ρ _ => Cert.PostIdeal.Gen.frame m ρ,
  fun m ρ _ => (θ_run _ _ _).mono (fun r h => ⟨fun c => (h c).2, sem_eq_zero_of_no_sems rfl r.2⟩) (Cert.PostRefIdeal.Value.run m ρ),
  fun m ρ _ => Cert.LayerZero.Gen.frame m ρ, fun m ρ _ => Cert.LayerZeroIdeal.Gen.frame m ρ,
  fun m ρ _ => (θ_run _ _ _).mono (fun r h => ⟨fun c => (h c).2.2, sem_eq_zero_of_no_sems rfl r.2⟩) (Cert.LayerZeroRefIdeal.Value.run m ρ),
  fun m ρ _ => Cert.Kvq.Gen.frame m ρ, fun m ρ _ => Cert.KvqIdeal.Gen.frame m ρ,
  fun m ρ _ => (θ_run _ _ _).mono (fun r h => ⟨fun c => (h c).2.2.2, sem_eq_zero_of_no_sems rfl r.2⟩) (Cert.KvqRefIdeal.Value.run m ρ),
  fun m ρ _ => Cert.Sample.Gen.frame m ρ, fun m ρ _ => Cert.SampleIdeal.Gen.frame m ρ,
  fun m ρ _ => (θ_run _ _ _).mono (fun r h => ⟨fun c => (h c).2.2.2.2.2.2, sem_eq_zero_of_no_sems rfl r.2⟩) (Cert.SampleRefIdeal.Value.run m ρ),
  IdealRules.named_const.statement _ _ _ _ _ rfl, AttnEq.algebraic, trivial, PostEq.algebraic, trivial, LayerZeroEq.algebraic, trivial, KvqEq.algebraic, trivial, SampleEq.algebraic⟩

end Cert.Proof

end
